-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v245)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v245) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v413) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S2x160000 : Shape := ⟨2, ![2, 160000]⟩
abbrev S160000 : Shape := ⟨1, ![160000]⟩
abbrev S1x128x400 : Shape := ⟨3, ![1, 128, 400]⟩
abbrev S400 : Shape := ⟨1, ![400]⟩
abbrev S2x128x400 : Shape := ⟨3, ![2, 128, 400]⟩
abbrev S3x128x400 : Shape := ⟨3, ![3, 128, 400]⟩
abbrev S1x1200x100 : Shape := ⟨3, ![1, 1200, 100]⟩
abbrev S100 : Shape := ⟨1, ![100]⟩
abbrev S2x1200x100 : Shape := ⟨3, ![2, 1200, 100]⟩
abbrev S3x1200x100 : Shape := ⟨3, ![3, 1200, 100]⟩
abbrev S1200 : Shape := ⟨1, ![1200]⟩
abbrev S300 : Shape := ⟨1, ![300]⟩
abbrev S300x10 : Shape := ⟨2, ![300, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S160000 : S_.BroadcastsInDim S160000 (![] : Fin 0 → Fin S160000.rank)
  reducesTo_S160000_S_d0 : S160000.ReducesTo [0] S_
  bcast_S_S1x128x400 : S_.BroadcastsInDim S1x128x400 (![] : Fin 0 → Fin S1x128x400.rank)
  reducesTo_S1x128x400_S_d0_1_2 : S1x128x400.ReducesTo [0, 1, 2] S_
  bcast_S_S400 : S_.BroadcastsInDim S400 (![] : Fin 0 → Fin S400.rank)
  reducesTo_S400_S_d0 : S400.ReducesTo [0] S_
  bcast_S_S2x128x400 : S_.BroadcastsInDim S2x128x400 (![] : Fin 0 → Fin S2x128x400.rank)
  reducesTo_S2x128x400_S_d0_1_2 : S2x128x400.ReducesTo [0, 1, 2] S_
  bcast_S_S3x128x400 : S_.BroadcastsInDim S3x128x400 (![] : Fin 0 → Fin S3x128x400.rank)
  reducesTo_S3x128x400_S_d0_1_2 : S3x128x400.ReducesTo [0, 1, 2] S_
  bcast_S_S1x1200x100 : S_.BroadcastsInDim S1x1200x100 (![] : Fin 0 → Fin S1x1200x100.rank)
  reducesTo_S1x1200x100_S_d0_1_2 : S1x1200x100.ReducesTo [0, 1, 2] S_
  bcast_S_S100 : S_.BroadcastsInDim S100 (![] : Fin 0 → Fin S100.rank)
  reducesTo_S100_S_d0 : S100.ReducesTo [0] S_
  bcast_S_S2x1200x100 : S_.BroadcastsInDim S2x1200x100 (![] : Fin 0 → Fin S2x1200x100.rank)
  reducesTo_S2x1200x100_S_d0_1_2 : S2x1200x100.ReducesTo [0, 1, 2] S_
  bcast_S_S3x1200x100 : S_.BroadcastsInDim S3x1200x100 (![] : Fin 0 → Fin S3x1200x100.rank)
  reducesTo_S3x1200x100_S_d0_1_2 : S3x1200x100.ReducesTo [0, 1, 2] S_
  bcast_S_S1200 : S_.BroadcastsInDim S1200 (![] : Fin 0 → Fin S1200.rank)
  reducesTo_S1200_S_d0 : S1200.ReducesTo [0] S_
  bcast_S_S300 : S_.BroadcastsInDim S300 (![] : Fin 0 → Fin S300.rank)
  reducesTo_S300_S_d0 : S300.ReducesTo [0] S_
  bcast_S_S300x10 : S_.BroadcastsInDim S300x10 (![] : Fin 0 → Fin S300x10.rank)
  reducesTo_S300x10_S_d0_1 : S300x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg19 : FVec F S300x10 .f32) (main_arg20 : FVec F S10 .f32) (main_v83 : IVec S_ 1) (main_v84 : FVec F S300 .f32) (main_cst_32 : FVec F S_ .f32) : IVec S_ 1 :=
  let main_v85 : FVec F S300 .f32 := broadcastInDim S300 ![] bcast_S_S300 main_cst_32
  let main_v86 : IVec S300 1 := cmpf .olt main_v84 main_v85
  let main_c_33 : IVec S_ 1 := constantI S_ 1 1#1
  let main_v87 : IVec S_ 1 := (fun x v => Host.reduce IntOp.andi x v reducesTo_S300_S_d0 h_S_) main_v86 main_c_33
  let main_v88 : IVec S_ 1 := andi main_v83 main_v87
  let main_v89 : FVec F S300x10 .f32 := Host.absf main_arg19
  let main_cst_34 : FVec F S_ .f32 := constant S_ .f32 0x7F800000#32
  let main_v90 : FVec F S300x10 .f32 := broadcastInDim S300x10 ![] bcast_S_S300x10 main_cst_34
  let main_v91 : IVec S300x10 1 := cmpf .olt main_v89 main_v90
  let main_c_35 : IVec S_ 1 := constantI S_ 1 1#1
  let main_v92 : IVec S_ 1 := (fun x v => Host.reduce IntOp.andi x v reducesTo_S300x10_S_d0_1 h_S_) main_v91 main_c_35
  let main_v93 : IVec S_ 1 := andi main_v88 main_v92
  let main_v94 : FVec F S10 .f32 := Host.absf main_arg20
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  main_v98

def fn_part4 {F : FTy → Type} [FloatOps F] (main_arg15 : FVec F S1200 .f32) (main_arg16 : FVec F S1200 .f32) (main_arg17 : FVec F S300 .f32) (main_arg18 : FVec F S300 .f32) (main_arg19 : FVec F S300x10 .f32) (main_arg20 : FVec F S10 .f32) (main_v63 : IVec S_ 1) (main_v67 : IVec S_ 1) : IVec S_ 1 :=
  let main_v68 : IVec S_ 1 := andi main_v63 main_v67
  let main_v69 : FVec F S1200 .f32 := Host.absf main_arg15
  let main_cst_26 : FVec F S_ .f32 := constant S_ .f32 0x7F800000#32
  let main_v70 : FVec F S1200 .f32 := broadcastInDim S1200 ![] bcast_S_S1200 main_cst_26
  let main_v71 : IVec S1200 1 := cmpf .olt main_v69 main_v70
  let main_c_27 : IVec S_ 1 := constantI S_ 1 1#1
  let main_v72 : IVec S_ 1 := (fun x v => Host.reduce IntOp.andi x v reducesTo_S1200_S_d0 h_S_) main_v71 main_c_27
  let main_v73 : IVec S_ 1 := andi main_v68 main_v72
  let main_v74 : FVec F S1200 .f32 := Host.absf main_arg16
  let main_cst_28 : FVec F S_ .f32 := constant S_ .f32 0x7F800000#32
  let main_v75 : FVec F S1200 .f32 := broadcastInDim S1200 ![] bcast_S_S1200 main_cst_28
  let main_v76 : IVec S1200 1 := cmpf .olt main_v74 main_v75
  let main_c_29 : IVec S_ 1 := constantI S_ 1 1#1
  let main_v77 : IVec S_ 1 := (fun x v => Host.reduce IntOp.andi x v reducesTo_S1200_S_d0 h_S_) main_v76 main_c_29
  let main_v78 : IVec S_ 1 := andi main_v73 main_v77
  let main_v79 : FVec F S300 .f32 := Host.absf main_arg17
  let main_cst_30 : FVec F S_ .f32 := constant S_ .f32 0x7F800000#32
  let main_v80 : FVec F S300 .f32 := broadcastInDim S300 ![] bcast_S_S300 main_cst_30
  let main_v81 : IVec S300 1 := cmpf .olt main_v79 main_v80
  let main_c_31 : IVec S_ 1 := constantI S_ 1 1#1
  let main_v82 : IVec S_ 1 := (fun x v => Host.reduce IntOp.andi x v reducesTo_S300_S_d0 h_S_) main_v81 main_c_31
  let main_v83 : IVec S_ 1 := andi main_v78 main_v82
  let main_v84 : FVec F S300 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S100 .f32) (main_arg13 : FVec F S3x1200x100 .f32) (main_arg14 : FVec F S100 .f32) (main_arg15 : FVec F S1200 .f32) (main_arg16 : FVec F S1200 .f32) (main_arg17 : FVec F S300 .f32) (main_arg18 : FVec F S300 .f32) (main_arg19 : FVec F S300x10 .f32) (main_arg20 : FVec F S10 .f32) (main_v48 : IVec S_ 1) (main_v49 : FVec F S2x1200x100 .f32) (main_v50 : FVec F S2x1200x100 .f32) : IVec S_ 1 :=
  let main_v51 : IVec S2x1200x100 1 := cmpf .olt main_v49 main_v50
  let main_c_19 : IVec S_ 1 := constantI S_ 1 1#1
  let main_v52 : IVec S_ 1 := (fun x v => Host.reduce IntOp.andi x v reducesTo_S2x1200x100_S_d0_1_2 h_S_) main_v51 main_c_19
  let main_v53 : IVec S_ 1 := andi main_v48 main_v52
  let main_v54 : FVec F S100 .f32 := Host.absf main_arg12
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S3x1200x100 .f32 := Host.absf main_arg13
  let main_cst_22 : FVec F S_ .f32 := constant S_ .f32 0x7F800000#32
  let main_v60 : FVec F S3x1200x100 .f32 := broadcastInDim S3x1200x100 ![] bcast_S_S3x1200x100 main_cst_22
  let main_v61 : IVec S3x1200x100 1 := cmpf .olt main_v59 main_v60
  let main_c_23 : IVec S_ 1 := constantI S_ 1 1#1
  let main_v62 : IVec S_ 1 := (fun x v => Host.reduce IntOp.andi x v reducesTo_S3x1200x100_S_d0_1_2 h_S_) main_v61 main_c_23
  let main_v63 : IVec S_ 1 := andi main_v58 main_v62
  let main_v64 : FVec F S100 .f32 := Host.absf main_arg14
  let main_cst_24 : FVec F S_ .f32 := constant S_ .f32 0x7F800000#32
  let main_v65 : FVec F S100 .f32 := broadcastInDim S100 ![] bcast_S_S100 main_cst_24
  let main_v66 : IVec S100 1 := cmpf .olt main_v64 main_v65
  let main_c_25 : IVec S_ 1 := constantI S_ 1 1#1
  let main_v67 : IVec S_ 1 := (fun x v => Host.reduce IntOp.andi x v reducesTo_S100_S_d0 h_S_) main_v66 main_c_25
  fn_part4 (F := F) main_arg15 main_arg16 main_arg17 main_arg18 main_arg19 main_arg20 main_v63 main_v67

def fn_part2 {F : FTy → Type} [FloatOps F] (main_arg8 : FVec F S400 .f32) (main_arg9 : FVec F S1x1200x100 .f32) (main_arg10 : FVec F S100 .f32) (main_arg11 : FVec F S2x1200x100 .f32) (main_arg12 : FVec F S100 .f32) (main_arg13 : FVec F S3x1200x100 .f32) (main_arg14 : FVec F S100 .f32) (main_arg15 : FVec F S1200 .f32) (main_arg16 : FVec F S1200 .f32) (main_arg17 : FVec F S300 .f32) (main_arg18 : FVec F S300 .f32) (main_arg19 : FVec F S300x10 .f32) (main_arg20 : FVec F S10 .f32) (main_v33 : IVec S_ 1) : IVec S_ 1 :=
  let main_v34 : FVec F S400 .f32 := Host.absf main_arg8
  let main_cst_12 : FVec F S_ .f32 := constant S_ .f32 0x7F800000#32
  let main_v35 : FVec F S400 .f32 := broadcastInDim S400 ![] bcast_S_S400 main_cst_12
  let main_v36 : IVec S400 1 := cmpf .olt main_v34 main_v35
  let main_c_13 : IVec S_ 1 := constantI S_ 1 1#1
  let main_v37 : IVec S_ 1 := (fun x v => Host.reduce IntOp.andi x v reducesTo_S400_S_d0 h_S_) main_v36 main_c_13
  let main_v38 : IVec S_ 1 := andi main_v33 main_v37
  let main_v39 : FVec F S1x1200x100 .f32 := Host.absf main_arg9
  let main_cst_14 : FVec F S_ .f32 := constant S_ .f32 0x7F800000#32
  let main_v40 : FVec F S1x1200x100 .f32 := broadcastInDim S1x1200x100 ![] bcast_S_S1x1200x100 main_cst_14
  let main_v41 : IVec S1x1200x100 1 := cmpf .olt main_v39 main_v40
  let main_c_15 : IVec S_ 1 := constantI S_ 1 1#1
  let main_v42 : IVec S_ 1 := (fun x v => Host.reduce IntOp.andi x v reducesTo_S1x1200x100_S_d0_1_2 h_S_) main_v41 main_c_15
  let main_v43 : IVec S_ 1 := andi main_v38 main_v42
  let main_v44 : FVec F S100 .f32 := Host.absf main_arg10
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S2x1200x100 .f32 := Host.absf main_arg11
  let main_cst_18 : FVec F S_ .f32 := constant S_ .f32 0x7F800000#32
  let main_v50 : FVec F S2x1200x100 .f32 := broadcastInDim S2x1200x100 ![] bcast_S_S2x1200x100 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S2x128x400 .f32) (main_arg6 : FVec F S400 .f32) (main_arg7 : FVec F S3x128x400 .f32) (main_arg8 : FVec F S400 .f32) (main_arg9 : FVec F S1x1200x100 .f32) (main_arg10 : FVec F S100 .f32) (main_arg11 : FVec F S2x1200x100 .f32) (main_arg12 : FVec F S100 .f32) (main_arg13 : FVec F S3x1200x100 .f32) (main_arg14 : FVec F S100 .f32) (main_arg15 : FVec F S1200 .f32) (main_arg16 : FVec F S1200 .f32) (main_arg17 : FVec F S300 .f32) (main_arg18 : FVec F S300 .f32) (main_arg19 : FVec F S300x10 .f32) (main_arg20 : FVec F S10 .f32) (main_v13 : IVec S_ 1) (main_v16 : IVec S400 1) : IVec S_ 1 :=
  let main_c_5 : IVec S_ 1 := constantI S_ 1 1#1
  let main_v17 : IVec S_ 1 := (fun x v => Host.reduce IntOp.andi x v reducesTo_S400_S_d0 h_S_) main_v16 main_c_5
  let main_v18 : IVec S_ 1 := andi main_v13 main_v17
  let main_v19 : FVec F S2x128x400 .f32 := Host.absf main_arg5
  let main_cst_6 : FVec F S_ .f32 := constant S_ .f32 0x7F800000#32
  let main_v20 : FVec F S2x128x400 .f32 := broadcastInDim S2x128x400 ![] bcast_S_S2x128x400 main_cst_6
  let main_v21 : IVec S2x128x400 1 := cmpf .olt main_v19 main_v20
  let main_c_7 : IVec S_ 1 := constantI S_ 1 1#1
  let main_v22 : IVec S_ 1 := (fun x v => Host.reduce IntOp.andi x v reducesTo_S2x128x400_S_d0_1_2 h_S_) main_v21 main_c_7
  let main_v23 : IVec S_ 1 := andi main_v18 main_v22
  let main_v24 : FVec F S400 .f32 := Host.absf main_arg6
  let main_cst_8 : FVec F S_ .f32 := constant S_ .f32 0x7F800000#32
  let main_v25 : FVec F S400 .f32 := broadcastInDim S400 ![] bcast_S_S400 main_cst_8
  let main_v26 : IVec S400 1 := cmpf .olt main_v24 main_v25
  let main_c_9 : IVec S_ 1 := constantI S_ 1 1#1
  let main_v27 : IVec S_ 1 := (fun x v => Host.reduce IntOp.andi x v reducesTo_S400_S_d0 h_S_) main_v26 main_c_9
  let main_v28 : IVec S_ 1 := andi main_v23 main_v27
  let main_v29 : FVec F S3x128x400 .f32 := Host.absf main_arg7
  let main_cst_10 : FVec F S_ .f32 := constant S_ .f32 0x7F800000#32
  let main_v30 : FVec F S3x128x400 .f32 := broadcastInDim S3x128x400 ![] bcast_S_S3x128x400 main_cst_10
  let main_v31 : IVec S3x128x400 1 := cmpf .olt main_v29 main_v30
  let main_c_11 : IVec S_ 1 := constantI S_ 1 1#1
  let main_v32 : IVec S_ 1 := (fun x v => Host.reduce IntOp.andi x v reducesTo_S3x128x400_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S10000x128 .f32) (main_arg1 : IVec S2x160000 32) (main_arg2 : FVec F S160000 .f32) (main_arg3 : FVec F S1x128x400 .f32) (main_arg4 : FVec F S400 .f32) (main_arg5 : FVec F S2x128x400 .f32) (main_arg6 : FVec F S400 .f32) (main_arg7 : FVec F S3x128x400 .f32) (main_arg8 : FVec F S400 .f32) (main_arg9 : FVec F S1x1200x100 .f32) (main_arg10 : FVec F S100 .f32) (main_arg11 : FVec F S2x1200x100 .f32) (main_arg12 : FVec F S100 .f32) (main_arg13 : FVec F S3x1200x100 .f32) (main_arg14 : FVec F S100 .f32) (main_arg15 : FVec F S1200 .f32) (main_arg16 : FVec F S1200 .f32) (main_arg17 : FVec F S300 .f32) (main_arg18 : FVec F S300 .f32) (main_arg19 : FVec F S300x10 .f32) (main_arg20 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S160000 .f32 := Host.absf main_arg2
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S1x128x400 .f32 := Host.absf main_arg3
  let main_cst_2 : FVec F S_ .f32 := constant S_ .f32 0x7F800000#32
  let main_v10 : FVec F S1x128x400 .f32 := broadcastInDim S1x128x400 ![] bcast_S_S1x128x400 main_cst_2
  let main_v11 : IVec S1x128x400 1 := cmpf .olt main_v9 main_v10
  let main_c_3 : IVec S_ 1 := constantI S_ 1 1#1
  let main_v12 : IVec S_ 1 := (fun x v => Host.reduce IntOp.andi x v reducesTo_S1x128x400_S_d0_1_2 h_S_) main_v11 main_c_3
  let main_v13 : IVec S_ 1 := andi main_v8 main_v12
  let main_v14 : FVec F S400 .f32 := Host.absf main_arg4
  let main_cst_4 : FVec F S_ .f32 := constant S_ .f32 0x7F800000#32
  let main_v15 : FVec F S400 .f32 := broadcastInDim S400 ![] bcast_S_S400 main_cst_4
  let main_v16 : IVec S400 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S10000x128 : Shape := ⟨2, ![10000, 128]⟩
abbrev S2x160000 : Shape := ⟨2, ![2, 160000]⟩
abbrev S160000 : Shape := ⟨1, ![160000]⟩
abbrev S1x128x400 : Shape := ⟨3, ![1, 128, 400]⟩
abbrev S400 : Shape := ⟨1, ![400]⟩
abbrev S2x128x400 : Shape := ⟨3, ![2, 128, 400]⟩
abbrev S3x128x400 : Shape := ⟨3, ![3, 128, 400]⟩
abbrev S1x1200x100 : Shape := ⟨3, ![1, 1200, 100]⟩
abbrev S100 : Shape := ⟨1, ![100]⟩
abbrev S2x1200x100 : Shape := ⟨3, ![2, 1200, 100]⟩
abbrev S3x1200x100 : Shape := ⟨3, ![3, 1200, 100]⟩
abbrev S1200 : Shape := ⟨1, ![1200]⟩
abbrev S300 : Shape := ⟨1, ![300]⟩
abbrev S300x10 : Shape := ⟨2, ![300, 10]⟩
abbrev S10 : Shape := ⟨1, ![10]⟩
abbrev S1x160000 : Shape := ⟨2, ![1, 160000]⟩
abbrev S_ : Shape := ⟨0, ![]⟩
abbrev S10000 : Shape := ⟨1, ![10000]⟩
abbrev S160000x1 : Shape := ⟨2, ![160000, 1]⟩
abbrev S160000x128 : Shape := ⟨2, ![160000, 128]⟩
abbrev S128x400 : Shape := ⟨2, ![128, 400]⟩
abbrev S128x1200 : Shape := ⟨2, ![128, 1200]⟩
abbrev S128x800 : Shape := ⟨2, ![128, 800]⟩
abbrev S10000x1200 : Shape := ⟨2, ![10000, 1200]⟩
abbrev S1x1200 : Shape := ⟨2, ![1, 1200]⟩
abbrev S10000x800 : Shape := ⟨2, ![10000, 800]⟩
abbrev S1 : Shape := ⟨1, ![1]⟩
abbrev S10000x400 : Shape := ⟨2, ![10000, 400]⟩
abbrev S1200x100 : Shape := ⟨2, ![1200, 100]⟩
abbrev S10000x100 : Shape := ⟨2, ![10000, 100]⟩
abbrev S1200x300 : Shape := ⟨2, ![1200, 300]⟩
abbrev S10000x300 : Shape := ⟨2, ![10000, 300]⟩
abbrev S1x300 : Shape := ⟨2, ![1, 300]⟩
abbrev S160000x100 : Shape := ⟨2, ![160000, 100]⟩
abbrev S10000x10 : Shape := ⟨2, ![10000, 10]⟩
abbrev S1000x300 : Shape := ⟨2, ![1000, 300]⟩
abbrev S1000x10 : Shape := ⟨2, ![1000, 10]⟩
abbrev S1x10 : Shape := ⟨2, ![1, 10]⟩
abbrev S1000 : Shape := ⟨1, ![1000]⟩
abbrev S1000x1 : Shape := ⟨2, ![1000, 1]⟩

abbrev nBuf : Space → Nat
  | .hbm => 329
  | .vmem => 6
  | .smem => 0
  | _ => 0

abbrev hbmTy0_0 (i : Nat) : BufTy := match i % 128 with
  | 0 => ⟨S10000x128, .f32⟩
  | 1 => ⟨S2x160000, .i32⟩
  | 2 => ⟨S160000, .f32⟩
  | 3 => ⟨S1x128x400, .f32⟩
  | 4 => ⟨S400, .f32⟩
  | 5 => ⟨S2x128x400, .f32⟩
  | 6 => ⟨S400, .f32⟩
  | 7 => ⟨S3x128x400, .f32⟩
  | 8 => ⟨S400, .f32⟩
  | 9 => ⟨S1x1200x100, .f32⟩
  | 10 => ⟨S100, .f32⟩
  | 11 => ⟨S2x1200x100, .f32⟩
  | 12 => ⟨S100, .f32⟩
  | 13 => ⟨S3x1200x100, .f32⟩
  | 14 => ⟨S100, .f32⟩
  | 15 => ⟨S1200, .f32⟩
  | 16 => ⟨S1200, .f32⟩
  | 17 => ⟨S300, .f32⟩
  | 18 => ⟨S300, .f32⟩
  | 19 => ⟨S300x10, .f32⟩
  | 20 => ⟨S10, .f32⟩
  | 21 => ⟨S1x160000, .i32⟩
  | 22 => ⟨S160000, .i32⟩
  | 23 => ⟨S1x160000, .i32⟩
  | 24 => ⟨S160000, .i32⟩
  | 25 => ⟨S_, .f32⟩
  | 26 => ⟨S10000, .f32⟩
  | 27 => ⟨S_, .i32⟩
  | 28 => ⟨S160000, .i32⟩
  | 29 => ⟨S160000, .i1⟩
  | 30 => ⟨S_, .i32⟩
  | 31 => ⟨S160000, .i32⟩
  | 32 => ⟨S160000, .i32⟩
  | 33 => ⟨S160000, .i32⟩
  | 34 => ⟨S160000x1, .i32⟩
  | 35 => ⟨S10000, .f32⟩
  | 36 => ⟨S_, .f32⟩
  | 37 => ⟨S10000, .f32⟩
  | 38 => ⟨S10000, .i1⟩
  | 39 => ⟨S_, .f32⟩
  | 40 => ⟨S10000, .f32⟩
  | 41 => ⟨S10000, .i1⟩
  | 42 => ⟨S_, .f32⟩
  | 43 => ⟨S_, .f32⟩
  | 44 => ⟨S10000, .f32⟩
  | 45 => ⟨S10000, .f32⟩
  | 46 => ⟨S10000, .f32⟩
  | 47 => ⟨S_, .f32⟩
  | 48 => ⟨S_, .f32⟩
  | 49 => ⟨S10000, .f32⟩
  | 50 => ⟨S10000, .f32⟩
  | 51 => ⟨S_, .i32⟩
  | 52 => ⟨S160000, .i32⟩
  | 53 => ⟨S160000, .i1⟩
  | 54 => ⟨S_, .i32⟩
  | 55 => ⟨S160000, .i32⟩
  | 56 => ⟨S160000, .i32⟩
  | 57 => ⟨S160000, .i32⟩
  | 58 => ⟨S160000x1, .i32⟩
  | 59 => ⟨S160000, .f32⟩
  | 60 => ⟨S160000, .f32⟩
  | 61 => ⟨S160000, .f32⟩
  | 62 => ⟨S_, .i32⟩
  | 63 => ⟨S160000, .i32⟩
  | 64 => ⟨S160000, .i1⟩
  | 65 => ⟨S_, .i32⟩
  | 66 => ⟨S160000, .i32⟩
  | 67 => ⟨S160000, .i32⟩
  | 68 => ⟨S160000, .i32⟩
  | 69 => ⟨S160000x1, .i32⟩
  | 70 => ⟨S160000, .f32⟩
  | 71 => ⟨S160000, .f32⟩
  | 72 => ⟨S_, .f32⟩
  | 73 => ⟨S10000x128, .f32⟩
  | 74 => ⟨S160000x1, .f32⟩
  | 75 => ⟨S_, .i32⟩
  | 76 => ⟨S160000, .i32⟩
  | 77 => ⟨S160000, .i1⟩
  | 78 => ⟨S_, .i32⟩
  | 79 => ⟨S160000, .i32⟩
  | 80 => ⟨S160000, .i32⟩
  | 81 => ⟨S160000, .i32⟩
  | 82 => ⟨S160000x1, .i32⟩
  | 83 => ⟨S160000x128, .f32⟩
  | 84 => ⟨S160000x128, .f32⟩
  | 85 => ⟨S160000x128, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S10000x128, .f32⟩
  | 95 => ⟨S_, .f32⟩
  | 96 => ⟨S10000x128, .f32⟩
  | 97 => ⟨S160000x1, .f32⟩
  | 98 => ⟨S_, .i32⟩
  | 99 => ⟨S160000, .i32⟩
  | 100 => ⟨S160000, .i1⟩
  | 101 => ⟨S_, .i32⟩
  | 102 => ⟨S160000, .i32⟩
  | 103 => ⟨S160000, .i32⟩
  | 104 => ⟨S160000, .i32⟩
  | 105 => ⟨S160000x1, .i32⟩
  | 106 => ⟨S160000x128, .f32⟩
  | 107 => ⟨S160000x128, .f32⟩
  | 108 => ⟨S160000x128, .f32⟩
  | 109 => ⟨S_, .i32⟩
  | 110 => ⟨S160000, .i32⟩
  | 111 => ⟨S160000, .i1⟩
  | 112 => ⟨S_, .i32⟩
  | 113 => ⟨S160000, .i32⟩
  | 114 => ⟨S160000, .i32⟩
  | 115 => ⟨S160000, .i32⟩
  | 116 => ⟨S160000x1, .i32⟩
  | 117 => ⟨S10000x128, .f32⟩
  | 118 => ⟨S128x400, .f32⟩
  | 119 => ⟨S1x128x400, .f32⟩
  | 120 => ⟨S128x400, .f32⟩
  | 121 => ⟨S1x128x400, .f32⟩
  | 122 => ⟨S128x400, .f32⟩
  | 123 => ⟨S1x128x400, .f32⟩
  | 124 => ⟨S128x400, .f32⟩
  | 125 => ⟨S128x400, .f32⟩
  | 126 => ⟨S128x1200, .f32⟩
  | 127 => ⟨S1x128x400, .f32⟩
  | _ => ⟨S10000x128, .f32⟩

abbrev hbmTy0_1 (i : Nat) : BufTy := match i % 128 with
  | 0 => ⟨S128x400, .f32⟩
  | 1 => ⟨S1x128x400, .f32⟩
  | 2 => ⟨S128x400, .f32⟩
  | 3 => ⟨S128x800, .f32⟩
  | 4 => ⟨S1x128x400, .f32⟩
  | 5 => ⟨S128x400, .f32⟩
  | 6 => ⟨S_, .f32⟩
  | 7 => ⟨S128x400, .f32⟩
  | 8 => ⟨S128x400, .f32⟩
  | 9 => ⟨S1200, .f32⟩
  | 10 => ⟨S10000x1200, .f32⟩
  | 11 => ⟨S1x1200, .f32⟩
  | 12 => ⟨S10000x1200, .f32⟩
  | 13 => ⟨S10000x1200, .f32⟩
  | 14 => ⟨S10000x800, .f32⟩
  | 15 => ⟨S_, .i32⟩
  | 16 => ⟨S1, .i32⟩
  | 17 => ⟨S10000x1200, .f32⟩
  | 18 => ⟨S10000x400, .f32⟩
  | 19 => ⟨S_, .i32⟩
  | 20 => ⟨S1, .i32⟩
  | 21 => ⟨S10000x1200, .f32⟩
  | 22 => ⟨S_, .f32⟩
  | 23 => ⟨S1200, .f32⟩
  | 24 => ⟨S_, .f32⟩
  | 25 => ⟨S1200, .f32⟩
  | 26 => ⟨S1200, .f32⟩
  | 27 => ⟨S10000x1200, .f32⟩
  | 28 => ⟨S_, .f32⟩
  | 29 => ⟨S1200, .f32⟩
  | 30 => ⟨S_, .f32⟩
  | 31 => ⟨S1200, .f32⟩
  | 32 => ⟨S1200, .f32⟩
  | 33 => ⟨S1200, .f32⟩
  | 34 => ⟨S1200, .f32⟩
  | 35 => ⟨S_, .f32⟩
  | 36 => ⟨S1200, .f32⟩
  | 37 => ⟨S1200, .f32⟩
  | 38 => ⟨S1200, .f32⟩
  | 39 => ⟨S1200, .f32⟩
  | 40 => ⟨S1200, .f32⟩
  | 41 => ⟨S1200, .f32⟩
  | 42 => ⟨S1x1200, .f32⟩
  | 43 => ⟨S10000x1200, .f32⟩
  | 44 => ⟨S10000x1200, .f32⟩
  | 45 => ⟨S1x1200, .f32⟩
  | 46 => ⟨S10000x1200, .f32⟩
  | 47 => ⟨S10000x1200, .f32⟩
  | 48 => ⟨S_, .f32⟩
  | 49 => ⟨S10000x1200, .f32⟩
  | 50 => ⟨S10000x1200, .f32⟩
  | 51 => ⟨S1x1200x100, .f32⟩
  | 52 => ⟨S1200x100, .f32⟩
  | 53 => ⟨S10000x100, .f32⟩
  | 54 => ⟨S1x1200x100, .f32⟩
  | 55 => ⟨S1200x100, .f32⟩
  | 56 => ⟨S10000x100, .f32⟩
  | 57 => ⟨S1x1200x100, .f32⟩
  | 58 => ⟨S1200x100, .f32⟩
  | 59 => ⟨S10000x100, .f32⟩
  | 60 => ⟨S1200x100, .f32⟩
  | 61 => ⟨S1x1200x100, .f32⟩
  | 62 => ⟨S1200x100, .f32⟩
  | 63 => ⟨S1x1200x100, .f32⟩
  | 64 => ⟨S1200x100, .f32⟩
  | 65 => ⟨S1x1200x100, .f32⟩
  | 66 => ⟨S1200x100, .f32⟩
  | 67 => ⟨S1200x100, .f32⟩
  | 68 => ⟨S1200x300, .f32⟩
  | 69 => ⟨S300, .f32⟩
  | 70 => ⟨S10000x300, .f32⟩
  | 71 => ⟨S1x300, .f32⟩
  | 72 => ⟨S10000x300, .f32⟩
  | 73 => ⟨S10000x300, .f32⟩
  | 74 => ⟨S_, .f32⟩
  | 75 => ⟨S10000x100, .f32⟩
  | 76 => ⟨S160000x1, .f32⟩
  | 77 => ⟨S_, .i32⟩
  | 78 => ⟨S160000, .i32⟩
  | 79 => ⟨S160000, .i1⟩
  | 80 => ⟨S_, .i32⟩
  | 81 => ⟨S160000, .i32⟩
  | 82 => ⟨S160000, .i32⟩
  | 83 => ⟨S160000, .i32⟩
  | 84 => ⟨S160000x1, .i32⟩
  | 85 => ⟨S160000x100, .f32⟩
  | 86 => ⟨S160000x100, .f32⟩
  | 87 => ⟨S160000x100, .f32⟩
  | 88 => ⟨S_, .i32⟩
  | 89 => ⟨S160000, .i32⟩
  | 90 => ⟨S160000, .i1⟩
  | 91 => ⟨S_, .i32⟩
  | 92 => ⟨S160000, .i32⟩
  | 93 => ⟨S160000, .i32⟩
  | 94 => ⟨S160000, .i32⟩
  | 95 => ⟨S160000x1, .i32⟩
  | 96 => ⟨S10000x100, .f32⟩
  | 97 => ⟨S_, .f32⟩
  | 98 => ⟨S10000x100, .f32⟩
  | 99 => ⟨S160000x1, .f32⟩
  | 100 => ⟨S_, .i32⟩
  | 101 => ⟨S160000, .i32⟩
  | 102 => ⟨S160000, .i1⟩
  | 103 => ⟨S_, .i32⟩
  | 104 => ⟨S160000, .i32⟩
  | 105 => ⟨S160000, .i32⟩
  | 106 => ⟨S160000, .i32⟩
  | 107 => ⟨S160000x1, .i32⟩
  | 108 => ⟨S160000x100, .f32⟩
  | 109 => ⟨S160000x100, .f32⟩
  | 110 => ⟨S160000x100, .f32⟩
  | 111 => ⟨S_, .i32⟩
  | 112 => ⟨S160000, .i32⟩
  | 113 => ⟨S160000, .i1⟩
  | 114 => ⟨S_, .i32⟩
  | 115 => ⟨S160000, .i32⟩
  | 116 => ⟨S160000, .i32⟩
  | 117 => ⟨S160000, .i32⟩
  | 118 => ⟨S160000x1, .i32⟩
  | 119 => ⟨S10000x100, .f32⟩
  | 120 => ⟨S_, .f32⟩
  | 121 => ⟨S10000x100, .f32⟩
  | 122 => ⟨S160000x1, .f32⟩
  | 123 => ⟨S_, .i32⟩
  | 124 => ⟨S160000, .i32⟩
  | 125 => ⟨S160000, .i1⟩
  | 126 => ⟨S_, .i32⟩
  | 127 => ⟨S160000, .i32⟩
  | _ => ⟨S10000x128, .f32⟩

abbrev hbmTy0_2 (i : Nat) : BufTy := match i % 128 with
  | 0 => ⟨S160000, .i32⟩
  | 1 => ⟨S160000, .i32⟩
  | 2 => ⟨S160000x1, .i32⟩
  | 3 => ⟨S160000x100, .f32⟩
  | 4 => ⟨S160000x100, .f32⟩
  | 5 => ⟨S160000x100, .f32⟩
  | 6 => ⟨S_, .i32⟩
  | 7 => ⟨S160000, .i32⟩
  | 8 => ⟨S160000, .i1⟩
  | 9 => ⟨S_, .i32⟩
  | 10 => ⟨S160000, .i32⟩
  | 11 => ⟨S160000, .i32⟩
  | 12 => ⟨S160000, .i32⟩
  | 13 => ⟨S160000x1, .i32⟩
  | 14 => ⟨S10000x100, .f32⟩
  | 15 => ⟨S_, .f32⟩
  | 16 => ⟨S10000x100, .f32⟩
  | 17 => ⟨S160000x1, .f32⟩
  | 18 => ⟨S_, .i32⟩
  | 19 => ⟨S160000, .i32⟩
  | 20 => ⟨S160000, .i1⟩
  | 21 => ⟨S_, .i32⟩
  | 22 => ⟨S160000, .i32⟩
  | 23 => ⟨S160000, .i32⟩
  | 24 => ⟨S160000, .i32⟩
  | 25 => ⟨S160000x1, .i32⟩
  | 26 => ⟨S160000x100, .f32⟩
  | 27 => ⟨S160000x100, .f32⟩
  | 28 => ⟨S160000x100, .f32⟩
  | 29 => ⟨S_, .i32⟩
  | 30 => ⟨S160000, .i32⟩
  | 31 => ⟨S160000, .i1⟩
  | 32 => ⟨S_, .i32⟩
  | 33 => ⟨S160000, .i32⟩
  | 34 => ⟨S160000, .i32⟩
  | 35 => ⟨S160000, .i32⟩
  | 36 => ⟨S160000x1, .i32⟩
  | 37 => ⟨S10000x100, .f32⟩
  | 38 => ⟨S_, .f32⟩
  | 39 => ⟨S10000x100, .f32⟩
  | 40 => ⟨S_, .f32⟩
  | 41 => ⟨S10000x100, .f32⟩
  | 42 => ⟨S10000x100, .f32⟩
  | 43 => ⟨S10000x100, .f32⟩
  | 44 => ⟨S10000x300, .f32⟩
  | 45 => ⟨S10000x300, .f32⟩
  | 46 => ⟨S_, .f32⟩
  | 47 => ⟨S300, .f32⟩
  | 48 => ⟨S_, .f32⟩
  | 49 => ⟨S300, .f32⟩
  | 50 => ⟨S300, .f32⟩
  | 51 => ⟨S10000x300, .f32⟩
  | 52 => ⟨S_, .f32⟩
  | 53 => ⟨S300, .f32⟩
  | 54 => ⟨S_, .f32⟩
  | 55 => ⟨S300, .f32⟩
  | 56 => ⟨S300, .f32⟩
  | 57 => ⟨S300, .f32⟩
  | 58 => ⟨S300, .f32⟩
  | 59 => ⟨S_, .f32⟩
  | 60 => ⟨S300, .f32⟩
  | 61 => ⟨S300, .f32⟩
  | 62 => ⟨S300, .f32⟩
  | 63 => ⟨S300, .f32⟩
  | 64 => ⟨S300, .f32⟩
  | 65 => ⟨S300, .f32⟩
  | 66 => ⟨S1x300, .f32⟩
  | 67 => ⟨S10000x300, .f32⟩
  | 68 => ⟨S10000x300, .f32⟩
  | 69 => ⟨S1x300, .f32⟩
  | 70 => ⟨S10000x300, .f32⟩
  | 71 => ⟨S10000x300, .f32⟩
  | 72 => ⟨S10000x10, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S1000x300, .f32⟩
  | .local _ .vmem, ⟨1, _⟩ => ⟨S1000x300, .f32⟩
  | .local _ .vmem, ⟨2, _⟩ => ⟨S300x10, .f32⟩
  | .local _ .vmem, ⟨3, _⟩ => ⟨S10, .f32⟩
  | .local _ .vmem, ⟨4, _⟩ => ⟨S1000x10, .f32⟩
  | .local _ .vmem, ⟨5, _⟩ => ⟨S1000x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v16 : Ref sig .tc := ⟨.hbm, 45, rfl⟩
abbrev main_v17 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v18 : Ref sig .tc := ⟨.hbm, 50, rfl⟩
abbrev main_c_5 : Ref sig .tc := ⟨.hbm, 51, rfl⟩
abbrev main_v19 : Ref sig .tc := ⟨.hbm, 52, rfl⟩
abbrev main_v20 : Ref sig .tc := ⟨.hbm, 53, rfl⟩
abbrev main_c_6 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_7 : Ref sig .tc := ⟨.hbm, 62, rfl⟩
abbrev main_v28 : Ref sig .tc := ⟨.hbm, 63, rfl⟩
abbrev main_v29 : Ref sig .tc := ⟨.hbm, 64, rfl⟩
abbrev main_c_8 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_v36 : Ref sig .tc := ⟨.hbm, 73, rfl⟩
abbrev main_v37 : Ref sig .tc := ⟨.hbm, 74, rfl⟩
abbrev main_c_10 : Ref sig .tc := ⟨.hbm, 75, rfl⟩
abbrev main_v38 : Ref sig .tc := ⟨.hbm, 76, rfl⟩
abbrev main_v39 : Ref sig .tc := ⟨.hbm, 77, rfl⟩
abbrev main_c_11 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_12 : Ref sig .tc := ⟨.hbm, 86, rfl⟩
abbrev main_v47 : Ref sig .tc := ⟨.hbm, 87, rfl⟩
abbrev main_v48 : Ref sig .tc := ⟨.hbm, 88, rfl⟩
abbrev main_c_13 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_14 : Ref sig .tc := ⟨.hbm, 95, rfl⟩
abbrev main_v54 : Ref sig .tc := ⟨.hbm, 96, rfl⟩
abbrev main_v55 : Ref sig .tc := ⟨.hbm, 97, rfl⟩
abbrev main_c_15 : Ref sig .tc := ⟨.hbm, 98, rfl⟩
abbrev main_v56 : Ref sig .tc := ⟨.hbm, 99, rfl⟩
abbrev main_v57 : Ref sig .tc := ⟨.hbm, 100, rfl⟩
abbrev main_c_16 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_c_17 : Ref sig .tc := ⟨.hbm, 109, rfl⟩
abbrev main_v65 : Ref sig .tc := ⟨.hbm, 110, rfl⟩
abbrev main_v66 : Ref sig .tc := ⟨.hbm, 111, rfl⟩
abbrev main_c_18 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_19 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_c_20 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_21 : Ref sig .tc := ⟨.hbm, 147, rfl⟩
abbrev main_v99 : Ref sig .tc := ⟨.hbm, 148, rfl⟩
abbrev main_v100 : Ref sig .tc := ⟨.hbm, 149, rfl⟩
abbrev main_cst_22 : Ref sig .tc := ⟨.hbm, 150, rfl⟩
abbrev main_v101 : Ref sig .tc := ⟨.hbm, 151, rfl⟩
abbrev main_cst_23 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_24 : Ref sig .tc := ⟨.hbm, 156, rfl⟩
abbrev main_v105 : Ref sig .tc := ⟨.hbm, 157, rfl⟩
abbrev main_cst_25 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_26 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_call2_cst : Ref sig .tc := ⟨.hbm, 176, rfl⟩
abbrev main_call2_v0 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_27 : Ref sig .tc := ⟨.hbm, 202, rfl⟩
abbrev main_v146 : Ref sig .tc := ⟨.hbm, 203, rfl⟩
abbrev main_v147 : Ref sig .tc := ⟨.hbm, 204, rfl⟩
abbrev main_c_28 : Ref sig .tc := ⟨.hbm, 205, rfl⟩
abbrev main_v148 : Ref sig .tc := ⟨.hbm, 206, rfl⟩
abbrev main_v149 : Ref sig .tc := ⟨.hbm, 207, rfl⟩
abbrev main_c_29 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_c_30 : Ref sig .tc := ⟨.hbm, 216, rfl⟩
abbrev main_v157 : Ref sig .tc := ⟨.hbm, 217, rfl⟩
abbrev main_v158 : Ref sig .tc := ⟨.hbm, 218, rfl⟩
abbrev main_c_31 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_cst_32 : Ref sig .tc := ⟨.hbm, 225, rfl⟩
abbrev main_v164 : Ref sig .tc := ⟨.hbm, 226, rfl⟩
abbrev main_v165 : Ref sig .tc := ⟨.hbm, 227, rfl⟩
abbrev main_c_33 : Ref sig .tc := ⟨.hbm, 228, rfl⟩
abbrev main_v166 : Ref sig .tc := ⟨.hbm, 229, rfl⟩
abbrev main_v167 : Ref sig .tc := ⟨.hbm, 230, rfl⟩
abbrev main_c_34 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_c_35 : Ref sig .tc := ⟨.hbm, 239, rfl⟩
abbrev main_v175 : Ref sig .tc := ⟨.hbm, 240, rfl⟩
abbrev main_v176 : Ref sig .tc := ⟨.hbm, 241, rfl⟩
abbrev main_c_36 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_cst_37 : Ref sig .tc := ⟨.hbm, 248, rfl⟩
abbrev main_v182 : Ref sig .tc := ⟨.hbm, 249, rfl⟩
abbrev main_v183 : Ref sig .tc := ⟨.hbm, 250, rfl⟩
abbrev main_c_38 : Ref sig .tc := ⟨.hbm, 251, rfl⟩
abbrev main_v184 : Ref sig .tc := ⟨.hbm, 252, rfl⟩
abbrev main_v185 : Ref sig .tc := ⟨.hbm, 253, rfl⟩
abbrev main_c_39 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_c_40 : Ref sig .tc := ⟨.hbm, 262, rfl⟩
abbrev main_v193 : Ref sig .tc := ⟨.hbm, 263, rfl⟩
abbrev main_v194 : Ref sig .tc := ⟨.hbm, 264, rfl⟩
abbrev main_c_41 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_cst_42 : Ref sig .tc := ⟨.hbm, 271, rfl⟩
abbrev main_v200 : Ref sig .tc := ⟨.hbm, 272, rfl⟩
abbrev main_v201 : Ref sig .tc := ⟨.hbm, 273, rfl⟩
abbrev main_c_43 : Ref sig .tc := ⟨.hbm, 274, rfl⟩
abbrev main_v202 : Ref sig .tc := ⟨.hbm, 275, rfl⟩
abbrev main_v203 : Ref sig .tc := ⟨.hbm, 276, rfl⟩
abbrev main_c_44 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_c_45 : Ref sig .tc := ⟨.hbm, 285, rfl⟩
abbrev main_v211 : Ref sig .tc := ⟨.hbm, 286, rfl⟩
abbrev main_v212 : Ref sig .tc := ⟨.hbm, 287, rfl⟩
abbrev main_c_46 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_cst_47 : Ref sig .tc := ⟨.hbm, 294, rfl⟩
abbrev main_v218 : Ref sig .tc := ⟨.hbm, 295, rfl⟩
abbrev main_cst_48 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_cst_49 : Ref sig .tc := ⟨.hbm, 302, rfl⟩
abbrev main_v224 : Ref sig .tc := ⟨.hbm, 303, rfl⟩
abbrev main_cst_50 : Ref sig .tc := ⟨.hbm, 304, rfl⟩
abbrev main_v225 : Ref sig .tc := ⟨.hbm, 305, rfl⟩
abbrev main_v226 : Ref sig .tc := ⟨.hbm, 306, rfl⟩
abbrev main_v227 : Ref sig .tc := ⟨.hbm, 307, rfl⟩
abbrev main_cst_51 : Ref sig .tc := ⟨.hbm, 308, rfl⟩
abbrev main_v228 : Ref sig .tc := ⟨.hbm, 309, rfl⟩
abbrev main_cst_52 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_cst_53 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S10000x128 : Shape := ⟨2, ![10000, 128]⟩
abbrev S2x160000 : Shape := ⟨2, ![2, 160000]⟩
abbrev S160000 : Shape := ⟨1, ![160000]⟩
abbrev S1x128x400 : Shape := ⟨3, ![1, 128, 400]⟩
abbrev S400 : Shape := ⟨1, ![400]⟩
abbrev S2x128x400 : Shape := ⟨3, ![2, 128, 400]⟩
abbrev S3x128x400 : Shape := ⟨3, ![3, 128, 400]⟩
abbrev S1x1200x100 : Shape := ⟨3, ![1, 1200, 100]⟩
abbrev S100 : Shape := ⟨1, ![100]⟩
abbrev S2x1200x100 : Shape := ⟨3, ![2, 1200, 100]⟩
abbrev S3x1200x100 : Shape := ⟨3, ![3, 1200, 100]⟩
abbrev S1200 : Shape := ⟨1, ![1200]⟩
abbrev S300 : Shape := ⟨1, ![300]⟩
abbrev S300x10 : Shape := ⟨2, ![300, 10]⟩
abbrev S10 : Shape := ⟨1, ![10]⟩
abbrev S1x160000 : Shape := ⟨2, ![1, 160000]⟩
abbrev S_ : Shape := ⟨0, ![]⟩
abbrev S10000 : Shape := ⟨1, ![10000]⟩
abbrev S160000x1 : Shape := ⟨2, ![160000, 1]⟩
abbrev S128x400 : Shape := ⟨2, ![128, 400]⟩
abbrev S10000x400 : Shape := ⟨2, ![10000, 400]⟩
abbrev S1x400 : Shape := ⟨2, ![1, 400]⟩
abbrev S160000x128 : Shape := ⟨2, ![160000, 128]⟩
abbrev S10000x1200 : Shape := ⟨2, ![10000, 1200]⟩
abbrev S1x1200 : Shape := ⟨2, ![1, 1200]⟩
abbrev S1200x100 : Shape := ⟨2, ![1200, 100]⟩
abbrev S10000x100 : Shape := ⟨2, ![10000, 100]⟩
abbrev S1x100 : Shape := ⟨2, ![1, 100]⟩
abbrev S160000x1200 : Shape := ⟨2, ![160000, 1200]⟩
abbrev S10000x300 : Shape := ⟨2, ![10000, 300]⟩
abbrev S1x300 : Shape := ⟨2, ![1, 300]⟩
abbrev S10000x10 : Shape := ⟨2, ![10000, 10]⟩
abbrev S1x10 : Shape := ⟨2, ![1, 10]⟩
abbrev S10000x1 : Shape := ⟨2, ![10000, 1]⟩

abbrev nBuf : Space → Nat
  | .hbm => 623
  | .vmem => 0
  | .smem => 0
  | _ => 0

abbrev hbmTy0_0 (i : Nat) : BufTy := match i % 128 with
  | 0 => ⟨S10000x128, .f32⟩
  | 1 => ⟨S2x160000, .i32⟩
  | 2 => ⟨S160000, .f32⟩
  | 3 => ⟨S1x128x400, .f32⟩
  | 4 => ⟨S400, .f32⟩
  | 5 => ⟨S2x128x400, .f32⟩
  | 6 => ⟨S400, .f32⟩
  | 7 => ⟨S3x128x400, .f32⟩
  | 8 => ⟨S400, .f32⟩
  | 9 => ⟨S1x1200x100, .f32⟩
  | 10 => ⟨S100, .f32⟩
  | 11 => ⟨S2x1200x100, .f32⟩
  | 12 => ⟨S100, .f32⟩
  | 13 => ⟨S3x1200x100, .f32⟩
  | 14 => ⟨S100, .f32⟩
  | 15 => ⟨S1200, .f32⟩
  | 16 => ⟨S1200, .f32⟩
  | 17 => ⟨S300, .f32⟩
  | 18 => ⟨S300, .f32⟩
  | 19 => ⟨S300x10, .f32⟩
  | 20 => ⟨S10, .f32⟩
  | 21 => ⟨S1x160000, .i32⟩
  | 22 => ⟨S160000, .i32⟩
  | 23 => ⟨S1x160000, .i32⟩
  | 24 => ⟨S160000, .i32⟩
  | 25 => ⟨S_, .f32⟩
  | 26 => ⟨S10000, .f32⟩
  | 27 => ⟨S_, .i32⟩
  | 28 => ⟨S160000, .i32⟩
  | 29 => ⟨S160000, .i1⟩
  | 30 => ⟨S_, .i32⟩
  | 31 => ⟨S160000, .i32⟩
  | 32 => ⟨S160000, .i32⟩
  | 33 => ⟨S160000, .i32⟩
  | 34 => ⟨S160000x1, .i32⟩
  | 35 => ⟨S10000, .f32⟩
  | 36 => ⟨S_, .f32⟩
  | 37 => ⟨S10000, .f32⟩
  | 38 => ⟨S10000, .i1⟩
  | 39 => ⟨S_, .f32⟩
  | 40 => ⟨S10000, .f32⟩
  | 41 => ⟨S10000, .i1⟩
  | 42 => ⟨S_, .f32⟩
  | 43 => ⟨S_, .f32⟩
  | 44 => ⟨S10000, .f32⟩
  | 45 => ⟨S10000, .f32⟩
  | 46 => ⟨S10000, .f32⟩
  | 47 => ⟨S_, .f32⟩
  | 48 => ⟨S_, .f32⟩
  | 49 => ⟨S10000, .f32⟩
  | 50 => ⟨S10000, .f32⟩
  | 51 => ⟨S_, .i32⟩
  | 52 => ⟨S160000, .i32⟩
  | 53 => ⟨S160000, .i1⟩
  | 54 => ⟨S_, .i32⟩
  | 55 => ⟨S160000, .i32⟩
  | 56 => ⟨S160000, .i32⟩
  | 57 => ⟨S160000, .i32⟩
  | 58 => ⟨S160000x1, .i32⟩
  | 59 => ⟨S160000, .f32⟩
  | 60 => ⟨S160000, .f32⟩
  | 61 => ⟨S160000, .f32⟩
  | 62 => ⟨S_, .i32⟩
  | 63 => ⟨S160000, .i32⟩
  | 64 => ⟨S160000, .i1⟩
  | 65 => ⟨S_, .i32⟩
  | 66 => ⟨S160000, .i32⟩
  | 67 => ⟨S160000, .i32⟩
  | 68 => ⟨S160000, .i32⟩
  | 69 => ⟨S160000x1, .i32⟩
  | 70 => ⟨S160000, .f32⟩
  | 71 => ⟨S160000, .f32⟩
  | 72 => ⟨S128x400, .f32⟩
  | 73 => ⟨S10000x400, .f32⟩
  | 74 => ⟨S1x400, .f32⟩
  | 75 => ⟨S10000x400, .f32⟩
  | 76 => ⟨S10000x400, .f32⟩
  | 77 => ⟨S_, .f32⟩
  | 78 => ⟨S10000, .f32⟩
  | 79 => ⟨S_, .i32⟩
  | 80 => ⟨S160000, .i32⟩
  | 81 => ⟨S160000, .i1⟩
  | 82 => ⟨S_, .i32⟩
  | 83 => ⟨S160000, .i32⟩
  | 84 => ⟨S160000, .i32⟩
  | 85 => ⟨S160000, .i32⟩
  | 86 => ⟨S160000x1, .i32⟩
  | 87 => ⟨S10000, .f32⟩
  | 88 => ⟨S_, .f32⟩
  | 89 => ⟨S10000, .f32⟩
  | 90 => ⟨S10000, .i1⟩
  | 91 => ⟨S_, .f32⟩
  | 92 => ⟨S10000, .f32⟩
  | 93 => ⟨S10000, .i1⟩
  | 94 => ⟨S_, .f32⟩
  | 95 => ⟨S_, .f32⟩
  | 96 => ⟨S10000, .f32⟩
  | 97 => ⟨S10000, .f32⟩
  | 98 => ⟨S10000, .f32⟩
  | 99 => ⟨S_, .f32⟩
  | 100 => ⟨S_, .f32⟩
  | 101 => ⟨S10000, .f32⟩
  | 102 => ⟨S10000, .f32⟩
  | 103 => ⟨S_, .i32⟩
  | 104 => ⟨S160000, .i32⟩
  | 105 => ⟨S160000, .i1⟩
  | 106 => ⟨S_, .i32⟩
  | 107 => ⟨S160000, .i32⟩
  | 108 => ⟨S160000, .i32⟩
  | 109 => ⟨S160000, .i32⟩
  | 110 => ⟨S160000x1, .i32⟩
  | 111 => ⟨S160000, .f32⟩
  | 112 => ⟨S160000, .f32⟩
  | 113 => ⟨S160000, .f32⟩
  | 114 => ⟨S_, .i32⟩
  | 115 => ⟨S160000, .i32⟩
  | 116 => ⟨S160000, .i1⟩
  | 117 => ⟨S_, .i32⟩
  | 118 => ⟨S160000, .i32⟩
  | 119 => ⟨S160000, .i32⟩
  | 120 => ⟨S160000, .i32⟩
  | 121 => ⟨S160000x1, .i32⟩
  | 122 => ⟨S160000, .f32⟩
  | 123 => ⟨S160000, .f32⟩
  | 124 => ⟨S1x128x400, .f32⟩
  | 125 => ⟨S128x400, .f32⟩
  | 126 => ⟨S10000x400, .f32⟩
  | 127 => ⟨S_, .f32⟩
  | _ => ⟨S10000x128, .f32⟩

abbrev hbmTy0_1 (i : Nat) : BufTy := match i % 128 with
  | 0 => ⟨S10000x128, .f32⟩
  | 1 => ⟨S160000x1, .f32⟩
  | 2 => ⟨S_, .i32⟩
  | 3 => ⟨S160000, .i32⟩
  | 4 => ⟨S160000, .i1⟩
  | 5 => ⟨S_, .i32⟩
  | 6 => ⟨S160000, .i32⟩
  | 7 => ⟨S160000, .i32⟩
  | 8 => ⟨S160000, .i32⟩
  | 9 => ⟨S160000x1, .i32⟩
  | 10 => ⟨S160000x128, .f32⟩
  | 11 => ⟨S160000x128, .f32⟩
  | 12 => ⟨S160000x128, .f32⟩
  | 13 => ⟨S_, .i32⟩
  | 14 => ⟨S160000, .i32⟩
  | 15 => ⟨S160000, .i1⟩
  | 16 => ⟨S_, .i32⟩
  | 17 => ⟨S160000, .i32⟩
  | 18 => ⟨S160000, .i32⟩
  | 19 => ⟨S160000, .i32⟩
  | 20 => ⟨S160000x1, .i32⟩
  | 21 => ⟨S10000x128, .f32⟩
  | 22 => ⟨S1x128x400, .f32⟩
  | 23 => ⟨S128x400, .f32⟩
  | 24 => ⟨S10000x400, .f32⟩
  | 25 => ⟨S10000x400, .f32⟩
  | 26 => ⟨S1x400, .f32⟩
  | 27 => ⟨S10000x400, .f32⟩
  | 28 => ⟨S10000x400, .f32⟩
  | 29 => ⟨S_, .f32⟩
  | 30 => ⟨S10000, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S10000, .f32⟩
  | 40 => ⟨S_, .f32⟩
  | 41 => ⟨S10000, .f32⟩
  | 42 => ⟨S10000, .i1⟩
  | 43 => ⟨S_, .f32⟩
  | 44 => ⟨S10000, .f32⟩
  | 45 => ⟨S10000, .i1⟩
  | 46 => ⟨S_, .f32⟩
  | 47 => ⟨S_, .f32⟩
  | 48 => ⟨S10000, .f32⟩
  | 49 => ⟨S10000, .f32⟩
  | 50 => ⟨S10000, .f32⟩
  | 51 => ⟨S_, .f32⟩
  | 52 => ⟨S_, .f32⟩
  | 53 => ⟨S10000, .f32⟩
  | 54 => ⟨S10000, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000, .f32⟩
  | 64 => ⟨S160000, .f32⟩
  | 65 => ⟨S160000, .f32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S160000, .f32⟩
  | 75 => ⟨S160000, .f32⟩
  | 76 => ⟨S1x128x400, .f32⟩
  | 77 => ⟨S128x400, .f32⟩
  | 78 => ⟨S10000x400, .f32⟩
  | 79 => ⟨S_, .f32⟩
  | 80 => ⟨S10000x128, .f32⟩
  | 81 => ⟨S160000x1, .f32⟩
  | 82 => ⟨S_, .i32⟩
  | 83 => ⟨S160000, .i32⟩
  | 84 => ⟨S160000, .i1⟩
  | 85 => ⟨S_, .i32⟩
  | 86 => ⟨S160000, .i32⟩
  | 87 => ⟨S160000, .i32⟩
  | 88 => ⟨S160000, .i32⟩
  | 89 => ⟨S160000x1, .i32⟩
  | 90 => ⟨S160000x128, .f32⟩
  | 91 => ⟨S160000x128, .f32⟩
  | 92 => ⟨S160000x128, .f32⟩
  | 93 => ⟨S_, .i32⟩
  | 94 => ⟨S160000, .i32⟩
  | 95 => ⟨S160000, .i1⟩
  | 96 => ⟨S_, .i32⟩
  | 97 => ⟨S160000, .i32⟩
  | 98 => ⟨S160000, .i32⟩
  | 99 => ⟨S160000, .i32⟩
  | 100 => ⟨S160000x1, .i32⟩
  | 101 => ⟨S10000x128, .f32⟩
  | 102 => ⟨S1x128x400, .f32⟩
  | 103 => ⟨S128x400, .f32⟩
  | 104 => ⟨S10000x400, .f32⟩
  | 105 => ⟨S10000x400, .f32⟩
  | 106 => ⟨S_, .f32⟩
  | 107 => ⟨S10000x128, .f32⟩
  | 108 => ⟨S160000x1, .f32⟩
  | 109 => ⟨S_, .i32⟩
  | 110 => ⟨S160000, .i32⟩
  | 111 => ⟨S160000, .i1⟩
  | 112 => ⟨S_, .i32⟩
  | 113 => ⟨S160000, .i32⟩
  | 114 => ⟨S160000, .i32⟩
  | 115 => ⟨S160000, .i32⟩
  | 116 => ⟨S160000x1, .i32⟩
  | 117 => ⟨S160000x128, .f32⟩
  | 118 => ⟨S160000x128, .f32⟩
  | 119 => ⟨S160000x128, .f32⟩
  | 120 => ⟨S_, .i32⟩
  | 121 => ⟨S160000, .i32⟩
  | 122 => ⟨S160000, .i1⟩
  | 123 => ⟨S_, .i32⟩
  | 124 => ⟨S160000, .i32⟩
  | 125 => ⟨S160000, .i32⟩
  | 126 => ⟨S160000, .i32⟩
  | 127 => ⟨S160000x1, .i32⟩
  | _ => ⟨S10000x128, .f32⟩

abbrev hbmTy0_2 (i : Nat) : BufTy := match i % 128 with
  | 0 => ⟨S10000x128, .f32⟩
  | 1 => ⟨S_, .f32⟩
  | 2 => ⟨S10000x128, .f32⟩
  | 3 => ⟨S10000x128, .f32⟩
  | 4 => ⟨S10000x128, .f32⟩
  | 5 => ⟨S1x128x400, .f32⟩
  | 6 => ⟨S128x400, .f32⟩
  | 7 => ⟨S10000x400, .f32⟩
  | 8 => ⟨S10000x400, .f32⟩
  | 9 => ⟨S1x400, .f32⟩
  | 10 => ⟨S10000x400, .f32⟩
  | 11 => ⟨S10000x400, .f32⟩
  | 12 => ⟨S10000x1200, .f32⟩
  | 13 => ⟨S_, .f32⟩
  | 14 => ⟨S1200, .f32⟩
  | 15 => ⟨S_, .f32⟩
  | 16 => ⟨S1200, .f32⟩
  | 17 => ⟨S1200, .f32⟩
  | 18 => ⟨S_, .i32⟩
  | 19 => ⟨S_, .f32⟩
  | 20 => ⟨S1200, .f32⟩
  | 21 => ⟨S1x1200, .f32⟩
  | 22 => ⟨S_, .f32⟩
  | 23 => ⟨S1x1200, .f32⟩
  | 24 => ⟨S1x1200, .f32⟩
  | 25 => ⟨S10000x1200, .f32⟩
  | 26 => ⟨S10000x1200, .f32⟩
  | 27 => ⟨S10000x1200, .f32⟩
  | 28 => ⟨S_, .f32⟩
  | 29 => ⟨S_, .f32⟩
  | 30 => ⟨S_, .f32⟩
  | 31 => ⟨S_, .f32⟩
  | 32 => ⟨S1200, .f32⟩
  | 33 => ⟨S1200, .f32⟩
  | 34 => ⟨S1200, .f32⟩
  | 35 => ⟨S_, .f32⟩
  | 36 => ⟨S_, .i1⟩
  | 37 => ⟨S_, .f32⟩
  | 38 => ⟨S_, .f32⟩
  | 39 => ⟨S1200, .f32⟩
  | 40 => ⟨S1200, .f32⟩
  | 41 => ⟨S1x1200, .f32⟩
  | 42 => ⟨S10000x1200, .f32⟩
  | 43 => ⟨S10000x1200, .f32⟩
  | 44 => ⟨S_, .f32⟩
  | 45 => ⟨S1200, .f32⟩
  | 46 => ⟨S1200, .f32⟩
  | 47 => ⟨S1200, .f32⟩
  | 48 => ⟨S1x1200, .f32⟩
  | 49 => ⟨S10000x1200, .f32⟩
  | 50 => ⟨S10000x1200, .f32⟩
  | 51 => ⟨S1x1200, .f32⟩
  | 52 => ⟨S10000x1200, .f32⟩
  | 53 => ⟨S10000x1200, .f32⟩
  | 54 => ⟨S1x1200, .f32⟩
  | 55 => ⟨S10000x1200, .f32⟩
  | 56 => ⟨S10000x1200, .f32⟩
  | 57 => ⟨S_, .f32⟩
  | 58 => ⟨S10000x1200, .f32⟩
  | 59 => ⟨S10000x1200, .f32⟩
  | 60 => ⟨S_, .f32⟩
  | 61 => ⟨S10000, .f32⟩
  | 62 => ⟨S_, .i32⟩
  | 63 => ⟨S160000, .i32⟩
  | 64 => ⟨S160000, .i1⟩
  | 65 => ⟨S_, .i32⟩
  | 66 => ⟨S160000, .i32⟩
  | 67 => ⟨S160000, .i32⟩
  | 68 => ⟨S160000, .i32⟩
  | 69 => ⟨S160000x1, .i32⟩
  | 70 => ⟨S10000, .f32⟩
  | 71 => ⟨S_, .f32⟩
  | 72 => ⟨S10000, .f32⟩
  | 73 => ⟨S10000, .i1⟩
  | 74 => ⟨S_, .f32⟩
  | 75 => ⟨S10000, .f32⟩
  | 76 => ⟨S10000, .i1⟩
  | 77 => ⟨S_, .f32⟩
  | 78 => ⟨S_, .f32⟩
  | 79 => ⟨S10000, .f32⟩
  | 80 => ⟨S10000, .f32⟩
  | 81 => ⟨S10000, .f32⟩
  | 82 => ⟨S_, .f32⟩
  | 83 => ⟨S_, .f32⟩
  | 84 => ⟨S10000, .f32⟩
  | 85 => ⟨S10000, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S160000, .f32⟩
  | 95 => ⟨S160000, .f32⟩
  | 96 => ⟨S160000, .f32⟩
  | 97 => ⟨S_, .i32⟩
  | 98 => ⟨S160000, .i32⟩
  | 99 => ⟨S160000, .i1⟩
  | 100 => ⟨S_, .i32⟩
  | 101 => ⟨S160000, .i32⟩
  | 102 => ⟨S160000, .i32⟩
  | 103 => ⟨S160000, .i32⟩
  | 104 => ⟨S160000x1, .i32⟩
  | 105 => ⟨S160000, .f32⟩
  | 106 => ⟨S160000, .f32⟩
  | 107 => ⟨S1200x100, .f32⟩
  | 108 => ⟨S10000x100, .f32⟩
  | 109 => ⟨S1x100, .f32⟩
  | 110 => ⟨S10000x100, .f32⟩
  | 111 => ⟨S10000x100, .f32⟩
  | 112 => ⟨S_, .f32⟩
  | 113 => ⟨S10000, .f32⟩
  | 114 => ⟨S_, .i32⟩
  | 115 => ⟨S160000, .i32⟩
  | 116 => ⟨S160000, .i1⟩
  | 117 => ⟨S_, .i32⟩
  | 118 => ⟨S160000, .i32⟩
  | 119 => ⟨S160000, .i32⟩
  | 120 => ⟨S160000, .i32⟩
  | 121 => ⟨S160000x1, .i32⟩
  | 122 => ⟨S10000, .f32⟩
  | 123 => ⟨S_, .f32⟩
  | 124 => ⟨S10000, .f32⟩
  | 125 => ⟨S10000, .i1⟩
  | 126 => ⟨S_, .f32⟩
  | 127 => ⟨S10000, .f32⟩
  | _ => ⟨S10000x128, .f32⟩

abbrev hbmTy0_3 (i : Nat) : BufTy := match i % 128 with
  | 0 => ⟨S10000, .i1⟩
  | 1 => ⟨S_, .f32⟩
  | 2 => ⟨S_, .f32⟩
  | 3 => ⟨S10000, .f32⟩
  | 4 => ⟨S10000, .f32⟩
  | 5 => ⟨S10000, .f32⟩
  | 6 => ⟨S_, .f32⟩
  | 7 => ⟨S_, .f32⟩
  | 8 => ⟨S10000, .f32⟩
  | 9 => ⟨S10000, .f32⟩
  | 10 => ⟨S_, .i32⟩
  | 11 => ⟨S160000, .i32⟩
  | 12 => ⟨S160000, .i1⟩
  | 13 => ⟨S_, .i32⟩
  | 14 => ⟨S160000, .i32⟩
  | 15 => ⟨S160000, .i32⟩
  | 16 => ⟨S160000, .i32⟩
  | 17 => ⟨S160000x1, .i32⟩
  | 18 => ⟨S160000, .f32⟩
  | 19 => ⟨S160000, .f32⟩
  | 20 => ⟨S160000, .f32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S160000x1, .i32⟩
  | 29 => ⟨S160000, .f32⟩
  | 30 => ⟨S160000, .f32⟩
  | 31 => ⟨S1x1200x100, .f32⟩
  | 32 => ⟨S1200x100, .f32⟩
  | 33 => ⟨S10000x100, .f32⟩
  | 34 => ⟨S_, .f32⟩
  | 35 => ⟨S10000x1200, .f32⟩
  | 36 => ⟨S160000x1, .f32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x1200, .f32⟩
  | 46 => ⟨S160000x1200, .f32⟩
  | 47 => ⟨S160000x1200, .f32⟩
  | 48 => ⟨S_, .i32⟩
  | 49 => ⟨S160000, .i32⟩
  | 50 => ⟨S160000, .i1⟩
  | 51 => ⟨S_, .i32⟩
  | 52 => ⟨S160000, .i32⟩
  | 53 => ⟨S160000, .i32⟩
  | 54 => ⟨S160000, .i32⟩
  | 55 => ⟨S160000x1, .i32⟩
  | 56 => ⟨S10000x1200, .f32⟩
  | 57 => ⟨S1x1200x100, .f32⟩
  | 58 => ⟨S1200x100, .f32⟩
  | 59 => ⟨S10000x100, .f32⟩
  | 60 => ⟨S10000x100, .f32⟩
  | 61 => ⟨S1x100, .f32⟩
  | 62 => ⟨S10000x100, .f32⟩
  | 63 => ⟨S10000x100, .f32⟩
  | 64 => ⟨S_, .f32⟩
  | 65 => ⟨S10000, .f32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S10000, .f32⟩
  | 75 => ⟨S_, .f32⟩
  | 76 => ⟨S10000, .f32⟩
  | 77 => ⟨S10000, .i1⟩
  | 78 => ⟨S_, .f32⟩
  | 79 => ⟨S10000, .f32⟩
  | 80 => ⟨S10000, .i1⟩
  | 81 => ⟨S_, .f32⟩
  | 82 => ⟨S_, .f32⟩
  | 83 => ⟨S10000, .f32⟩
  | 84 => ⟨S10000, .f32⟩
  | 85 => ⟨S10000, .f32⟩
  | 86 => ⟨S_, .f32⟩
  | 87 => ⟨S_, .f32⟩
  | 88 => ⟨S10000, .f32⟩
  | 89 => ⟨S10000, .f32⟩
  | 90 => ⟨S_, .i32⟩
  | 91 => ⟨S160000, .i32⟩
  | 92 => ⟨S160000, .i1⟩
  | 93 => ⟨S_, .i32⟩
  | 94 => ⟨S160000, .i32⟩
  | 95 => ⟨S160000, .i32⟩
  | 96 => ⟨S160000, .i32⟩
  | 97 => ⟨S160000x1, .i32⟩
  | 98 => ⟨S160000, .f32⟩
  | 99 => ⟨S160000, .f32⟩
  | 100 => ⟨S160000, .f32⟩
  | 101 => ⟨S_, .i32⟩
  | 102 => ⟨S160000, .i32⟩
  | 103 => ⟨S160000, .i1⟩
  | 104 => ⟨S_, .i32⟩
  | 105 => ⟨S160000, .i32⟩
  | 106 => ⟨S160000, .i32⟩
  | 107 => ⟨S160000, .i32⟩
  | 108 => ⟨S160000x1, .i32⟩
  | 109 => ⟨S160000, .f32⟩
  | 110 => ⟨S160000, .f32⟩
  | 111 => ⟨S1x1200x100, .f32⟩
  | 112 => ⟨S1200x100, .f32⟩
  | 113 => ⟨S10000x100, .f32⟩
  | 114 => ⟨S_, .f32⟩
  | 115 => ⟨S10000x1200, .f32⟩
  | 116 => ⟨S160000x1, .f32⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S160000x1200, .f32⟩
  | 126 => ⟨S160000x1200, .f32⟩
  | 127 => ⟨S160000x1200, .f32⟩
  | _ => ⟨S10000x128, .f32⟩

abbrev hbmTy0_4 (i : Nat) : BufTy := match i % 128 with
  | 0 => ⟨S_, .i32⟩
  | 1 => ⟨S160000, .i32⟩
  | 2 => ⟨S160000, .i1⟩
  | 3 => ⟨S_, .i32⟩
  | 4 => ⟨S160000, .i32⟩
  | 5 => ⟨S160000, .i32⟩
  | 6 => ⟨S160000, .i32⟩
  | 7 => ⟨S160000x1, .i32⟩
  | 8 => ⟨S10000x1200, .f32⟩
  | 9 => ⟨S1x1200x100, .f32⟩
  | 10 => ⟨S1200x100, .f32⟩
  | 11 => ⟨S10000x100, .f32⟩
  | 12 => ⟨S10000x100, .f32⟩
  | 13 => ⟨S_, .f32⟩
  | 14 => ⟨S10000x1200, .f32⟩
  | 15 => ⟨S160000x1, .f32⟩
  | 16 => ⟨S_, .i32⟩
  | 17 => ⟨S160000, .i32⟩
  | 18 => ⟨S160000, .i1⟩
  | 19 => ⟨S_, .i32⟩
  | 20 => ⟨S160000, .i32⟩
  | 21 => ⟨S160000, .i32⟩
  | 22 => ⟨S160000, .i32⟩
  | 23 => ⟨S160000x1, .i32⟩
  | 24 => ⟨S160000x1200, .f32⟩
  | 25 => ⟨S160000x1200, .f32⟩
  | 26 => ⟨S160000x1200, .f32⟩
  | 27 => ⟨S_, .i32⟩
  | 28 => ⟨S160000, .i32⟩
  | 29 => ⟨S160000, .i1⟩
  | 30 => ⟨S_, .i32⟩
  | 31 => ⟨S160000, .i32⟩
  | 32 => ⟨S160000, .i32⟩
  | 33 => ⟨S160000, .i32⟩
  | 34 => ⟨S160000x1, .i32⟩
  | 35 => ⟨S10000x1200, .f32⟩
  | 36 => ⟨S_, .f32⟩
  | 37 => ⟨S10000x1200, .f32⟩
  | 38 => ⟨S10000x1200, .f32⟩
  | 39 => ⟨S10000x1200, .f32⟩
  | 40 => ⟨S1x1200x100, .f32⟩
  | 41 => ⟨S1200x100, .f32⟩
  | 42 => ⟨S10000x100, .f32⟩
  | 43 => ⟨S10000x100, .f32⟩
  | 44 => ⟨S1x100, .f32⟩
  | 45 => ⟨S10000x100, .f32⟩
  | 46 => ⟨S10000x100, .f32⟩
  | 47 => ⟨S10000x300, .f32⟩
  | 48 => ⟨S_, .f32⟩
  | 49 => ⟨S300, .f32⟩
  | 50 => ⟨S_, .f32⟩
  | 51 => ⟨S300, .f32⟩
  | 52 => ⟨S300, .f32⟩
  | 53 => ⟨S_, .i32⟩
  | 54 => ⟨S_, .f32⟩
  | 55 => ⟨S300, .f32⟩
  | 56 => ⟨S1x300, .f32⟩
  | 57 => ⟨S_, .f32⟩
  | 58 => ⟨S1x300, .f32⟩
  | 59 => ⟨S1x300, .f32⟩
  | 60 => ⟨S10000x300, .f32⟩
  | 61 => ⟨S10000x300, .f32⟩
  | 62 => ⟨S10000x300, .f32⟩
  | 63 => ⟨S_, .f32⟩
  | 64 => ⟨S_, .f32⟩
  | 65 => ⟨S_, .f32⟩
  | 66 => ⟨S_, .f32⟩
  | 67 => ⟨S300, .f32⟩
  | 68 => ⟨S300, .f32⟩
  | 69 => ⟨S300, .f32⟩
  | 70 => ⟨S_, .f32⟩
  | 71 => ⟨S_, .i1⟩
  | 72 => ⟨S_, .f32⟩
  | 73 => ⟨S_, .f32⟩
  | 74 => ⟨S300, .f32⟩
  | 75 => ⟨S300, .f32⟩
  | 76 => ⟨S1x300, .f32⟩
  | 77 => ⟨S10000x300, .f32⟩
  | 78 => ⟨S10000x300, .f32⟩
  | 79 => ⟨S_, .f32⟩
  | 80 => ⟨S300, .f32⟩
  | 81 => ⟨S300, .f32⟩
  | 82 => ⟨S300, .f32⟩
  | 83 => ⟨S1x300, .f32⟩
  | 84 => ⟨S10000x300, .f32⟩
  | 85 => ⟨S10000x300, .f32⟩
  | 86 => ⟨S1x300, .f32⟩
  | 87 => ⟨S10000x300, .f32⟩
  | 88 => ⟨S10000x300, .f32⟩
  | 89 => ⟨S1x300, .f32⟩
  | 90 => ⟨S10000x300, .f32⟩
  | 91 => ⟨S10000x300, .f32⟩
  | 92 => ⟨S10000x10, .f32⟩
  | 93 => ⟨S1x10, .f32⟩
  | 94 => ⟨S10000x10, .f32⟩
  | 95 => ⟨S10000x10, .f32⟩
  | 96 => ⟨S_, .f32⟩
  | 97 => ⟨S10000, .f32⟩
  | 98 => ⟨S_, .f32⟩
  | 99 => ⟨S10000, .f32⟩
  | 100 => ⟨S10000, .f32⟩
  | 101 => ⟨S10000x1, .f32⟩
  | 102 => ⟨S10000x10, .f32⟩
  | 103 => ⟨S10000x10, .f32⟩
  | 104 => ⟨S10000x10, .f32⟩
  | 105 => ⟨S_, .f32⟩
  | 106 => ⟨S10000, .f32⟩
  | 107 => ⟨S10000x1, .f32⟩
  | 108 => ⟨S10000x1, .f32⟩
  | 109 => ⟨S10000x10, .f32⟩
  | 110 => ⟨S10000x10, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_cst_2 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v16 : Ref sig .tc := ⟨.hbm, 45, rfl⟩
abbrev main_v17 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v18 : Ref sig .tc := ⟨.hbm, 50, rfl⟩
abbrev main_c_5 : Ref sig .tc := ⟨.hbm, 51, rfl⟩
abbrev main_v19 : Ref sig .tc := ⟨.hbm, 52, rfl⟩
abbrev main_v20 : Ref sig .tc := ⟨.hbm, 53, rfl⟩
abbrev main_c_6 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_7 : Ref sig .tc := ⟨.hbm, 62, rfl⟩
abbrev main_v28 : Ref sig .tc := ⟨.hbm, 63, rfl⟩
abbrev main_v29 : Ref sig .tc := ⟨.hbm, 64, rfl⟩
abbrev main_c_8 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩
abbrev main_c_10 : Ref sig .tc := ⟨.hbm, 79, rfl⟩
abbrev main_v42 : Ref sig .tc := ⟨.hbm, 80, rfl⟩
abbrev main_v43 : Ref sig .tc := ⟨.hbm, 81, rfl⟩
abbrev main_c_11 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_12 : Ref sig .tc := ⟨.hbm, 88, rfl⟩
abbrev main_v49 : Ref sig .tc := ⟨.hbm, 89, rfl⟩
abbrev main_v50 : Ref sig .tc := ⟨.hbm, 90, rfl⟩
abbrev main_cst_13 : Ref sig .tc := ⟨.hbm, 91, rfl⟩
abbrev main_v51 : Ref sig .tc := ⟨.hbm, 92, rfl⟩
abbrev main_v52 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v53 : Ref sig .tc := ⟨.hbm, 97, rfl⟩
abbrev main_v54 : Ref sig .tc := ⟨.hbm, 98, rfl⟩
abbrev main_cst_15 : Ref sig .tc := ⟨.hbm, 99, rfl⟩
abbrev main_call3_v0 : Ref sig .tc := ⟨.hbm, 100, rfl⟩
abbrev main_call3_v1 : Ref sig .tc := ⟨.hbm, 101, rfl⟩
abbrev main_v55 : Ref sig .tc := ⟨.hbm, 102, rfl⟩
abbrev main_c_16 : Ref sig .tc := ⟨.hbm, 103, rfl⟩
abbrev main_v56 : Ref sig .tc := ⟨.hbm, 104, rfl⟩
abbrev main_v57 : Ref sig .tc := ⟨.hbm, 105, rfl⟩
abbrev main_c_17 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_c_18 : Ref sig .tc := ⟨.hbm, 114, rfl⟩
abbrev main_v65 : Ref sig .tc := ⟨.hbm, 115, rfl⟩
abbrev main_v66 : Ref sig .tc := ⟨.hbm, 116, rfl⟩
abbrev main_c_19 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_cst_20 : Ref sig .tc := ⟨.hbm, 127, rfl⟩
abbrev main_v76 : Ref sig .tc := ⟨.hbm, 128, rfl⟩
abbrev main_v77 : Ref sig .tc := ⟨.hbm, 129, rfl⟩
abbrev main_c_21 : Ref sig .tc := ⟨.hbm, 130, rfl⟩
abbrev main_v78 : Ref sig .tc := ⟨.hbm, 131, rfl⟩
abbrev main_v79 : Ref sig .tc := ⟨.hbm, 132, rfl⟩
abbrev main_c_22 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_c_23 : Ref sig .tc := ⟨.hbm, 141, rfl⟩
abbrev main_v87 : Ref sig .tc := ⟨.hbm, 142, rfl⟩
abbrev main_v88 : Ref sig .tc := ⟨.hbm, 143, rfl⟩
abbrev main_c_24 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_25 : Ref sig .tc := ⟨.hbm, 157, rfl⟩
abbrev main_v101 : Ref sig .tc := ⟨.hbm, 158, rfl⟩
abbrev main_c_26 : Ref sig .tc := ⟨.hbm, 159, rfl⟩
abbrev main_v102 : Ref sig .tc := ⟨.hbm, 160, rfl⟩
abbrev main_v103 : Ref sig .tc := ⟨.hbm, 161, rfl⟩
abbrev main_c_27 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_28 : Ref sig .tc := ⟨.hbm, 168, rfl⟩
abbrev main_v109 : Ref sig .tc := ⟨.hbm, 169, rfl⟩
abbrev main_v110 : Ref sig .tc := ⟨.hbm, 170, rfl⟩
abbrev main_cst_29 : Ref sig .tc := ⟨.hbm, 171, rfl⟩
abbrev main_v111 : Ref sig .tc := ⟨.hbm, 172, rfl⟩
abbrev main_v112 : Ref sig .tc := ⟨.hbm, 173, rfl⟩
abbrev main_cst_30 : Ref sig .tc := ⟨.hbm, 174, rfl⟩
abbrev main_call4_v0 : Ref sig .tc := ⟨.hbm, 175, rfl⟩
abbrev main_call4_v1 : Ref sig .tc := ⟨.hbm, 176, rfl⟩
abbrev main_v113 : Ref sig .tc := ⟨.hbm, 177, rfl⟩
abbrev main_v114 : Ref sig .tc := ⟨.hbm, 178, rfl⟩
abbrev main_cst_31 : Ref sig .tc := ⟨.hbm, 179, rfl⟩
abbrev main_call5_v0 : Ref sig .tc := ⟨.hbm, 180, rfl⟩
abbrev main_call5_v1 : Ref sig .tc := ⟨.hbm, 181, rfl⟩
abbrev main_v115 : Ref sig .tc := ⟨.hbm, 182, rfl⟩
abbrev main_c_32 : Ref sig .tc := ⟨.hbm, 183, rfl⟩
abbrev main_v116 : Ref sig .tc := ⟨.hbm, 184, rfl⟩
abbrev main_v117 : Ref sig .tc := ⟨.hbm, 185, rfl⟩
abbrev main_c_33 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_c_34 : Ref sig .tc := ⟨.hbm, 194, rfl⟩
abbrev main_v125 : Ref sig .tc := ⟨.hbm, 195, rfl⟩
abbrev main_v126 : Ref sig .tc := ⟨.hbm, 196, rfl⟩
abbrev main_c_35 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_cst_36 : Ref sig .tc := ⟨.hbm, 207, rfl⟩
abbrev main_v136 : Ref sig .tc := ⟨.hbm, 208, rfl⟩
abbrev main_v137 : Ref sig .tc := ⟨.hbm, 209, rfl⟩
abbrev main_c_37 : Ref sig .tc := ⟨.hbm, 210, rfl⟩
abbrev main_v138 : Ref sig .tc := ⟨.hbm, 211, rfl⟩
abbrev main_v139 : Ref sig .tc := ⟨.hbm, 212, rfl⟩
abbrev main_c_38 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_c_39 : Ref sig .tc := ⟨.hbm, 221, rfl⟩
abbrev main_v147 : Ref sig .tc := ⟨.hbm, 222, rfl⟩
abbrev main_v148 : Ref sig .tc := ⟨.hbm, 223, rfl⟩
abbrev main_c_40 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_cst_41 : Ref sig .tc := ⟨.hbm, 234, rfl⟩
abbrev main_v158 : Ref sig .tc := ⟨.hbm, 235, rfl⟩
abbrev main_v159 : Ref sig .tc := ⟨.hbm, 236, rfl⟩
abbrev main_c_42 : Ref sig .tc := ⟨.hbm, 237, rfl⟩
abbrev main_v160 : Ref sig .tc := ⟨.hbm, 238, rfl⟩
abbrev main_v161 : Ref sig .tc := ⟨.hbm, 239, rfl⟩
abbrev main_c_43 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_c_44 : Ref sig .tc := ⟨.hbm, 248, rfl⟩
abbrev main_v169 : Ref sig .tc := ⟨.hbm, 249, rfl⟩
abbrev main_v170 : Ref sig .tc := ⟨.hbm, 250, rfl⟩
abbrev main_c_45 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_cst_46 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_cst_47 : Ref sig .tc := ⟨.hbm, 269, rfl⟩
abbrev main_v187 : Ref sig .tc := ⟨.hbm, 270, rfl⟩
abbrev main_cst_48 : Ref sig .tc := ⟨.hbm, 271, rfl⟩
abbrev main_v188 : Ref sig .tc := ⟨.hbm, 272, rfl⟩
abbrev main_v189 : Ref sig .tc := ⟨.hbm, 273, rfl⟩
abbrev main_c_49 : Ref sig .tc := ⟨.hbm, 274, rfl⟩
abbrev main_call6_cst : Ref sig .tc := ⟨.hbm, 275, rfl⟩
abbrev main_call6_v0 : Ref sig .tc := ⟨.hbm, 276, rfl⟩
abbrev main_call6_v1 : Ref sig .tc := ⟨.hbm, 277, rfl⟩
abbrev main_call6_cst_0 : Ref sig .tc := ⟨.hbm, 278, rfl⟩
abbrev main_call6_v2 : Ref sig .tc := ⟨.hbm, 279, rfl⟩
abbrev main_call6_v3 : Ref sig .tc := ⟨.hbm, 280, rfl⟩
abbrev main_call6_v4 : Ref sig .tc := ⟨.hbm, 281, rfl⟩
abbrev main_call6_v5 : Ref sig .tc := ⟨.hbm, 282, rfl⟩
abbrev main_call6_v6 : Ref sig .tc := ⟨.hbm, 283, rfl⟩
abbrev main_call6_v7 : Ref sig .tc := ⟨.hbm, 284, rfl⟩
abbrev main_call6_cst_1 : Ref sig .tc := ⟨.hbm, 285, rfl⟩
abbrev main_call6_v8 : Ref sig .tc := ⟨.hbm, 286, rfl⟩
abbrev main_call6_cst_2 : Ref sig .tc := ⟨.hbm, 287, rfl⟩
abbrev main_call6_v9 : Ref sig .tc := ⟨.hbm, 288, rfl⟩
abbrev main_call6_v10 : Ref sig .tc := ⟨.hbm, 289, rfl⟩
abbrev main_call6_v11 : Ref sig .tc := ⟨.hbm, 290, rfl⟩
abbrev main_call6_cst_3 : Ref sig .tc := ⟨.hbm, 291, rfl⟩
abbrev main_call6_v12 : Ref sig .tc := ⟨.hbm, 292, rfl⟩
abbrev main_call6_cst_4 : Ref sig .tc := ⟨.hbm, 293, rfl⟩
abbrev main_call6_call0_v0 : Ref sig .tc := ⟨.hbm, 294, rfl⟩
abbrev main_call6_call0_v1 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_cst_50 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_call7_cst : Ref sig .tc := ⟨.hbm, 313, rfl⟩
abbrev main_call7_v0 : Ref sig .tc := ⟨.hbm, 314, rfl⟩
abbrev main_v206 : Ref sig .tc := ⟨.hbm, 315, rfl⟩
abbrev main_cst_51 : Ref sig .tc := ⟨.hbm, 316, rfl⟩
abbrev main_v207 : Ref sig .tc := ⟨.hbm, 317, rfl⟩
abbrev main_c_52 : Ref sig .tc := ⟨.hbm, 318, rfl⟩
abbrev main_v208 : Ref sig .tc := ⟨.hbm, 319, rfl⟩
abbrev main_v209 : Ref sig .tc := ⟨.hbm, 320, rfl⟩
abbrev main_c_53 : Ref sig .tc := ⟨.hbm, 321, rfl⟩
abbrev main_v210 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_cst_54 : Ref sig .tc := ⟨.hbm, 327, rfl⟩
abbrev main_v215 : Ref sig .tc := ⟨.hbm, 328, rfl⟩
abbrev main_v216 : Ref sig .tc := ⟨.hbm, 329, rfl⟩
abbrev main_cst_55 : Ref sig .tc := ⟨.hbm, 330, rfl⟩
abbrev main_v217 : Ref sig .tc := ⟨.hbm, 331, rfl⟩
abbrev main_v218 : Ref sig .tc := ⟨.hbm, 332, rfl⟩
abbrev main_cst_56 : Ref sig .tc := ⟨.hbm, 333, rfl⟩
abbrev main_call8_v0 : Ref sig .tc := ⟨.hbm, 334, rfl⟩
abbrev main_call8_v1 : Ref sig .tc := ⟨.hbm, 335, rfl⟩
abbrev main_v219 : Ref sig .tc := ⟨.hbm, 336, rfl⟩
abbrev main_v220 : Ref sig .tc := ⟨.hbm, 337, rfl⟩
abbrev main_cst_57 : Ref sig .tc := ⟨.hbm, 338, rfl⟩
abbrev main_call9_v0 : Ref sig .tc := ⟨.hbm, 339, rfl⟩
abbrev main_call9_v1 : Ref sig .tc := ⟨.hbm, 340, rfl⟩
abbrev main_v221 : Ref sig .tc := ⟨.hbm, 341, rfl⟩
abbrev main_c_58 : Ref sig .tc := ⟨.hbm, 342, rfl⟩
abbrev main_v222 : Ref sig .tc := ⟨.hbm, 343, rfl⟩
abbrev main_v223 : Ref sig .tc := ⟨.hbm, 344, rfl⟩
abbrev main_c_59 : Ref sig .tc := ⟨.hbm, 345, rfl⟩
abbrev main_v224 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_c_60 : Ref sig .tc := ⟨.hbm, 353, rfl⟩
abbrev main_v231 : Ref sig .tc := ⟨.hbm, 354, rfl⟩
abbrev main_v232 : Ref sig .tc := ⟨.hbm, 355, rfl⟩
abbrev main_c_61 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_cst_62 : Ref sig .tc := ⟨.hbm, 368, rfl⟩
abbrev main_v244 : Ref sig .tc := ⟨.hbm, 369, rfl⟩
abbrev main_c_63 : Ref sig .tc := ⟨.hbm, 370, rfl⟩
abbrev main_v245 : Ref sig .tc := ⟨.hbm, 371, rfl⟩
abbrev main_v246 : Ref sig .tc := ⟨.hbm, 372, rfl⟩
abbrev main_c_64 : Ref sig .tc := ⟨.hbm, 373, rfl⟩
abbrev main_v247 : Ref sig .tc := ⟨.hbm, 374, rfl⟩
abbrev main_v248 : Ref sig .tc := ⟨.hbm, 375, rfl⟩
abbrev main_v249 : Ref sig .tc := ⟨.hbm, 376, rfl⟩
abbrev main_v250 : Ref sig .tc := ⟨.hbm, 377, rfl⟩
abbrev main_v251 : Ref sig .tc := ⟨.hbm, 378, rfl⟩
abbrev main_cst_65 : Ref sig .tc := ⟨.hbm, 379, rfl⟩
abbrev main_v252 : Ref sig .tc := ⟨.hbm, 380, rfl⟩
abbrev main_v253 : Ref sig .tc := ⟨.hbm, 381, rfl⟩
abbrev main_cst_66 : Ref sig .tc := ⟨.hbm, 382, rfl⟩
abbrev main_v254 : Ref sig .tc := ⟨.hbm, 383, rfl⟩
abbrev main_v255 : Ref sig .tc := ⟨.hbm, 384, rfl⟩
abbrev main_cst_67 : Ref sig .tc := ⟨.hbm, 385, rfl⟩
abbrev main_call10_v0 : Ref sig .tc := ⟨.hbm, 386, rfl⟩
abbrev main_call10_v1 : Ref sig .tc := ⟨.hbm, 387, rfl⟩
abbrev main_v256 : Ref sig .tc := ⟨.hbm, 388, rfl⟩
abbrev main_v257 : Ref sig .tc := ⟨.hbm, 389, rfl⟩
abbrev main_cst_68 : Ref sig .tc := ⟨.hbm, 390, rfl⟩
abbrev main_call11_v0 : Ref sig .tc := ⟨.hbm, 391, rfl⟩
abbrev main_call11_v1 : Ref sig .tc := ⟨.hbm, 392, rfl⟩
abbrev main_v258 : Ref sig .tc := ⟨.hbm, 393, rfl⟩
abbrev main_c_69 : Ref sig .tc := ⟨.hbm, 394, rfl⟩
abbrev main_v259 : Ref sig .tc := ⟨.hbm, 395, rfl⟩
abbrev main_v260 : Ref sig .tc := ⟨.hbm, 396, rfl⟩
abbrev main_c_70 : Ref sig .tc := ⟨.hbm, 397, rfl⟩
abbrev main_v261 : Ref sig .tc := ⟨.hbm, 398, rfl⟩
abbrev main_v262 : Ref sig .tc := ⟨.hbm, 399, rfl⟩
abbrev main_v263 : Ref sig .tc := ⟨.hbm, 400, rfl⟩
abbrev main_v264 : Ref sig .tc := ⟨.hbm, 401, rfl⟩
abbrev main_v265 : Ref sig .tc := ⟨.hbm, 402, rfl⟩
abbrev main_v266 : Ref sig .tc := ⟨.hbm, 403, rfl⟩
abbrev main_v267 : Ref sig .tc := ⟨.hbm, 404, rfl⟩
abbrev main_c_71 : Ref sig .tc := ⟨.hbm, 405, rfl⟩
abbrev main_v268 : Ref sig .tc := ⟨.hbm, 406, rfl⟩
abbrev main_v269 : Ref sig .tc := ⟨.hbm, 407, rfl⟩
abbrev main_c_72 : Ref sig .tc := ⟨.hbm, 408, rfl⟩
abbrev main_v270 : Ref sig .tc := ⟨.hbm, 409, rfl⟩
abbrev main_v271 : Ref sig .tc := ⟨.hbm, 410, rfl⟩
abbrev main_v272 : Ref sig .tc := ⟨.hbm, 411, rfl⟩
abbrev main_v273 : Ref sig .tc := ⟨.hbm, 412, rfl⟩
abbrev main_v274 : Ref sig .tc := ⟨.hbm, 413, rfl⟩
abbrev main_v275 : Ref sig .tc := ⟨.hbm, 414, rfl⟩
abbrev main_v276 : Ref sig .tc := ⟨.hbm, 415, rfl⟩
abbrev main_v277 : Ref sig .tc := ⟨.hbm, 416, rfl⟩
abbrev main_v278 : Ref sig .tc := ⟨.hbm, 417, rfl⟩
abbrev main_cst_73 : Ref sig .tc := ⟨.hbm, 418, rfl⟩
abbrev main_v279 : Ref sig .tc := ⟨.hbm, 419, rfl⟩
abbrev main_v280 : Ref sig .tc := ⟨.hbm, 420, rfl⟩
abbrev main_c_74 : Ref sig .tc := ⟨.hbm, 421, rfl⟩
abbrev main_v281 : Ref sig .tc := ⟨.hbm, 422, rfl⟩
abbrev main_v282 : Ref sig .tc := ⟨.hbm, 423, rfl⟩
abbrev main_c_75 : Ref sig .tc := ⟨.hbm, 424, rfl⟩
abbrev main_v283 : Ref sig .tc := ⟨.hbm, 425, rfl⟩
abbrev main_v284 : Ref sig .tc := ⟨.hbm, 426, rfl⟩
abbrev main_v285 : Ref sig .tc := ⟨.hbm, 427, rfl⟩
abbrev main_v286 : Ref sig .tc := ⟨.hbm, 428, rfl⟩
abbrev main_v287 : Ref sig .tc := ⟨.hbm, 429, rfl⟩
abbrev main_v288 : Ref sig .tc := ⟨.hbm, 430, rfl⟩
abbrev main_v289 : Ref sig .tc := ⟨.hbm, 431, rfl⟩
abbrev main_c_76 : Ref sig .tc := ⟨.hbm, 432, rfl⟩
abbrev main_v290 : Ref sig .tc := ⟨.hbm, 433, rfl⟩
abbrev main_v291 : Ref sig .tc := ⟨.hbm, 434, rfl⟩
abbrev main_c_77 : Ref sig .tc := ⟨.hbm, 435, rfl⟩
abbrev main_v292 : Ref sig .tc := ⟨.hbm, 436, rfl⟩
abbrev main_v293 : Ref sig .tc := ⟨.hbm, 437, rfl⟩
abbrev main_v294 : Ref sig .tc := ⟨.hbm, 438, rfl⟩
abbrev main_v295 : Ref sig .tc := ⟨.hbm, 439, rfl⟩
abbrev main_v296 : Ref sig .tc := ⟨.hbm, 440, rfl⟩
abbrev main_v297 : Ref sig .tc := ⟨.hbm, 441, rfl⟩
abbrev main_v298 : Ref sig .tc := ⟨.hbm, 442, rfl⟩
abbrev main_v299 : Ref sig .tc := ⟨.hbm, 443, rfl⟩
abbrev main_v300 : Ref sig .tc := ⟨.hbm, 444, rfl⟩
abbrev main_v301 : Ref sig .tc := ⟨.hbm, 445, rfl⟩
abbrev main_v302 : Ref sig .tc := ⟨.hbm, 446, rfl⟩
abbrev main_v303 : Ref sig .tc := ⟨.hbm, 447, rfl⟩
abbrev main_cst_78 : Ref sig .tc := ⟨.hbm, 448, rfl⟩
abbrev main_v304 : Ref sig .tc := ⟨.hbm, 449, rfl⟩
abbrev main_c_79 : Ref sig .tc := ⟨.hbm, 450, rfl⟩
abbrev main_v305 : Ref sig .tc := ⟨.hbm, 451, rfl⟩
abbrev main_v306 : Ref sig .tc := ⟨.hbm, 452, rfl⟩
abbrev main_c_80 : Ref sig .tc := ⟨.hbm, 453, rfl⟩
abbrev main_v307 : Ref sig .tc := ⟨.hbm, 454, rfl⟩
abbrev main_v308 : Ref sig .tc := ⟨.hbm, 455, rfl⟩
abbrev main_v309 : Ref sig .tc := ⟨.hbm, 456, rfl⟩
abbrev main_v310 : Ref sig .tc := ⟨.hbm, 457, rfl⟩
abbrev main_v311 : Ref sig .tc := ⟨.hbm, 458, rfl⟩
abbrev main_cst_81 : Ref sig .tc := ⟨.hbm, 459, rfl⟩
abbrev main_v312 : Ref sig .tc := ⟨.hbm, 460, rfl⟩
abbrev main_v313 : Ref sig .tc := ⟨.hbm, 461, rfl⟩
abbrev main_cst_82 : Ref sig .tc := ⟨.hbm, 462, rfl⟩
abbrev main_v314 : Ref sig .tc := ⟨.hbm, 463, rfl⟩
abbrev main_v315 : Ref sig .tc := ⟨.hbm, 464, rfl⟩
abbrev main_cst_83 : Ref sig .tc := ⟨.hbm, 465, rfl⟩
abbrev main_call12_v0 : Ref sig .tc := ⟨.hbm, 466, rfl⟩
abbrev main_call12_v1 : Ref sig .tc := ⟨.hbm, 467, rfl⟩
abbrev main_v316 : Ref sig .tc := ⟨.hbm, 468, rfl⟩
abbrev main_v317 : Ref sig .tc := ⟨.hbm, 469, rfl⟩
abbrev main_cst_84 : Ref sig .tc := ⟨.hbm, 470, rfl⟩
abbrev main_call13_v0 : Ref sig .tc := ⟨.hbm, 471, rfl⟩
abbrev main_call13_v1 : Ref sig .tc := ⟨.hbm, 472, rfl⟩
abbrev main_v318 : Ref sig .tc := ⟨.hbm, 473, rfl⟩
abbrev main_c_85 : Ref sig .tc := ⟨.hbm, 474, rfl⟩
abbrev main_v319 : Ref sig .tc := ⟨.hbm, 475, rfl⟩
abbrev main_v320 : Ref sig .tc := ⟨.hbm, 476, rfl⟩
abbrev main_c_86 : Ref sig .tc := ⟨.hbm, 477, rfl⟩
abbrev main_v321 : Ref sig .tc := ⟨.hbm, 478, rfl⟩
abbrev main_v322 : Ref sig .tc := ⟨.hbm, 479, rfl⟩
abbrev main_v323 : Ref sig .tc := ⟨.hbm, 480, rfl⟩
abbrev main_v324 : Ref sig .tc := ⟨.hbm, 481, rfl⟩
abbrev main_v325 : Ref sig .tc := ⟨.hbm, 482, rfl⟩
abbrev main_v326 : Ref sig .tc := ⟨.hbm, 483, rfl⟩
abbrev main_v327 : Ref sig .tc := ⟨.hbm, 484, rfl⟩
abbrev main_c_87 : Ref sig .tc := ⟨.hbm, 485, rfl⟩
abbrev main_v328 : Ref sig .tc := ⟨.hbm, 486, rfl⟩
abbrev main_v329 : Ref sig .tc := ⟨.hbm, 487, rfl⟩
abbrev main_c_88 : Ref sig .tc := ⟨.hbm, 488, rfl⟩
abbrev main_v330 : Ref sig .tc := ⟨.hbm, 489, rfl⟩
abbrev main_v331 : Ref sig .tc := ⟨.hbm, 490, rfl⟩
abbrev main_v332 : Ref sig .tc := ⟨.hbm, 491, rfl⟩
abbrev main_v333 : Ref sig .tc := ⟨.hbm, 492, rfl⟩
abbrev main_v334 : Ref sig .tc := ⟨.hbm, 493, rfl⟩
abbrev main_v335 : Ref sig .tc := ⟨.hbm, 494, rfl⟩
abbrev main_v336 : Ref sig .tc := ⟨.hbm, 495, rfl⟩
abbrev main_v337 : Ref sig .tc := ⟨.hbm, 496, rfl⟩
abbrev main_v338 : Ref sig .tc := ⟨.hbm, 497, rfl⟩
abbrev main_cst_89 : Ref sig .tc := ⟨.hbm, 498, rfl⟩
abbrev main_v339 : Ref sig .tc := ⟨.hbm, 499, rfl⟩
abbrev main_v340 : Ref sig .tc := ⟨.hbm, 500, rfl⟩
abbrev main_c_90 : Ref sig .tc := ⟨.hbm, 501, rfl⟩
abbrev main_v341 : Ref sig .tc := ⟨.hbm, 502, rfl⟩
abbrev main_v342 : Ref sig .tc := ⟨.hbm, 503, rfl⟩
abbrev main_c_91 : Ref sig .tc := ⟨.hbm, 504, rfl⟩
abbrev main_v343 : Ref sig .tc := ⟨.hbm, 505, rfl⟩
abbrev main_v344 : Ref sig .tc := ⟨.hbm, 506, rfl⟩
abbrev main_v345 : Ref sig .tc := ⟨.hbm, 507, rfl⟩
abbrev main_v346 : Ref sig .tc := ⟨.hbm, 508, rfl⟩
abbrev main_v347 : Ref sig .tc := ⟨.hbm, 509, rfl⟩
abbrev main_v348 : Ref sig .tc := ⟨.hbm, 510, rfl⟩
abbrev main_v349 : Ref sig .tc := ⟨.hbm, 511, rfl⟩
abbrev main_c_92 : Ref sig .tc := ⟨.hbm, 512, rfl⟩
abbrev main_v350 : Ref sig .tc := ⟨.hbm, 513, rfl⟩
abbrev main_v351 : Ref sig .tc := ⟨.hbm, 514, rfl⟩
abbrev main_c_93 : Ref sig .tc := ⟨.hbm, 515, rfl⟩
abbrev main_v352 : Ref sig .tc := ⟨.hbm, 516, rfl⟩
abbrev main_v353 : Ref sig .tc := ⟨.hbm, 517, rfl⟩
abbrev main_v354 : Ref sig .tc := ⟨.hbm, 518, rfl⟩
abbrev main_v355 : Ref sig .tc := ⟨.hbm, 519, rfl⟩
abbrev main_v356 : Ref sig .tc := ⟨.hbm, 520, rfl⟩
abbrev main_v357 : Ref sig .tc := ⟨.hbm, 521, rfl⟩
abbrev main_v358 : Ref sig .tc := ⟨.hbm, 522, rfl⟩
abbrev main_v359 : Ref sig .tc := ⟨.hbm, 523, rfl⟩
abbrev main_v360 : Ref sig .tc := ⟨.hbm, 524, rfl⟩
abbrev main_cst_94 : Ref sig .tc := ⟨.hbm, 525, rfl⟩
abbrev main_v361 : Ref sig .tc := ⟨.hbm, 526, rfl⟩
abbrev main_v362 : Ref sig .tc := ⟨.hbm, 527, rfl⟩
abbrev main_c_95 : Ref sig .tc := ⟨.hbm, 528, rfl⟩
abbrev main_v363 : Ref sig .tc := ⟨.hbm, 529, rfl⟩
abbrev main_v364 : Ref sig .tc := ⟨.hbm, 530, rfl⟩
abbrev main_c_96 : Ref sig .tc := ⟨.hbm, 531, rfl⟩
abbrev main_v365 : Ref sig .tc := ⟨.hbm, 532, rfl⟩
abbrev main_v366 : Ref sig .tc := ⟨.hbm, 533, rfl⟩
abbrev main_v367 : Ref sig .tc := ⟨.hbm, 534, rfl⟩
abbrev main_v368 : Ref sig .tc := ⟨.hbm, 535, rfl⟩
abbrev main_v369 : Ref sig .tc := ⟨.hbm, 536, rfl⟩
abbrev main_v370 : Ref sig .tc := ⟨.hbm, 537, rfl⟩
abbrev main_v371 : Ref sig .tc := ⟨.hbm, 538, rfl⟩
abbrev main_c_97 : Ref sig .tc := ⟨.hbm, 539, rfl⟩
abbrev main_v372 : Ref sig .tc := ⟨.hbm, 540, rfl⟩
abbrev main_v373 : Ref sig .tc := ⟨.hbm, 541, rfl⟩
abbrev main_c_98 : Ref sig .tc := ⟨.hbm, 542, rfl⟩
abbrev main_v374 : Ref sig .tc := ⟨.hbm, 543, rfl⟩
abbrev main_v375 : Ref sig .tc := ⟨.hbm, 544, rfl⟩
abbrev main_v376 : Ref sig .tc := ⟨.hbm, 545, rfl⟩
abbrev main_v377 : Ref sig .tc := ⟨.hbm, 546, rfl⟩
abbrev main_v378 : Ref sig .tc := ⟨.hbm, 547, rfl⟩
abbrev main_cst_99 : Ref sig .tc := ⟨.hbm, 548, rfl⟩
abbrev main_v379 : Ref sig .tc := ⟨.hbm, 549, rfl⟩
abbrev main_v380 : Ref sig .tc := ⟨.hbm, 550, rfl⟩
abbrev main_v381 : Ref sig .tc := ⟨.hbm, 551, rfl⟩
abbrev main_v382 : Ref sig .tc := ⟨.hbm, 552, rfl⟩
abbrev main_v383 : Ref sig .tc := ⟨.hbm, 553, rfl⟩
abbrev main_v384 : Ref sig .tc := ⟨.hbm, 554, rfl⟩
abbrev main_v385 : Ref sig .tc := ⟨.hbm, 555, rfl⟩
abbrev main_v386 : Ref sig .tc := ⟨.hbm, 556, rfl⟩
abbrev main_v387 : Ref sig .tc := ⟨.hbm, 557, rfl⟩
abbrev main_v388 : Ref sig .tc := ⟨.hbm, 558, rfl⟩
abbrev main_v389 : Ref sig .tc := ⟨.hbm, 559, rfl⟩
abbrev main_cst_100 : Ref sig .tc := ⟨.hbm, 560, rfl⟩
abbrev main_v390 : Ref sig .tc := ⟨.hbm, 561, rfl⟩
abbrev main_cst_101 : Ref sig .tc := ⟨.hbm, 562, rfl⟩
abbrev main_v391 : Ref sig .tc := ⟨.hbm, 563, rfl⟩
abbrev main_v392 : Ref sig .tc := ⟨.hbm, 564, rfl⟩
abbrev main_c_102 : Ref sig .tc := ⟨.hbm, 565, rfl⟩
abbrev main_call14_cst : Ref sig .tc := ⟨.hbm, 566, rfl⟩
abbrev main_call14_v0 : Ref sig .tc := ⟨.hbm, 567, rfl⟩
abbrev main_call14_v1 : Ref sig .tc := ⟨.hbm, 568, rfl⟩
abbrev main_call14_cst_0 : Ref sig .tc := ⟨.hbm, 569, rfl⟩
abbrev main_call14_v2 : Ref sig .tc := ⟨.hbm, 570, rfl⟩
abbrev main_call14_v3 : Ref sig .tc := ⟨.hbm, 571, rfl⟩
abbrev main_call14_v4 : Ref sig .tc := ⟨.hbm, 572, rfl⟩
abbrev main_call14_v5 : Ref sig .tc := ⟨.hbm, 573, rfl⟩
abbrev main_call14_v6 : Ref sig .tc := ⟨.hbm, 574, rfl⟩
abbrev main_call14_v7 : Ref sig .tc := ⟨.hbm, 575, rfl⟩
abbrev main_call14_cst_1 : Ref sig .tc := ⟨.hbm, 576, rfl⟩
abbrev main_call14_v8 : Ref sig .tc := ⟨.hbm, 577, rfl⟩
abbrev main_call14_cst_2 : Ref sig .tc := ⟨.hbm, 578, rfl⟩
abbrev main_call14_v9 : Ref sig .tc := ⟨.hbm, 579, rfl⟩
abbrev main_call14_v10 : Ref sig .tc := ⟨.hbm, 580, rfl⟩
abbrev main_call14_v11 : Ref sig .tc := ⟨.hbm, 581, rfl⟩
abbrev main_call14_cst_3 : Ref sig .tc := ⟨.hbm, 582, rfl⟩
abbrev main_call14_v12 : Ref sig .tc := ⟨.hbm, 583, rfl⟩
abbrev main_call14_cst_4 : Ref sig .tc := ⟨.hbm, 584, rfl⟩
abbrev main_call14_call0_v0 : Ref sig .tc := ⟨.hbm, 585, rfl⟩
abbrev main_call14_call0_v1 : Ref sig .tc := ⟨.hbm, 586, rfl⟩
abbrev main_v393 : Ref sig .tc := ⟨.hbm, 587, rfl⟩
abbrev main_v394 : Ref sig .tc := ⟨.hbm, 588, rfl⟩
abbrev main_v395 : Ref sig .tc := ⟨.hbm, 589, rfl⟩
abbrev main_v396 : Ref sig .tc := ⟨.hbm, 590, rfl⟩
abbrev main_cst_103 : Ref sig .tc := ⟨.hbm, 591, rfl⟩
abbrev main_v397 : Ref sig .tc := ⟨.hbm, 592, rfl⟩
abbrev main_v398 : Ref sig .tc := ⟨.hbm, 593, rfl⟩
abbrev main_v399 : Ref sig .tc := ⟨.hbm, 594, rfl⟩
abbrev main_v400 : Ref sig .tc := ⟨.hbm, 595, rfl⟩
abbrev main_v401 : Ref sig .tc := ⟨.hbm, 596, rfl⟩
abbrev main_v402 : Ref sig .tc := ⟨.hbm, 597, rfl⟩
abbrev main_v403 : Ref sig .tc := ⟨.hbm, 598, rfl⟩
abbrev main_v404 : Ref sig .tc := ⟨.hbm, 599, rfl⟩
abbrev main_v405 : Ref sig .tc := ⟨.hbm, 600, rfl⟩
abbrev main_v406 : Ref sig .tc := ⟨.hbm, 601, rfl⟩
abbrev main_v407 : Ref sig .tc := ⟨.hbm, 602, rfl⟩
abbrev main_v408 : Ref sig .tc := ⟨.hbm, 603, rfl⟩
abbrev main_v409 : Ref sig .tc := ⟨.hbm, 604, rfl⟩
abbrev main_v410 : Ref sig .tc := ⟨.hbm, 605, rfl⟩
abbrev main_v411 : Ref sig .tc := ⟨.hbm, 606, rfl⟩
abbrev main_v412 : Ref sig .tc := ⟨.hbm, 607, rfl⟩
abbrev main_call15_cst : Ref sig .tc := ⟨.hbm, 608, rfl⟩
abbrev main_call15_v0 : Ref sig .tc := ⟨.hbm, 609, rfl⟩
abbrev main_call15_cst_0 : Ref sig .tc := ⟨.hbm, 610, rfl⟩
abbrev main_call15_v1 : Ref sig .tc := ⟨.hbm, 611, rfl⟩
abbrev main_call15_v2 : Ref sig .tc := ⟨.hbm, 612, rfl⟩
abbrev main_call15_v3 : Ref sig .tc := ⟨.hbm, 613, rfl⟩
abbrev main_call15_v4 : Ref sig .tc := ⟨.hbm, 614, rfl⟩
abbrev main_call15_v5 : Ref sig .tc := ⟨.hbm, 615, rfl⟩
abbrev main_call15_v6 : Ref sig .tc := ⟨.hbm, 616, rfl⟩
abbrev main_call15_cst_1 : Ref sig .tc := ⟨.hbm, 617, rfl⟩
abbrev main_call15_v7 : Ref sig .tc := ⟨.hbm, 618, rfl⟩
abbrev main_call15_v8 : Ref sig .tc := ⟨.hbm, 619, rfl⟩
abbrev main_call15_v9 : Ref sig .tc := ⟨.hbm, 620, rfl⟩
abbrev main_call15_v10 : Ref sig .tc := ⟨.hbm, 621, rfl⟩
abbrev main_v413 : Ref sig .tc := ⟨.hbm, 622, rfl⟩

abbrev nD : Nat := 1
abbrev τ : Topo := Topo.v7x

variable {F : FTy → Type} [FloatOps F]
-- ==== Proof.Arr.lean ====
/-
  Arrays of extended reals all of whose entries are real numbers, at any extents: `V1 x a` says that the vector `x` holds
  the real `a i` at `i`, `V2` and `V3` say it of a matrix and of an array of rank three. One lemma per array operation
  says what the operation does to such arrays, in real arithmetic.
-/
module

public import Idealize.ShloMosaic.PureOps.Ideal.Laws
public import Idealize.ShloMosaic.Lib.ValueIdxCore
public import Idealize.ShloMosaic.Lib.IdealHost
public import Idealize.ShloMosaic.Lib.MatmulPlain
public import Idealize.ShloMosaic.Lib.Pipeline.Value
public import Idealize.ShloMosaic.Lib.Routing.Ops

@[expose] public section

noncomputable section

namespace Cert.Arr

open Idealize.ShloMosaic Idealize.ShloMosaic.ValueIdx
open scoped BigOperators

/-- The scalar array `x` holds the real `a`. -/
def V0 (x : FVec Ideal ⟨0, ![]⟩ .f32) (a : ℝ) : Prop := x ix0 = ((a : ℝ) : EReal)
/-- The vector `x` holds the reals `a`. -/
def V1 {n : ℕ} (x : FVec Ideal ⟨1, ![n]⟩ .f32) (a : Fin n → ℝ) : Prop := ∀ i, x (ix1 i) = ((a i : ℝ) : EReal)
/-- The matrix `x` holds the reals `a`. -/
def V2 {n m : ℕ} (x : FVec Ideal ⟨2, ![n, m]⟩ .f32) (a : Fin n → Fin m → ℝ) : Prop := ∀ i j, x (ix2 i j) = ((a i j : ℝ) : EReal)
/-- The array `x` of rank three holds the reals `a`. -/
def V3 {n m l : ℕ} (x : FVec Ideal ⟨3, ![n, m, l]⟩ .f32) (a : Fin n → Fin m → Fin l → ℝ) : Prop :=
  ∀ i j k, x (ix3 i j k) = ((a i j k : ℝ) : EReal)

/-! ## Real numbers among the extended reals -/

/-- The real of a finite sum is the sum of the reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of two reals, the divisor not zero. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The reciprocal square root of a positive real. -/
theorem rsqrt_coe (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.2 ha.le), if_neg ha.ne']

/-- The logarithm of a positive real. -/
theorem log_coe (a : ℝ) (ha : 0 < a) : Ideal.log (a : EReal) = ((Real.log a : ℝ) : EReal) := by
  show (if a ≤ 0 then ⊥ else ((Real.log a : ℝ) : EReal)) = _
  rw [if_neg (not_le.2 ha)]

/-- The larger of two reals. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-! ## Literals -/

/-- The word of 0. -/
theorem w_zero : Ideal.ofBits .f32 0x00000000#32 = ((0 : ℝ) : EReal) := by
  rw [Ideal.ofBits_zero_f32]; rfl
/-- The word of 1. -/
theorem w_one : Ideal.ofBits .f32 0x3F800000#32 = ((1 : ℝ) : EReal) := by
  rw [Ideal.ofBits_one_f32]; rfl
/-- The word of 2. -/
theorem w_two : Ideal.ofBits .f32 0x40000000#32 = ((2 : ℝ) : EReal) := by
  simp [Ideal.ofBits, Ideal.ieee, -EReal.coe_mul]; norm_num
/-- The word of 10000. -/
theorem w_10000 : Ideal.ofBits .f32 0x461C4000#32 = ((10000 : ℝ) : EReal) := by
  simp [Ideal.ofBits, Ideal.ieee, -EReal.coe_mul]; norm_num
/-- The real that the word `0x3727C5AC` denotes, the float nearest to 1/100000. -/
def eps : ℝ := 10995116 / 2 ^ 40
theorem eps_pos : 0 < eps := by unfold eps; norm_num
/-- The word of `eps`. -/
theorem w_eps : Ideal.ofBits .f32 0x3727C5AC#32 = ((eps : ℝ) : EReal) := by
  unfold eps
  simp [Ideal.ofBits, Ideal.ieee, -EReal.coe_mul]; norm_num
/-- The word of minus infinity. -/
theorem w_bot : Ideal.ofBits .f32 0xFF800000#32 = ⊥ := by
  simp [Ideal.ofBits, Ideal.ieee]

theorem V0.zero : V0 (constant ⟨0, ![]⟩ .f32 0x00000000#32) 0 := w_zero
theorem V0.one : V0 (constant ⟨0, ![]⟩ .f32 0x3F800000#32) 1 := w_one
theorem V0.two : V0 (constant ⟨0, ![]⟩ .f32 0x40000000#32) 2 := w_two
theorem V0.tenThousand : V0 (constant ⟨0, ![]⟩ .f32 0x461C4000#32) 10000 := w_10000
theorem V0.eps : V0 (constant ⟨0, ![]⟩ .f32 0x3727C5AC#32) eps := w_eps

/-! ## Change of the real description -/

section
variable {n m l : ℕ}

theorem V1.congr {x : FVec Ideal ⟨1, ![n]⟩ .f32} {a b : Fin n → ℝ} (h : V1 x a) (e : ∀ i, a i = b i) : V1 x b :=
  fun i => by rw [h i, e i]
theorem V2.congr {x : FVec Ideal ⟨2, ![n, m]⟩ .f32} {a b : Fin n → Fin m → ℝ} (h : V2 x a) (e : ∀ i j, a i j = b i j) : V2 x b :=
  fun i j => by rw [h i j, e i j]

/-! ## Operations element by element -/

theorem V1.add {x y : FVec Ideal ⟨1, ![n]⟩ .f32} {a b : Fin n → ℝ} (hx : V1 x a) (hy : V1 y b) :
    V1 (addf x y) fun i => a i + b i := fun i => by
  show (x (ix1 i) : EReal) + y (ix1 i) = _
  rw [hx i, hy i, EReal.coe_add]
theorem V1.sub {x y : FVec Ideal ⟨1, ![n]⟩ .f32} {a b : Fin n → ℝ} (hx : V1 x a) (hy : V1 y b) :
    V1 (subf x y) fun i => a i - b i := fun i => by
  show (x (ix1 i) : EReal) - y (ix1 i) = _
  rw [hx i, hy i, EReal.coe_sub]
theorem V1.mul {x y : FVec Ideal ⟨1, ![n]⟩ .f32} {a b : Fin n → ℝ} (hx : V1 x a) (hy : V1 y b) :
    V1 (mulf x y) fun i => a i * b i := fun i => by
  show (x (ix1 i) : EReal) * y (ix1 i) = _
  rw [hx i, hy i, EReal.coe_mul]
theorem V1.neg {x : FVec Ideal ⟨1, ![n]⟩ .f32} {a : Fin n → ℝ} (hx : V1 x a) :
    V1 (Host.negf x) fun i => -a i := fun i => by
  show -(x (ix1 i) : EReal) = _
  rw [hx i, EReal.coe_neg]
theorem V1.div {x y : FVec Ideal ⟨1, ![n]⟩ .f32} {a b : Fin n → ℝ} (hx : V1 x a) (hy : V1 y b) (hb : ∀ i, b i ≠ 0) :
    V1 (Host.divf x y) fun i => a i / b i := fun i => by
  show Ideal.div (x (ix1 i)) (y (ix1 i)) = _
  rw [hx i, hy i, div_coe _ _ (hb i)]
theorem V1.rsqrt {x : FVec Ideal ⟨1, ![n]⟩ .f32} {a : Fin n → ℝ} (hx : V1 x a) (ha : ∀ i, 0 < a i) :
    V1 (Host.rsqrt x) fun i => (Real.sqrt (a i))⁻¹ := fun i => by
  show Ideal.rsqrt (x (ix1 i)) = _
  rw [hx i, rsqrt_coe _ (ha i)]

theorem V2.add {x y : FVec Ideal ⟨2, ![n, m]⟩ .f32} {a b : Fin n → Fin m → ℝ} (hx : V2 x a) (hy : V2 y b) :
    V2 (addf x y) fun i j => a i j + b i j := fun i j => by
  show (x (ix2 i j) : EReal) + y (ix2 i j) = _
  rw [hx i j, hy i j, EReal.coe_add]
theorem V2.sub {x y : FVec Ideal ⟨2, ![n, m]⟩ .f32} {a b : Fin n → Fin m → ℝ} (hx : V2 x a) (hy : V2 y b) :
    V2 (subf x y) fun i j => a i j - b i j := fun i j => by
  show (x (ix2 i j) : EReal) - y (ix2 i j) = _
  rw [hx i j, hy i j, EReal.coe_sub]
theorem V2.mul {x y : FVec Ideal ⟨2, ![n, m]⟩ .f32} {a b : Fin n → Fin m → ℝ} (hx : V2 x a) (hy : V2 y b) :
    V2 (mulf x y) fun i j => a i j * b i j := fun i j => by
  show (x (ix2 i j) : EReal) * y (ix2 i j) = _
  rw [hx i j, hy i j, EReal.coe_mul]
theorem V2.max {x y : FVec Ideal ⟨2, ![n, m]⟩ .f32} {a b : Fin n → Fin m → ℝ} (hx : V2 x a) (hy : V2 y b) :
    V2 (maximumf x y) fun i j => Max.max (a i j) (b i j) := fun i j => by
  show Max.max (x (ix2 i j) : EReal) (y (ix2 i j)) = _
  rw [hx i j, hy i j, max_coe]
theorem V2.div {x y : FVec Ideal ⟨2, ![n, m]⟩ .f32} {a b : Fin n → Fin m → ℝ} (hx : V2 x a) (hy : V2 y b) (hb : ∀ i j, b i j ≠ 0) :
    V2 (Host.divf x y) fun i j => a i j / b i j := fun i j => by
  show Ideal.div (x (ix2 i j)) (y (ix2 i j)) = _
  rw [hx i j, hy i j, div_coe _ _ (hb i j)]
theorem V2.exp {x : FVec Ideal ⟨2, ![n, m]⟩ .f32} {a : Fin n → Fin m → ℝ} (hx : V2 x a) :
    V2 (Host.exp x) fun i j => Real.exp (a i j) := fun i j => by
  show Ideal.exp (x (ix2 i j)) = _
  rw [hx i j]; rfl
theorem V2.log {x : FVec Ideal ⟨2, ![n, m]⟩ .f32} {a : Fin n → Fin m → ℝ} (hx : V2 x a) (ha : ∀ i j, 0 < a i j) :
    V2 (Host.log x) fun i j => Real.log (a i j) := fun i j => by
  show Ideal.log (x (ix2 i j)) = _
  rw [hx i j, log_coe _ (ha i j)]

/-- A selection by the comparison "greater" of two real vectors. -/
theorem V1.selectGt {u v x y : FVec Ideal ⟨1, ![n]⟩ .f32} {p q a b : Fin n → ℝ} (hu : V1 u p) (hv : V1 v q)
    (hx : ∀ i, q i < p i → x (ix1 i) = ((a i : ℝ) : EReal)) (hy : ∀ i, ¬ q i < p i → y (ix1 i) = ((b i : ℝ) : EReal)) :
    V1 (select (cmpf .ogt u v) x y) fun i => if q i < p i then a i else b i := fun i => by
  show Scalar.select (BitVec.ofBool (decide ((v (ix1 i) : EReal) < u (ix1 i)))) (x (ix1 i)) (y (ix1 i)) = _
  rw [hu i, hv i]
  show _ = (((if q i < p i then a i else b i : ℝ)) : EReal)
  by_cases h : q i < p i
  · rw [decide_eq_true (EReal.coe_lt_coe_iff.2 h), show ((if q i < p i then a i else b i : ℝ)) = a i from if_pos h, ← hx i h]; rfl
  · rw [decide_eq_false (fun h' => h (EReal.coe_lt_coe_iff.1 h')), show ((if q i < p i then a i else b i : ℝ)) = b i from if_neg h, ← hy i h]; rfl

/-! ## Broadcasts -/

theorem V0.bc1 {v : FVec Ideal ⟨0, ![]⟩ .f32} {a : ℝ} (hv : V0 v a) (h) :
    V1 (broadcastInDim ⟨1, ![n]⟩ ![] h v) fun _ => a := fun i => (broadcastInDim_scalar_apply h v _).trans hv
theorem V0.bc2 {v : FVec Ideal ⟨0, ![]⟩ .f32} {a : ℝ} (hv : V0 v a) (h) :
    V2 (broadcastInDim ⟨2, ![n, m]⟩ ![] h v) fun _ _ => a := fun i j => (broadcastInDim_scalar_apply h v _).trans hv

/-- A vector as a matrix of one column, read at any entry. -/
theorem bcCol_apply {α : Type} (v : (⟨1, ![n]⟩ : Shape).Idx → α) (h) (i : Fin n) (j : Fin 1) :
    broadcastInDim ⟨2, ![n, 1]⟩ ![0] h v (ix2 i j) = v (ix1 i) := by
  refine broadcastInDim_apply _ h v _ _ fun a => ?_
  match a with
  | ⟨0, _⟩ =>
    show i.val = if n = 1 then 0 else i.val
    have := i.isLt
    split <;> omega
/-- A vector as a matrix of one row, read at any entry. -/
theorem bcRow_apply {α : Type} (v : (⟨1, ![m]⟩ : Shape).Idx → α) (h) (i : Fin 1) (j : Fin m) :
    broadcastInDim ⟨2, ![1, m]⟩ ![1] h v (ix2 i j) = v (ix1 j) := by
  refine broadcastInDim_apply _ h v _ _ fun a => ?_
  match a with
  | ⟨0, _⟩ =>
    show j.val = if m = 1 then 0 else j.val
    have := j.isLt
    split <;> omega

theorem V1.col {v : FVec Ideal ⟨1, ![n]⟩ .f32} {a : Fin n → ℝ} (hv : V1 v a) (h) :
    V2 (broadcastInDim ⟨2, ![n, 1]⟩ ![0] h v) fun i _ => a i := fun i j => (bcCol_apply v h i j).trans (hv i)
theorem V1.row {v : FVec Ideal ⟨1, ![m]⟩ .f32} {a : Fin m → ℝ} (hv : V1 v a) (h) :
    V2 (broadcastInDim ⟨2, ![1, m]⟩ ![1] h v) fun _ j => a j := fun i j => (bcRow_apply v h i j).trans (hv j)

/-- A matrix of one column repeated along its rows. -/
theorem V2.spreadCol {v : FVec Ideal ⟨2, ![n, 1]⟩ .f32} {a : Fin n → Fin 1 → ℝ} (hv : V2 v a) (h) :
    V2 (broadcastInDim ⟨2, ![n, m]⟩ ![0, 1] h v) fun i _ => a i 0 := fun i j => by
  refine (broadcastInDim_apply _ h v _ (ix2 i (0 : Fin 1)) fun k => ?_).trans (hv i 0)
  match k with
  | ⟨0, _⟩ =>
    show i.val = if n = 1 then 0 else i.val
    have := i.isLt
    split <;> omega
  | ⟨1, _⟩ =>
    show (0 : Nat) = if (1 : Nat) = 1 then 0 else j.val
    rw [if_pos rfl]
/-- A matrix of one row repeated down its columns. -/
theorem V2.spreadRow {v : FVec Ideal ⟨2, ![1, m]⟩ .f32} {a : Fin 1 → Fin m → ℝ} (hv : V2 v a) (h) :
    V2 (broadcastInDim ⟨2, ![n, m]⟩ ![0, 1] h v) fun _ j => a 0 j := fun i j => by
  refine (broadcastInDim_apply _ h v _ (ix2 (0 : Fin 1) j) fun k => ?_).trans (hv 0 j)
  match k with
  | ⟨0, _⟩ =>
    show (0 : Nat) = if (1 : Nat) = 1 then 0 else i.val
    rw [if_pos rfl]
  | ⟨1, _⟩ =>
    show j.val = if m = 1 then 0 else j.val
    have := j.isLt
    split <;> omega

/-! ## Slices of a stack of matrices -/

/-- A stack of one matrix read as the matrix. -/
theorem V3.unstack {x : FVec Ideal ⟨3, ![1, m, l]⟩ .f32} {a : Fin 1 → Fin m → Fin l → ℝ} (hx : V3 x a) (h) :
    V2 (shapeCast ⟨2, ![m, l]⟩ x h) fun j k => a 0 j k := fun j k => by
  refine (shapeCast_apply x h _ (ix3 (0 : Fin 1) j k) ?_).trans (hx 0 j k)
  rw [Shape.rowMajor_val_two, Shape.rowMajor_val_three]
  show (0 * m + j.val) * l + k.val = j.val * l + k.val
  rw [Nat.zero_mul, Nat.zero_add]
/-- One matrix of a stack. -/
theorem V3.slice {x : FVec Ideal ⟨3, ![n, m, l]⟩ .f32} {a : Fin n → Fin m → Fin l → ℝ} (hx : V3 x a) (o : Fin n) (h) :
    V3 (extractStridedSlice ⟨3, ![1, m, l]⟩ ![o.val, 0, 0] x h) fun _ j k => a o j k := fun i j k => by
  refine (extractStridedSlice_apply _ x h _ (ix3 o j k) fun q => ?_).trans (hx o j k)
  match q with
  | ⟨0, _⟩ => show o.val = o.val + i.val; omega
  | ⟨1, _⟩ => show j.val = 0 + j.val; omega
  | ⟨2, _⟩ => show k.val = 0 + k.val; omega

/-! ## Products and sums -/

/-- A matrix product. -/
theorem V2.dot {x : FVec Ideal ⟨2, ![n, m]⟩ .f32} {y : FVec Ideal ⟨2, ![m, l]⟩ .f32} {a : Fin n → Fin m → ℝ} {b : Fin m → Fin l → ℝ}
    (hx : V2 x a) (hy : V2 y b) (d : DotDims ⟨2, ![n, m]⟩ ⟨2, ![m, l]⟩ ⟨2, ![n, l]⟩) (hd : d = DotDims.plain n m l) :
    V2 (Host.dotGeneral d none x y) fun i j => ∑ k, a i k * b k j := fun i j => by
  subst hd
  refine (Ideal.matmul_plain_apply none x y (fun _ => (0 : EReal)) i j).trans ?_
  rw [zero_add, coe_sum]
  exact Finset.sum_congr rfl fun k _ => by rw [hx i k, hy k j, EReal.coe_mul]

/-- The sums of the columns. -/
theorem V2.sumCols {x : FVec Ideal ⟨2, ![n, m]⟩ .f32} {a : Fin n → Fin m → ℝ} (hx : V2 x a) {v : FVec Ideal ⟨0, ![]⟩ .f32}
    (hv : V0 v 0) (h : (⟨2, ![n, m]⟩ : Shape).ReducesTo [0] ⟨1, ![m]⟩) (hr : (⟨2, ![n, m]⟩ : Shape).Reduces [0] ⟨1, ![m]⟩) (hu) :
    V1 (Host.reduceAdd x v h hu) fun j => ∑ i, a i j := fun j => by
  rw [hostReduceAdd_apply, Ideal.hostReduceAdd_single h hr, eq_ix0 (Shape.Idx.first hu), hv, EReal.coe_zero, zero_add, coe_sum]
  refine Finset.sum_congr rfl fun k _ => ?_
  refine (congrArg x (funext fun q => ?_)).trans (hx k j)
  match q with
  | ⟨0, _⟩ => rfl
  | ⟨1, _⟩ => rfl

/-- The sums of the rows. -/
theorem V2.sumRows {x : FVec Ideal ⟨2, ![n, m]⟩ .f32} {a : Fin n → Fin m → ℝ} (hx : V2 x a) {v : FVec Ideal ⟨0, ![]⟩ .f32}
    (hv : V0 v 0) (h : (⟨2, ![n, m]⟩ : Shape).ReducesTo [1] ⟨1, ![n]⟩) (hr : (⟨2, ![n, m]⟩ : Shape).Reduces [1] ⟨1, ![n]⟩) (hu) :
    V1 (Host.reduceAdd x v h hu) fun i => ∑ j, a i j := fun i => by
  rw [hostReduceAdd_apply, Ideal.hostReduceAdd_single h hr, eq_ix0 (Shape.Idx.first hu), hv, EReal.coe_zero, zero_add, coe_sum]
  refine Finset.sum_congr rfl fun k _ => ?_
  refine (congrArg x (funext fun q => ?_)).trans (hx i k)
  match q with
  | ⟨0, _⟩ => rfl
  | ⟨1, _⟩ => rfl

end

end Cert.Arr
end
end
-- ==== Proof.ArrIdx.lean ====
/-
  Gathers and scatter-additions of arrays of real numbers, at any extents. An index word is read signed; a gather brings
  it into the range of the operand, a scatter drops an update whose word is out of range.
-/
module

public import proofs.«01_k».proof.Proof.Arr
public import Idealize.ShloMosaic.Lib.Routing.OpsPair
public import Idealize.ShloMosaic.Lib.StableHlo.Predicate

@[expose] public section

noncomputable section

namespace Cert.Arr

open Idealize.ShloMosaic Idealize.ShloMosaic.ValueIdx
open scoped BigOperators

/-- The row of an operand of `N` rows that a gather reads at the index word `w`. -/
def rowOf (N : ℕ) (hN : 0 < N) (w : BitVec 32) : Fin N := ⟨min w.toInt.toNat (N - 1), by omega⟩

/-! ## Dimension numbers -/

section
variable {N E C : ℕ}

/-- `x[idx]` of a vector. -/
abbrev takeD (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `x[idx]` of a matrix: whole rows. -/
abbrev rowsD (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x.at[idx].add(u)` of a vector. -/
abbrev addD (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x.at[idx].add(u)` of a matrix: whole rows. -/
abbrev addRowsD (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `x.at[:, o:].add(u)` of a matrix. -/
abbrev addColsD (N M C : ℕ) (wf : ScatterDims.WF ⟨2, ![N, M]⟩ ⟨1, ![1]⟩ ⟨2, ![N, C]⟩ [0, 1] [] [1] 0) :
    ScatterDims ⟨2, ![N, M]⟩ ⟨1, ![1]⟩ ⟨2, ![N, C]⟩ where
  updateWindowDims := [0, 1]
  insertedWindowDims := []
  scatterDimsToOperandDims := [1]
  indexVectorDim := 0
  wf := wf

/-! ## Where they read and write -/

/-- A gather from a vector, at one position. -/
theorem take_apply {α : Type} (hN : 0 < N) (wf) (x : (⟨1, ![N]⟩ : Shape).Idx → α) (idx : IVec ⟨2, ![E, 1]⟩ 32) (e : Fin E) :
    Host.gather (takeD N E wf) x idx (ix1 e) = x (ix1 (rowOf N hN (idx (ix2 e (0 : Fin 1))))) := by
  rw [← Routing.ofFin_eq_ix1 e, StableHlo.Predicate.gather_take (takeD N E wf) rfl rfl rfl rfl x idx e hN,
    Routing.ofFin_eq_ix1]
  simp only [Routing.ixP_eq_ix2]
  rfl

/-- A gather of rows, at one entry. -/
theorem rows_apply {α : Type} (hN : 0 < N) (wf) (x : (⟨2, ![N, C]⟩ : Shape).Idx → α) (idx : IVec ⟨2, ![E, 1]⟩ 32) (e : Fin E) (j : Fin C) :
    Host.gather (rowsD N E C wf) x idx (ix2 e j) = x (ix2 (rowOf N hN (idx (ix2 e (0 : Fin 1)))) j) := by
  unfold Host.gather
  congr 1
  funext a
  refine Fin.ext ?_
  show (rowsD N E C wf).start (ix2 e j) idx a + (rowsD N E C wf).batchCoord (ix2 e j) a + (rowsD N E C wf).offCoord (ix2 e j) a = _
  rw [GatherDims.batchCoord_eq_zero _ _ _ (fun h => by simp at h), Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowsD N E C wf).startIndexMap from List.mem_singleton.mpr rfl)]
    have hsi : (rowsD N E C wf).siIdx (ix2 e j) ⟨List.idxOf (0 : Fin 2) (rowsD N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · have hs : (rowsD N E C wf).start (ix2 e j) idx 1 = 0 := by
      unfold GatherDims.start
      rw [dif_neg (show (1 : Fin 2) ∉ (rowsD N E C wf).startIndexMap from fun h => absurd (List.mem_singleton.mp h) (show ¬ (1 : Fin 2) = 0 by decide))]
    rw [hs, Nat.zero_add]
    unfold GatherDims.offCoord
    rw [dif_pos ((GatherDims.mem_sKept _ _).mpr ⟨fun h => absurd (List.mem_singleton.mp h) (show ¬ (1 : Fin 2) = 0 by decide), fun h => by simp at h⟩)]
    rfl

/-- Where an update of a vector lands. -/
theorem add_lands (wf) (idx : IVec ⟨2, ![E, 1]⟩ 32) (e : Fin E) (i : Fin N) :
    (addD N E wf).resultIdx? (ix1 e) idx = some (ix1 i) ↔ (idx (ix2 e (0 : Fin 1))).toInt = (i.val : Int) := by
  rw [Routing.resultIdx?_ix1]
  have hwin : (addD N E wf).window (ix1 e) 0 = 0 := by
    unfold ScatterDims.window
    rw [dif_neg fun h => (of_decide_eq_true (List.mem_filter.1 h).2) (List.mem_singleton.2 rfl)]
  have hstart : (addD N E wf).start (ix1 e) idx 0 = (idx (ix2 e (0 : Fin 1))).toInt := by
    unfold ScatterDims.start
    rw [dif_pos (show (0 : Fin 1) ∈ (addD N E wf).scatterDimsToOperandDims from List.mem_singleton.2 rfl)]
    have hsi : (addD N E wf).siIdx (ix1 e) ⟨List.idxOf (0 : Fin 1) (addD N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  rw [hwin, hstart]
  simp

/-- Where an entry of an update of rows lands. -/
theorem addRows_lands (wf) (idx : IVec ⟨2, ![E, 1]⟩ 32) (e : Fin E) (k : Fin C) (i : Fin N) (j : Fin C) :
    (addRowsD N E C wf).resultIdx? (ix2 e k) idx = some (ix2 i j) ↔ (idx (ix2 e (0 : Fin 1))).toInt = (i.val : Int) ∧ k = j := by
  rw [Routing.resultIdx?_ix2]
  have hwin : (addRowsD N E C wf).window (ix2 e k) 0 = 0 := by
    unfold ScatterDims.window
    rw [dif_neg fun h => (of_decide_eq_true (List.mem_filter.1 h).2) (List.mem_singleton.2 rfl)]
  have hwin1 : (addRowsD N E C wf).window (ix2 e k) 1 = k.val := by
    unfold ScatterDims.window
    rw [dif_pos (show (1 : Fin 2) ∈ (addRowsD N E C wf).sKept from List.mem_filter.2 ⟨List.mem_finRange _, decide_eq_true fun h => absurd (List.mem_singleton.mp h) (show ¬ (1 : Fin 2) = 0 by decide)⟩)]
    rfl
  have hstart1 : (addRowsD N E C wf).start (ix2 e k) idx 1 = 0 := by
    unfold ScatterDims.start
    rw [dif_neg (show (1 : Fin 2) ∉ (addRowsD N E C wf).scatterDimsToOperandDims from fun h => absurd (List.mem_singleton.mp h) (show ¬ (1 : Fin 2) = 0 by decide))]
  have hstart : (addRowsD N E C wf).start (ix2 e k) idx 0 = (idx (ix2 e (0 : Fin 1))).toInt := by
    unfold ScatterDims.start
    rw [dif_pos (show (0 : Fin 2) ∈ (addRowsD N E C wf).scatterDimsToOperandDims from List.mem_singleton.2 rfl)]
    have hsi : (addRowsD N E C wf).siIdx (ix2 e k) ⟨List.idxOf (0 : Fin 2) (addRowsD N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  rw [hwin, hwin1, hstart, hstart1, Fin.ext_iff]
  omega

/-- Where an entry of an update of columns lands. -/
theorem addCols_lands {M : ℕ} (wf) (idx : IVec ⟨1, ![1]⟩ 32) (r : Fin N) (k : Fin C) (i : Fin N) (j : Fin M) :
    (addColsD N M C wf).resultIdx? (ix2 r k) idx = some (ix2 i j) ↔ r = i ∧ (idx (ix1 (0 : Fin 1))).toInt + (k.val : Int) = (j.val : Int) := by
  rw [Routing.resultIdx?_ix2]
  have hwin : (addColsD N M C wf).window (ix2 r k) 0 = r.val := by
    unfold ScatterDims.window
    rw [dif_pos (show (0 : Fin 2) ∈ (addColsD N M C wf).sKept from List.mem_filter.2 ⟨List.mem_finRange _, decide_eq_true (List.not_mem_nil)⟩)]
    rfl
  have hwin1 : (addColsD N M C wf).window (ix2 r k) 1 = k.val := by
    unfold ScatterDims.window
    rw [dif_pos (show (1 : Fin 2) ∈ (addColsD N M C wf).sKept from List.mem_filter.2 ⟨List.mem_finRange _, decide_eq_true (List.not_mem_nil)⟩)]
    rfl
  have hstart0 : (addColsD N M C wf).start (ix2 r k) idx 0 = 0 := by
    unfold ScatterDims.start
    rw [dif_neg (show (0 : Fin 2) ∉ (addColsD N M C wf).scatterDimsToOperandDims from fun h => absurd (List.mem_singleton.mp h) (show ¬ (0 : Fin 2) = 1 by decide))]
  have hstart1 : (addColsD N M C wf).start (ix2 r k) idx 1 = (idx (ix1 (0 : Fin 1))).toInt := by
    unfold ScatterDims.start
    rw [dif_pos (show (1 : Fin 2) ∈ (addColsD N M C wf).scatterDimsToOperandDims from List.mem_singleton.2 rfl)]
    have hsi : (addColsD N M C wf).siIdx (ix2 r k) ⟨List.idxOf (1 : Fin 2) (addColsD N M C wf).scatterDimsToOperandDims,
        List.idxOf_lt_length_iff.2 (List.mem_singleton.mpr rfl)⟩ = ix1 (0 : Fin 1) := by
      funext b; refine Fin.ext ?_
      match b with
      | ⟨0, _⟩ => rfl
    rw [hsi]
  rw [hwin, hwin1, hstart0, hstart1, Fin.ext_iff]
  omega

/-! ## Their values -/

theorem V1.take {x : FVec Ideal ⟨1, ![N]⟩ .f32} {a : Fin N → ℝ} (hx : V1 x a) (hN : 0 < N) (d : GatherDims ⟨1, ![N]⟩ ⟨2, ![E, 1]⟩ ⟨1, ![E]⟩)
    (wf) (hd : d = takeD N E wf) (idx : IVec ⟨2, ![E, 1]⟩ 32) :
    V1 (Host.gather d x idx) fun e => a (rowOf N hN (idx (ix2 e (0 : Fin 1)))) := fun e => by
  subst hd
  exact (take_apply hN wf x idx e).trans (hx _)

theorem V2.take {x : FVec Ideal ⟨2, ![N, C]⟩ .f32} {a : Fin N → Fin C → ℝ} (hx : V2 x a) (hN : 0 < N)
    (d : GatherDims ⟨2, ![N, C]⟩ ⟨2, ![E, 1]⟩ ⟨2, ![E, C]⟩) (wf) (hd : d = rowsD N E C wf) (idx : IVec ⟨2, ![E, 1]⟩ 32) :
    V2 (Host.gather d x idx) fun e j => a (rowOf N hN (idx (ix2 e (0 : Fin 1)))) j := fun e j => by
  subst hd
  exact (rows_apply hN wf x idx e j).trans (hx _ _)

/-- A sum over the positions of a vector. -/
theorem sum_ix1 {M : Type*} [AddCommMonoid M] (f : (⟨1, ![E]⟩ : Shape).Idx → M) : ∑ j, f j = ∑ e : Fin E, f (ix1 e) := by
  refine (Fintype.sum_equiv (⟨fun e => ix1 e, fun j => j 0, fun _ => rfl, fun j => (eq_ix1 j).symm⟩ : Fin E ≃ (⟨1, ![E]⟩ : Shape).Idx)
    (fun e => f (ix1 e)) f fun e => rfl).symm

theorem V1.scatterAdd {x : FVec Ideal ⟨1, ![N]⟩ .f32} {u : FVec Ideal ⟨1, ![E]⟩ .f32} {a : Fin N → ℝ} {b : Fin E → ℝ}
    (hx : V1 x a) (hu : V1 u b) (d : ScatterDims ⟨1, ![N]⟩ ⟨2, ![E, 1]⟩ ⟨1, ![E]⟩) (wf) (hd : d = addD N E wf) (idx : IVec ⟨2, ![E, 1]⟩ 32) :
    V1 (Host.scatterAdd d x idx u)
      fun i => a i + ∑ e ∈ Finset.univ.filter (fun e => (idx (ix2 e (0 : Fin 1))).toInt = (i.val : Int)), b e := fun i => by
  subst hd
  show x (ix1 i) + ∑ j ∈ Finset.univ.filter (fun j => (addD N E wf).resultIdx? j idx = some (ix1 i)), u j = _
  rw [hx i, EReal.coe_add, coe_sum, Finset.sum_filter, Finset.sum_filter, sum_ix1]
  refine congrArg (_ + ·) (Finset.sum_congr rfl fun e _ => ?_)
  rw [hu e, if_congr (add_lands wf idx e i) rfl rfl]

theorem V2.scatterAdd {x : FVec Ideal ⟨2, ![N, C]⟩ .f32} {u : FVec Ideal ⟨2, ![E, C]⟩ .f32} {a : Fin N → Fin C → ℝ} {b : Fin E → Fin C → ℝ}
    (hx : V2 x a) (hu : V2 u b) (d : ScatterDims ⟨2, ![N, C]⟩ ⟨2, ![E, 1]⟩ ⟨2, ![E, C]⟩) (wf) (hd : d = addRowsD N E C wf)
    (idx : IVec ⟨2, ![E, 1]⟩ 32) :
    V2 (Host.scatterAdd d x idx u)
      fun i j => a i j + ∑ e ∈ Finset.univ.filter (fun e => (idx (ix2 e (0 : Fin 1))).toInt = (i.val : Int)), b e j := fun i j => by
  subst hd
  show x (ix2 i j) + ∑ q ∈ Finset.univ.filter (fun q => (addRowsD N E C wf).resultIdx? q idx = some (ix2 i j)), u q = _
  rw [hx i j, EReal.coe_add, coe_sum, Finset.sum_filter, Finset.sum_filter, sum_idx2]
  refine congrArg (_ + ·) (Finset.sum_congr rfl fun e _ => ?_)
  rw [Finset.sum_eq_single j]
  · rw [hu e j]
    refine if_congr ?_ rfl rfl
    rw [addRows_lands]
    simp
  · intro k _ hk
    rw [if_neg]
    rw [addRows_lands]
    exact fun h => hk h.2
  · intro h; exact absurd (Finset.mem_univ _) h

/-- A left fold of additions under a condition is the starting value plus the sum of what is added. -/
theorem foldl_add {ι : Type*} (l : List ι) (P : ι → Prop) [DecidablePred P] (u : ι → EReal) (x : EReal) :
    l.foldl (fun a n => if P n then a + u n else a) x = x + (l.map fun n => if P n then u n else 0).sum := by
  induction l generalizing x with
  | nil => simp
  | cons n l ih =>
    rw [List.foldl_cons, ih, List.map_cons, List.sum_cons]
    split
    · rw [add_assoc]
    · rw [zero_add]

/-- The addition of a block of columns, at the column that the index word names. -/
theorem V2.addCols {M : ℕ} {x : FVec Ideal ⟨2, ![N, M]⟩ .f32} {u : FVec Ideal ⟨2, ![N, C]⟩ .f32} {a : Fin N → Fin M → ℝ} {b : Fin N → Fin C → ℝ}
    (hx : V2 x a) (hu : V2 u b) (d : ScatterDims ⟨2, ![N, M]⟩ ⟨1, ![1]⟩ ⟨2, ![N, C]⟩) (wf) (hd : d = addColsD N M C wf)
    (idx : IVec ⟨1, ![1]⟩ 32) (o : ℕ) (ho : (idx (ix1 (0 : Fin 1))).toInt = (o : Int)) :
    V2 (Host.scatter d (FloatOps.addf (F := Ideal) (φ := .f32)) x idx u)
      fun i j => a i j + ∑ k ∈ Finset.univ.filter (fun k : Fin C => o + k.val = j.val), b i k := fun i j => by
  subst hd
  rw [Routing.scatter_at]
  refine (foldl_add (List.finRange _) (fun n => (addColsD N M C wf).resultIdx? ((⟨2, ![N, C]⟩ : Shape).rowMajor.symm n) idx = some (ix2 i j))
    (fun n => u ((⟨2, ![N, C]⟩ : Shape).rowMajor.symm n)) (x (ix2 i j))).trans ?_
  rw [hx i j, EReal.coe_add, coe_sum, ← Fin.sum_univ_def, Finset.sum_filter]
  refine congrArg (_ + ·) ?_
  rw [Fintype.sum_equiv (⟨2, ![N, C]⟩ : Shape).rowMajor.symm _
    (fun q => if (addColsD N M C wf).resultIdx? q idx = some (ix2 i j) then u q else 0) (fun _ => rfl), sum_idx2, Finset.sum_eq_single i]
  · refine Finset.sum_congr rfl fun k _ => ?_
    rw [hu i k]
    refine if_congr ?_ rfl rfl
    rw [addCols_lands, ho]
    constructor
    · intro h; have := h.2; omega
    · intro h; exact ⟨rfl, by omega⟩
  · intro r _ hr
    refine Finset.sum_eq_zero fun k _ => if_neg ?_
    rw [addCols_lands]
    exact fun h => hr h.1
  · intro h; exact absurd (Finset.mem_univ _) h

/-! ## Matrices and vectors side by side -/

/-- Three matrices of equal width side by side. -/
theorem V2.concat3 {x y z : FVec Ideal ⟨2, ![N, C]⟩ .f32} {a b c : Fin N → Fin C → ℝ} (hx : V2 x a) (hy : V2 y b) (hz : V2 z c) {M : ℕ}
    (h : Shape.Concatenates [(⟨2, ![N, C]⟩ : Shape), ⟨2, ![N, C]⟩, ⟨2, ![N, C]⟩] ⟨2, ![N, M]⟩ (1 : Fin 2)) (hM : M = 3 * C)
    {r : Fin N → Fin M → ℝ} (h0 : ∀ i (k : Fin C) (j : Fin M), j.val = k.val → r i j = a i k)
    (h1 : ∀ i (k : Fin C) (j : Fin M), j.val = C + k.val → r i j = b i k) (h2 : ∀ i (k : Fin C) (j : Fin M), j.val = C + C + k.val → r i j = c i k) :
    V2 (concatenate ⟨2, ![N, M]⟩ 1 [⟨⟨2, ![N, C]⟩, x⟩, ⟨⟨2, ![N, C]⟩, y⟩, ⟨⟨2, ![N, C]⟩, z⟩] h) r := fun i j => by
  have hj := j.isLt
  by_cases c0 : j.val < C
  · rw [h0 i ⟨j.val, c0⟩ j rfl, ← hx]
    refine concatenate_apply_piece 1 [⟨⟨2, ![N, C]⟩, x⟩, ⟨⟨2, ![N, C]⟩, y⟩, ⟨⟨2, ![N, C]⟩, z⟩] h (ix2 i j) 0 (by simp) ⟨2, ![N, C]⟩ x rfl rfl 0 rfl (ix2 i ⟨j.val, c0⟩) ?_ ?_
    · intro q hq
      match q with
      | ⟨0, _⟩ => rfl
      | ⟨1, _⟩ => exact absurd rfl hq
    · show 0 + j.val = j.val; omega
  · by_cases c1 : j.val < C + C
    · rw [h1 i ⟨j.val - C, by omega⟩ j (by show j.val = C + (j.val - C); omega), ← hy]
      refine concatenate_apply_piece 1 [⟨⟨2, ![N, C]⟩, x⟩, ⟨⟨2, ![N, C]⟩, y⟩, ⟨⟨2, ![N, C]⟩, z⟩] h (ix2 i j) 1 (by simp) ⟨2, ![N, C]⟩ y rfl rfl C rfl (ix2 i ⟨j.val - C, by omega⟩) ?_ ?_
      · intro q hq
        match q with
        | ⟨0, _⟩ => rfl
        | ⟨1, _⟩ => exact absurd rfl hq
      · show C + (j.val - C) = j.val; omega
    · rw [h2 i ⟨j.val - (C + C), by omega⟩ j (by show j.val = C + C + (j.val - (C + C)); omega), ← hz]
      refine concatenate_apply_piece 1 [⟨⟨2, ![N, C]⟩, x⟩, ⟨⟨2, ![N, C]⟩, y⟩, ⟨⟨2, ![N, C]⟩, z⟩] h (ix2 i j) 2 (by simp) ⟨2, ![N, C]⟩ z rfl rfl (C + C) rfl (ix2 i ⟨j.val - (C + C), by omega⟩) ?_ ?_
      · intro q hq
        match q with
        | ⟨0, _⟩ => rfl
        | ⟨1, _⟩ => exact absurd rfl hq
      · show C + C + (j.val - (C + C)) = j.val; omega

/-- Two matrices of equal width side by side. -/
theorem V2.concat2 {x y : FVec Ideal ⟨2, ![N, C]⟩ .f32} {a b : Fin N → Fin C → ℝ} (hx : V2 x a) (hy : V2 y b) {M : ℕ}
    (h : Shape.Concatenates [(⟨2, ![N, C]⟩ : Shape), ⟨2, ![N, C]⟩] ⟨2, ![N, M]⟩ (1 : Fin 2)) (hM : M = 2 * C)
    {r : Fin N → Fin M → ℝ} (h0 : ∀ i (k : Fin C) (j : Fin M), j.val = k.val → r i j = a i k)
    (h1 : ∀ i (k : Fin C) (j : Fin M), j.val = C + k.val → r i j = b i k) :
    V2 (concatenate ⟨2, ![N, M]⟩ 1 [⟨⟨2, ![N, C]⟩, x⟩, ⟨⟨2, ![N, C]⟩, y⟩] h) r := fun i j => by
  have hj := j.isLt
  by_cases c0 : j.val < C
  · rw [h0 i ⟨j.val, c0⟩ j rfl, ← hx]
    refine concatenate_apply_piece 1 [⟨⟨2, ![N, C]⟩, x⟩, ⟨⟨2, ![N, C]⟩, y⟩] h (ix2 i j) 0 (by simp) ⟨2, ![N, C]⟩ x rfl rfl 0 rfl (ix2 i ⟨j.val, c0⟩) ?_ ?_
    · intro q hq
      match q with
      | ⟨0, _⟩ => rfl
      | ⟨1, _⟩ => exact absurd rfl hq
    · show 0 + j.val = j.val; omega
  · rw [h1 i ⟨j.val - C, by omega⟩ j (by show j.val = C + (j.val - C); omega), ← hy]
    refine concatenate_apply_piece 1 [⟨⟨2, ![N, C]⟩, x⟩, ⟨⟨2, ![N, C]⟩, y⟩] h (ix2 i j) 1 (by simp) ⟨2, ![N, C]⟩ y rfl rfl C rfl (ix2 i ⟨j.val - C, by omega⟩) ?_ ?_
    · intro q hq
      match q with
      | ⟨0, _⟩ => rfl
      | ⟨1, _⟩ => exact absurd rfl hq
    · show C + (j.val - C) = j.val; omega

/-- Three vectors of equal length one after the other. -/
theorem V1.concat3 {x y z : FVec Ideal ⟨1, ![C]⟩ .f32} {a b c : Fin C → ℝ} (hx : V1 x a) (hy : V1 y b) (hz : V1 z c) {M : ℕ}
    (h : Shape.Concatenates [(⟨1, ![C]⟩ : Shape), ⟨1, ![C]⟩, ⟨1, ![C]⟩] ⟨1, ![M]⟩ (0 : Fin 1)) (hM : M = 3 * C)
    {r : Fin M → ℝ} (h0 : ∀ (k : Fin C) (j : Fin M), j.val = k.val → r j = a k)
    (h1 : ∀ (k : Fin C) (j : Fin M), j.val = C + k.val → r j = b k) (h2 : ∀ (k : Fin C) (j : Fin M), j.val = C + C + k.val → r j = c k) :
    V1 (concatenate ⟨1, ![M]⟩ 0 [⟨⟨1, ![C]⟩, x⟩, ⟨⟨1, ![C]⟩, y⟩, ⟨⟨1, ![C]⟩, z⟩] h) r := fun j => by
  have hj := j.isLt
  by_cases c0 : j.val < C
  · rw [h0 ⟨j.val, c0⟩ j rfl, ← hx]
    refine concatenate_apply_piece 0 [⟨⟨1, ![C]⟩, x⟩, ⟨⟨1, ![C]⟩, y⟩, ⟨⟨1, ![C]⟩, z⟩] h (ix1 j) 0 (by simp) ⟨1, ![C]⟩ x rfl rfl 0 rfl (ix1 ⟨j.val, c0⟩) ?_ ?_
    · intro q hq
      match q with
      | ⟨0, _⟩ => exact absurd rfl hq
    · show 0 + j.val = j.val; omega
  · by_cases c1 : j.val < C + C
    · rw [h1 ⟨j.val - C, by omega⟩ j (by show j.val = C + (j.val - C); omega), ← hy]
      refine concatenate_apply_piece 0 [⟨⟨1, ![C]⟩, x⟩, ⟨⟨1, ![C]⟩, y⟩, ⟨⟨1, ![C]⟩, z⟩] h (ix1 j) 1 (by simp) ⟨1, ![C]⟩ y rfl rfl C rfl (ix1 ⟨j.val - C, by omega⟩) ?_ ?_
      · intro q hq
        match q with
        | ⟨0, _⟩ => exact absurd rfl hq
      · show C + (j.val - C) = j.val; omega
    · rw [h2 ⟨j.val - (C + C), by omega⟩ j (by show j.val = C + C + (j.val - (C + C)); omega), ← hz]
      refine concatenate_apply_piece 0 [⟨⟨1, ![C]⟩, x⟩, ⟨⟨1, ![C]⟩, y⟩, ⟨⟨1, ![C]⟩, z⟩] h (ix1 j) 2 (by simp) ⟨1, ![C]⟩ z rfl rfl (C + C) rfl (ix1 ⟨j.val - (C + C), by omega⟩) ?_ ?_
      · intro q hq
        match q with
        | ⟨0, _⟩ => exact absurd rfl hq
      · show C + C + (j.val - (C + C)) = j.val; omega

end

end Cert.Arr
end
end
-- ==== Proof.Model.lean ====
/-
  The network in real arithmetic: the graph's scaled adjacency as an operator on node features, the Chebyshev layers, the
  normalisation over the batch and the logarithm of the softmax; and the identities between the ways of computing them.
-/
module

public import proofs.«01_k».proof.Proof.ArrIdx
public import Mathlib.Tactic.Ring
public import Mathlib.Tactic.FieldSimp
public import Mathlib.Tactic.Linarith
public import Mathlib.Tactic.Positivity

@[expose] public section

noncomputable section

namespace Cert.Model

open Idealize.ShloMosaic Cert.Arr
open scoped BigOperators

/-! ## The graph -/

section
variable {N E : ℕ}

/-- The index word that jnp makes of `w` for an axis of length `n`: a negative word counts from the end. -/
def wrapW (n w : BitVec 32) : BitVec 32 := Scalar.select (IntOp.cmpi .slt w 0#32) (IntOp.addi w n) w

/-- The weighted degree of a node: the sum of the weights of the edges whose source word names it. -/
def deg (ws : Fin E → BitVec 32) (a : Fin E → ℝ) (i : Fin N) : ℝ :=
  0 + ∑ e ∈ Finset.univ.filter (fun e => (ws e).toInt = (i.val : Int)), a e

/-- The reciprocal square root of a degree, zero where the degree is not positive. -/
def dis (g : Fin N → ℝ) (i : Fin N) : ℝ := if 0 < g i then (Real.sqrt (if 0 < g i then g i else 1))⁻¹ else 0

/-- The coefficient of an edge in the scaled adjacency. -/
def nrm (hN : 0 < N) (ws wd : Fin E → BitVec 32) (a : Fin E → ℝ) (d : Fin N → ℝ) (e : Fin E) : ℝ :=
  -(d (rowOf N hN (ws e))) * a e * d (rowOf N hN (wd e))

/-- The scaled adjacency applied to node features. -/
def prop (hN : 0 < N) (ws wd : Fin E → BitVec 32) (r : Fin E → ℝ) {C : ℕ} (A : Fin N → Fin C → ℝ) (i : Fin N) (j : Fin C) : ℝ :=
  0 + ∑ e ∈ Finset.univ.filter (fun e => (wd e).toInt = (i.val : Int)), r e * A (rowOf N hN (ws e)) j

/-- The scaled adjacency commutes with a product from the right. -/
theorem prop_mul (hN : 0 < N) (ws wd : Fin E → BitVec 32) (r : Fin E → ℝ) {K C : ℕ} (A : Fin N → Fin K → ℝ) (W : Fin K → Fin C → ℝ)
    (i : Fin N) (j : Fin C) :
    prop hN ws wd r (fun i j => ∑ k, A i k * W k j) i j = ∑ k, prop hN ws wd r A i k * W k j := by
  unfold prop
  simp only [zero_add, Finset.sum_mul, Finset.mul_sum]
  rw [Finset.sum_comm]
  exact Finset.sum_congr rfl fun k _ => Finset.sum_congr rfl fun e _ => by ring

/-- The scaled adjacency sends equal features to equal features. -/
theorem prop_congr (hN : 0 < N) (ws wd : Fin E → BitVec 32) (r : Fin E → ℝ) {C : ℕ} {A B : Fin N → Fin C → ℝ} (h : ∀ i j, A i j = B i j)
    (i : Fin N) (j : Fin C) : prop hN ws wd r A i j = prop hN ws wd r B i j := by
  obtain rfl : A = B := funext fun i => funext fun j => h i j
  rfl
end

/-! ## Three blocks of columns -/

section
variable {C M : ℕ}

/-- Three rows of equal length one after the other. -/
def cat3 (a b c : Fin C → ℝ) (j : Fin M) : ℝ :=
  if h0 : j.val < C then a ⟨j.val, h0⟩
  else if h1 : j.val - C < C then b ⟨j.val - C, h1⟩
  else if h2 : j.val - (C + C) < C then c ⟨j.val - (C + C), h2⟩ else 0

theorem cat3_0 (a b c : Fin C → ℝ) (k : Fin C) (j : Fin M) (h : j.val = k.val) : cat3 a b c j = a k := by
  unfold cat3
  have := k.isLt
  rw [dif_pos (by omega)]
  exact congrArg a (Fin.ext h)
theorem cat3_1 (a b c : Fin C → ℝ) (k : Fin C) (j : Fin M) (h : j.val = C + k.val) : cat3 a b c j = b k := by
  unfold cat3
  have := k.isLt
  rw [dif_neg (by omega), dif_pos (by omega)]
  exact congrArg b (Fin.ext (by show j.val - C = k.val; omega))
theorem cat3_2 (a b c : Fin C → ℝ) (k : Fin C) (j : Fin M) (h : j.val = C + C + k.val) : cat3 a b c j = c k := by
  unfold cat3
  have := k.isLt
  rw [dif_neg (by omega), dif_neg (by omega), dif_pos (by omega)]
  exact congrArg c (Fin.ext (by show j.val - (C + C) = k.val; omega))

/-- Two rows of equal length one after the other. -/
def cat2 (a b : Fin C → ℝ) (j : Fin M) : ℝ :=
  if h0 : j.val < C then a ⟨j.val, h0⟩ else if h1 : j.val - C < C then b ⟨j.val - C, h1⟩ else 0

theorem cat2_0 (a b : Fin C → ℝ) (k : Fin C) (j : Fin M) (h : j.val = k.val) : cat2 a b j = a k := by
  unfold cat2
  have := k.isLt
  rw [dif_pos (by omega)]
  exact congrArg a (Fin.ext h)
theorem cat2_1 (a b : Fin C → ℝ) (k : Fin C) (j : Fin M) (h : j.val = C + k.val) : cat2 a b j = b k := by
  unfold cat2
  have := k.isLt
  rw [dif_neg (by omega), dif_pos (by omega)]
  exact congrArg b (Fin.ext (by show j.val - C = k.val; omega))

/-- Every column lies in one of the three blocks. -/
theorem three (hM : M = 3 * C) (j : Fin M) : (∃ k : Fin C, j.val = k.val) ∨ (∃ k : Fin C, j.val = C + k.val) ∨ ∃ k : Fin C, j.val = C + C + k.val := by
  have := j.isLt
  by_cases h0 : j.val < C
  · exact Or.inl ⟨⟨j.val, h0⟩, rfl⟩
  · by_cases h1 : j.val < C + C
    · exact Or.inr (Or.inl ⟨⟨j.val - C, by omega⟩, by show j.val = C + (j.val - C); omega⟩)
    · exact Or.inr (Or.inr ⟨⟨j.val - (C + C), by omega⟩, by show j.val = C + C + (j.val - (C + C)); omega⟩)

/-- A sum over the columns that a block starting at `o` holds at the position `j`: none where `j` is before the block. -/
theorem sum_block_none {P : ℕ} (o : ℕ) (j : ℕ) (h : j < o) (f : Fin P → ℝ) :
    ∑ k ∈ Finset.univ.filter (fun k : Fin P => o + k.val = j), f k = 0 := by
  rw [Finset.filter_false_of_mem (fun k _ => by omega), Finset.sum_empty]
/-- The same inside the block: the one column. -/
theorem sum_block_one {P : ℕ} (o : ℕ) (j : ℕ) (p : Fin P) (h : o + p.val = j) (f : Fin P → ℝ) :
    ∑ k ∈ Finset.univ.filter (fun k : Fin P => o + k.val = j), f k = f p := by
  rw [show Finset.univ.filter (fun k : Fin P => o + k.val = j) = {p} from ?_, Finset.sum_singleton]
  ext k
  simp only [Finset.mem_filter, Finset.mem_univ, true_and, Finset.mem_singleton, Fin.ext_iff]
  omega
end

/-! ## The Chebyshev layers -/

section
variable {N E K C M : ℕ}

/-- A layer of order 1. -/
def cheb1 (A : Fin N → Fin K → ℝ) (W : Fin K → Fin C → ℝ) (b : Fin C → ℝ) (i : Fin N) (j : Fin C) : ℝ := ∑ k, A i k * W k j + b j
/-- A layer of order 2, `S` the scaled adjacency. -/
def cheb2 (S : (Fin N → Fin K → ℝ) → Fin N → Fin K → ℝ) (A : Fin N → Fin K → ℝ) (W0 W1 : Fin K → Fin C → ℝ) (b : Fin C → ℝ)
    (i : Fin N) (j : Fin C) : ℝ := ∑ k, A i k * W0 k j + ∑ k, S A i k * W1 k j + b j
/-- A layer of order 3, `S` the scaled adjacency. -/
def cheb3 (S : (Fin N → Fin K → ℝ) → Fin N → Fin K → ℝ) (A : Fin N → Fin K → ℝ) (W0 W1 W2 : Fin K → Fin C → ℝ) (b : Fin C → ℝ)
    (i : Fin N) (j : Fin C) : ℝ :=
  ∑ k, A i k * W0 k j + ∑ k, S A i k * W1 k j + ∑ k, (2 * S (S A) i k - A i k) * W2 k j + b j

/-- The three layers side by side. -/
def block (S : (Fin N → Fin K → ℝ) → Fin N → Fin K → ℝ) (A : Fin N → Fin K → ℝ) (W W20 W21 W30 W31 W32 : Fin K → Fin C → ℝ)
    (b1 b2 b3 : Fin C → ℝ) (i : Fin N) (j : Fin M) : ℝ :=
  cat3 (cheb1 A W b1 i) (cheb2 S A W20 W21 b2 i) (cheb3 S A W30 W31 W32 b3 i) j

/-- One product with the side by side weights, and the rest of the second and third layers added to their columns. -/
theorem block_fused (hM : M = 3 * C) (S : (Fin N → Fin K → ℝ) → Fin N → Fin K → ℝ) (A : Fin N → Fin K → ℝ)
    (W W20 W21 W30 W31 W32 : Fin K → Fin C → ℝ) (b1 b2 b3 : Fin C → ℝ) {P : ℕ} (hP : P = 2 * C) (i : Fin N) (j : Fin M) :
    (∑ k, A i k * cat3 (W k) (W20 k) (fun j => W30 k j - W32 k j) j + cat3 b1 b2 b3 j)
        + ∑ q ∈ Finset.univ.filter (fun q : Fin P => C + q.val = j.val), ∑ k, S A i k * cat2 (W21 k) (W31 k) q
        + ∑ q ∈ Finset.univ.filter (fun q : Fin C => C + C + q.val = j.val), ∑ k, S (S A) i k * (2 * W32 k q)
      = block S A W W20 W21 W30 W31 W32 b1 b2 b3 i j := by
  unfold block
  rcases three hM j with ⟨k, h⟩ | ⟨k, h⟩ | ⟨k, h⟩
  · have := k.isLt
    rw [cat3_0 _ _ _ k j h, cat3_0 _ _ _ k j h, sum_block_none _ _ (by omega), sum_block_none _ _ (by omega)]
    simp only [cat3_0 _ _ _ k j h]
    unfold cheb1
    ring
  · have := k.isLt
    rw [cat3_1 _ _ _ k j h, cat3_1 _ _ _ k j h, sum_block_one _ _ (⟨k.val, by omega⟩ : Fin P) h.symm, sum_block_none _ _ (by omega)]
    simp only [cat3_1 _ _ _ k j h, cat2_0 _ _ k (⟨k.val, by omega⟩ : Fin P) rfl]
    unfold cheb2
    ring
  · have := k.isLt
    rw [cat3_2 _ _ _ k j h, cat3_2 _ _ _ k j h, sum_block_one _ _ (⟨C + k.val, by omega⟩ : Fin P) (by show C + (C + k.val) = j.val; omega),
      sum_block_one _ _ k h.symm]
    simp only [cat3_2 _ _ _ k j h, cat2_1 _ _ k (⟨C + k.val, by omega⟩ : Fin P) rfl]
    unfold cheb3
    simp only [mul_sub, sub_mul, Finset.sum_sub_distrib, mul_assoc, mul_left_comm _ (2 : ℝ)]
    ring

/-- The same with the scaled adjacency applied after the products with the weights. -/
theorem block_late (hM : M = 3 * C) (hN : 0 < N) (ws wd : Fin E → BitVec 32) (r : Fin E → ℝ) (A : Fin N → Fin K → ℝ)
    (W W20 W21 W30 W31 W32 : Fin K → Fin C → ℝ) (b1 b2 b3 : Fin C → ℝ) (i : Fin N) (j : Fin M) :
    (∑ k, A i k * cat3 (W k) (W20 k) (fun j => W30 k j - W32 k j) j + cat3 b1 b2 b3 j)
        + cat3 (fun _ => 0) (prop hN ws wd r (fun i j => ∑ k, A i k * W21 k j) i)
            (fun q => prop hN ws wd r (fun i j => ∑ k, A i k * W31 k j) i q
              + 2 * prop hN ws wd r (fun i j => prop hN ws wd r (fun i j => ∑ k, A i k * W32 k j) i j) i q) j
      = block (fun B => prop hN ws wd r B) A W W20 W21 W30 W31 W32 b1 b2 b3 i j := by
  unfold block
  rcases three hM j with ⟨k, h⟩ | ⟨k, h⟩ | ⟨k, h⟩
  · rw [cat3_0 _ _ _ k j h, cat3_0 _ _ _ k j h, cat3_0 _ _ _ k j h]
    simp only [cat3_0 _ _ _ k j h]
    unfold cheb1
    ring
  · rw [cat3_1 _ _ _ k j h, cat3_1 _ _ _ k j h, cat3_1 _ _ _ k j h, prop_mul]
    simp only [cat3_1 _ _ _ k j h]
    unfold cheb2
    ring
  · rw [cat3_2 _ _ _ k j h, cat3_2 _ _ _ k j h, cat3_2 _ _ _ k j h, prop_mul,
      prop_congr hN ws wd r (fun i j => prop_mul hN ws wd r A W32 i j), prop_mul]
    simp only [cat3_2 _ _ _ k j h]
    unfold cheb3
    simp only [mul_sub, sub_mul, Finset.sum_sub_distrib, mul_assoc]
    rw [← Finset.mul_sum]
    ring
end

/-! ## Normalisation over the batch -/

section
variable {N M : ℕ}

/-- The mean of a column. -/
def mean (f : Fin N → Fin M → ℝ) (j : Fin M) : ℝ := (∑ i, f i j) / 10000
/-- The variance of a column. -/
def var (f : Fin N → Fin M → ℝ) (j : Fin M) : ℝ := (∑ i, (f i j - mean f j) * (f i j - mean f j)) / 10000
/-- The normalised, scaled and shifted features. -/
def bn (f : Fin N → Fin M → ℝ) (g b : Fin M → ℝ) (i : Fin N) (j : Fin M) : ℝ :=
  (f i j - mean f j) * (Real.sqrt (var f j + eps))⁻¹ * g j + b j

theorem var_nonneg (f : Fin N → Fin M → ℝ) (j : Fin M) : 0 ≤ var f j :=
  div_nonneg (Finset.sum_nonneg fun i _ => mul_self_nonneg _) (by norm_num)
theorem var_eps_pos (f : Fin N → Fin M → ℝ) (j : Fin M) : 0 < var f j + eps := by
  have := var_nonneg f j
  have := eps_pos
  linarith

/-- The variance is the mean of the squares less the square of the mean. -/
theorem var_eq (hN : N = 10000) (f : Fin N → Fin M → ℝ) (j : Fin M) :
    (∑ i, f i j * f i j) / 10000 - mean f j * mean f j = var f j := by
  have hs : ∑ i, f i j = 10000 * mean f j := by unfold mean; field_simp
  have hc : ((Finset.univ : Finset (Fin N)).card : ℝ) = 10000 := by rw [Finset.card_univ, Fintype.card_fin, hN]; norm_num
  unfold var
  have : ∀ i, (f i j - mean f j) * (f i j - mean f j) = f i j * f i j - 2 * mean f j * f i j + mean f j * mean f j := fun i => by ring
  simp only [this, Finset.sum_add_distrib, Finset.sum_sub_distrib, ← Finset.mul_sum, Finset.sum_const, nsmul_eq_mul, hs, hc]
  field_simp
  ring

/-- Normalisation as one scale and one shift of each column. -/
theorem bn_affine (hN : N = 10000) (f : Fin N → Fin M → ℝ) (g b : Fin M → ℝ) (i : Fin N) (j : Fin M) :
    f i j * (g j * (Real.sqrt ((∑ i, f i j * f i j) / 10000 - mean f j * mean f j + eps))⁻¹)
        + (b j - mean f j * (g j * (Real.sqrt ((∑ i, f i j * f i j) / 10000 - mean f j * mean f j + eps))⁻¹))
      = bn f g b i j := by
  rw [var_eq hN]
  unfold bn
  ring
end

/-! ## The logarithm of the softmax -/

section
variable {N C : ℕ}

/-- The logarithm of the softmax of each row. -/
def lsm (z : Fin N → Fin C → ℝ) (i : Fin N) (j : Fin C) : ℝ := z i j - Real.log (∑ k, Real.exp (z i k))

theorem sum_exp_pos (hC : 0 < C) (z : Fin C → ℝ) : 0 < ∑ k, Real.exp (z k) :=
  Finset.sum_pos (fun k _ => Real.exp_pos _) ⟨⟨0, hC⟩, Finset.mem_univ _⟩

/-- A shift of the row by any number comes back out of the logarithm. -/
theorem log_sum_shift (hC : 0 < C) (z : Fin C → ℝ) (r : ℝ) : Real.log (∑ k, Real.exp (z k - r)) + r = Real.log (∑ k, Real.exp (z k)) := by
  have h : ∑ k, Real.exp (z k - r) = (∑ k, Real.exp (z k)) * Real.exp (-r) := by
    rw [Finset.sum_mul]
    exact Finset.sum_congr rfl fun k _ => by rw [← Real.exp_add, sub_eq_add_neg]
  rw [h, Real.log_mul (sum_exp_pos hC z).ne' (Real.exp_pos _).ne', Real.log_exp]
  ring
end

end Cert.Model
end
end
-- ==== Proof.Idiom.lean ====
/-
  The steps of the network as array programs, at any extents: what the index columns, the degrees, the edge coefficients,
  the scaled adjacency and the means are in real arithmetic.
-/
module

public import proofs.«01_k».proof.Proof.Model

@[expose] public section

noncomputable section

namespace Cert.Arr

open Idealize.ShloMosaic Idealize.ShloMosaic.ValueIdx Cert.Model
open scoped BigOperators

section
variable {N E C M : ℕ}

/-- The vector of words `v` holds the words `w`. -/
def W1 (v : IVec ⟨1, ![E]⟩ 32) (w : Fin E → BitVec 32) : Prop := ∀ e, v (ix1 e) = w e
/-- The column of words `v` holds the words `w`. -/
def IC (v : IVec ⟨2, ![E, 1]⟩ 32) (w : Fin E → BitVec 32) : Prop := ∀ e, v (ix2 e (0 : Fin 1)) = w e

/-- One row of a matrix of words, as a vector. -/
theorem W1.rowOfMatrix {R : ℕ} (x : IVec ⟨2, ![R, E]⟩ 32) (o : Fin R) (h h') :
    W1 (shapeCast ⟨1, ![E]⟩ (extractStridedSlice ⟨2, ![1, E]⟩ ![o.val, 0] x h) h') fun e => x (ix2 o e) := fun e => by
  refine (shapeCast_apply _ h' _ (ix2 (0 : Fin 1) e) ?_).trans ?_
  · rw [Shape.rowMajor_val_one, Shape.rowMajor_val_two]
    show 0 * E + e.val = e.val
    omega
  · refine extractStridedSlice_apply _ x h _ (ix2 o e) fun q => ?_
    match q with
    | ⟨0, _⟩ => show o.val = o.val + 0; omega
    | ⟨1, _⟩ => show e.val = 0 + e.val; omega

/-- The column of wrapped index words. -/
theorem W1.wrapCol {v : IVec ⟨1, ![E]⟩ 32} {w : Fin E → BitVec 32} (hv : W1 v w) (n : BitVec 32) (h h0 h1) :
    IC (broadcastInDim ⟨2, ![E, 1]⟩ ![0] h (select (cmpi .slt v (broadcastInDim ⟨1, ![E]⟩ ![] h0 (constantI ⟨0, ![]⟩ 32 0#32)))
      (addi v (broadcastInDim ⟨1, ![E]⟩ ![] h1 (constantI ⟨0, ![]⟩ 32 n))) v)) fun e => wrapW n (w e) := fun e => by
  rw [bcCol_apply]
  show Scalar.select (IntOp.cmpi .slt (v (ix1 e)) _) (IntOp.addi (v (ix1 e)) _) (v (ix1 e)) = _
  rw [hv e]
  rfl

/-- The degrees. -/
theorem V1.deg {a : FVec Ideal ⟨1, ![E]⟩ .f32} {ar : Fin E → ℝ} (ha : V1 a ar) {z : FVec Ideal ⟨0, ![]⟩ .f32} (hz : V0 z 0) {col : IVec ⟨2, ![E, 1]⟩ 32}
    {ws : Fin E → BitVec 32} (hc : IC col ws) (d : ScatterDims ⟨1, ![N]⟩ ⟨2, ![E, 1]⟩ ⟨1, ![E]⟩) (wf) (hd : d = addD N E wf) (h) :
    V1 (Host.scatterAdd d (broadcastInDim ⟨1, ![N]⟩ ![] h z) col a) (Model.deg ws ar) := by
  refine ((hz.bc1 h).scatterAdd ha d wf hd col).congr fun i => ?_
  unfold Model.deg
  congr 1
  exact Finset.sum_congr (Finset.filter_congr fun e _ => by rw [hc e]) fun _ _ => rfl

/-- The reciprocal square roots of the degrees. -/
theorem V1.dis {g : FVec Ideal ⟨1, ![N]⟩ .f32} {gr : Fin N → ℝ} (hg : V1 g gr) {z z' o z'' : FVec Ideal ⟨0, ![]⟩ .f32} (hz : V0 z 0) (hz' : V0 z' 0)
    (ho : V0 o 1) (hz'' : V0 z'' 0) (h h' h'' h''') :
    V1 (select (cmpf .ogt g (broadcastInDim ⟨1, ![N]⟩ ![] h z))
      (Host.rsqrt (select (cmpf .ogt g (broadcastInDim ⟨1, ![N]⟩ ![] h' z')) g (broadcastInDim ⟨1, ![N]⟩ ![] h'' o)))
      (broadcastInDim ⟨1, ![N]⟩ ![] h''' z'')) (Model.dis gr) := by
  have hin := V1.selectGt hg (hz'.bc1 h') (fun i _ => hg i) (fun i _ => ho.bc1 h'' i)
  have hrs := hin.rsqrt fun i => by
    by_cases hi : 0 < gr i
    · rw [if_pos hi]; exact hi
    · rw [if_neg hi]; exact one_pos
  exact V1.selectGt hg (hz.bc1 h) (fun i _ => hrs i) (fun i _ => hz''.bc1 h''' i)

/-- The coefficients of the edges. -/
theorem V1.nrm {ds : FVec Ideal ⟨1, ![N]⟩ .f32} {dr : Fin N → ℝ} (hds : V1 ds dr) {a : FVec Ideal ⟨1, ![E]⟩ .f32} {ar : Fin E → ℝ} (ha : V1 a ar)
    {cs cd : IVec ⟨2, ![E, 1]⟩ 32} {ws wd : Fin E → BitVec 32} (hs : IC cs ws) (hd : IC cd wd) (hN : 0 < N)
    (g : GatherDims ⟨1, ![N]⟩ ⟨2, ![E, 1]⟩ ⟨1, ![E]⟩) (wf) (hg : g = takeD N E wf) :
    V1 (mulf (mulf (Host.negf (Host.gather g ds cs)) a) (Host.gather g ds cd)) (Model.nrm hN ws wd ar dr) := by
  refine (((hds.take hN g wf hg cs).neg.mul ha).mul (hds.take hN g wf hg cd)).congr fun e => ?_
  rw [hs e, hd e]
  rfl

/-- The scaled adjacency applied to features. -/
theorem V2.prop {x : FVec Ideal ⟨2, ![N, C]⟩ .f32} {A : Fin N → Fin C → ℝ} (hx : V2 x A) {r : FVec Ideal ⟨1, ![E]⟩ .f32} {rr : Fin E → ℝ} (hr : V1 r rr)
    {cs cd : IVec ⟨2, ![E, 1]⟩ 32} {ws wd : Fin E → BitVec 32} (hs : IC cs ws) (hd : IC cd wd) {z : FVec Ideal ⟨0, ![]⟩ .f32} (hz : V0 z 0) (hN : 0 < N)
    (g : GatherDims ⟨2, ![N, C]⟩ ⟨2, ![E, 1]⟩ ⟨2, ![E, C]⟩) (wf) (hg : g = rowsD N E C wf)
    (d : ScatterDims ⟨2, ![N, C]⟩ ⟨2, ![E, 1]⟩ ⟨2, ![E, C]⟩) (wf') (hd' : d = addRowsD N E C wf') (h h' h'') :
    V2 (Host.scatterAdd d (broadcastInDim ⟨2, ![N, C]⟩ ![] h z) cd
      (mulf (broadcastInDim ⟨2, ![E, C]⟩ ![0, 1] h' (broadcastInDim ⟨2, ![E, 1]⟩ ![0] h'' r)) (Host.gather g x cs))) (Model.prop hN ws wd rr A) := by
  refine ((hz.bc2 h).scatterAdd (((hr.col h'').spreadCol h').mul (hx.take hN g wf hg cs)) d wf' hd' cd).congr fun i j => ?_
  unfold Model.prop
  congr 1
  exact Finset.sum_congr (Finset.filter_congr fun e _ => by rw [hd e]) fun e _ => by rw [hs e]

/-- A vector added to every row. -/
theorem V1.rows {v : FVec Ideal ⟨1, ![M]⟩ .f32} {a : Fin M → ℝ} (hv : V1 v a) (h h') :
    V2 (broadcastInDim ⟨2, ![N, M]⟩ ![0, 1] h (broadcastInDim ⟨2, ![1, M]⟩ ![1] h' v)) fun _ j => a j := (hv.row h').spreadRow h

/-- The means of the columns. -/
theorem V2.mean {x : FVec Ideal ⟨2, ![N, M]⟩ .f32} {a : Fin N → Fin M → ℝ} (hx : V2 x a) {z t : FVec Ideal ⟨0, ![]⟩ .f32}
    (hz : V0 z 0) (ht : V0 t 10000) (h : (⟨2, ![N, M]⟩ : Shape).ReducesTo [0] ⟨1, ![M]⟩) (hr : (⟨2, ![N, M]⟩ : Shape).Reduces [0] ⟨1, ![M]⟩) (hu h') :
    V1 (Host.divf (Host.reduceAdd x z h hu) (broadcastInDim ⟨1, ![M]⟩ ![] h' t)) fun j => (∑ i, a i j) / 10000 :=
  (hx.sumCols hz h hr hu).div (ht.bc1 h') fun _ => by norm_num

end

end Cert.Arr
end
end
-- ==== Proof.Net.lean ====
/-
  The network of this kernel at its own extents: the arguments as real numbers and index words, what it is for the arrays
  of a program to hold them, and the stages of the network as functions of them.
-/
module

public import proofs.«01_k».proof.Proof.Idiom

@[expose] public section

noncomputable section

namespace Cert.Net

open Idealize.ShloMosaic Idealize.ShloMosaic.ValueIdx Cert.Arr Cert.Model
open scoped BigOperators

/-- The arguments: real numbers, and the two rows of index words. -/
structure Args where
  x : Fin 10000 → Fin 128 → ℝ
  ei : Fin 2 → Fin 160000 → BitVec 32
  ew : Fin 160000 → ℝ
  w11 : Fin 1 → Fin 128 → Fin 400 → ℝ
  b11 : Fin 400 → ℝ
  w12 : Fin 2 → Fin 128 → Fin 400 → ℝ
  b12 : Fin 400 → ℝ
  w13 : Fin 3 → Fin 128 → Fin 400 → ℝ
  b13 : Fin 400 → ℝ
  w21 : Fin 1 → Fin 1200 → Fin 100 → ℝ
  b21 : Fin 100 → ℝ
  w22 : Fin 2 → Fin 1200 → Fin 100 → ℝ
  b22 : Fin 100 → ℝ
  w23 : Fin 3 → Fin 1200 → Fin 100 → ℝ
  b23 : Fin 100 → ℝ
  g1 : Fin 1200 → ℝ
  s1 : Fin 1200 → ℝ
  g2 : Fin 300 → ℝ
  s2 : Fin 300 → ℝ
  lw : Fin 300 → Fin 10 → ℝ
  lb : Fin 10 → ℝ

/-- The arrays `x0` to `x20` hold the arguments `a`. -/
structure Holds (a : Args) (x0 : FVec Ideal ⟨2, ![10000, 128]⟩ .f32) (x1 : IVec ⟨2, ![2, 160000]⟩ 32) (x2 : FVec Ideal ⟨1, ![160000]⟩ .f32)
    (x3 : FVec Ideal ⟨3, ![1, 128, 400]⟩ .f32) (x4 : FVec Ideal ⟨1, ![400]⟩ .f32) (x5 : FVec Ideal ⟨3, ![2, 128, 400]⟩ .f32)
    (x6 : FVec Ideal ⟨1, ![400]⟩ .f32) (x7 : FVec Ideal ⟨3, ![3, 128, 400]⟩ .f32) (x8 : FVec Ideal ⟨1, ![400]⟩ .f32)
    (x9 : FVec Ideal ⟨3, ![1, 1200, 100]⟩ .f32) (x10 : FVec Ideal ⟨1, ![100]⟩ .f32) (x11 : FVec Ideal ⟨3, ![2, 1200, 100]⟩ .f32)
    (x12 : FVec Ideal ⟨1, ![100]⟩ .f32) (x13 : FVec Ideal ⟨3, ![3, 1200, 100]⟩ .f32) (x14 : FVec Ideal ⟨1, ![100]⟩ .f32)
    (x15 x16 : FVec Ideal ⟨1, ![1200]⟩ .f32) (x17 x18 : FVec Ideal ⟨1, ![300]⟩ .f32) (x19 : FVec Ideal ⟨2, ![300, 10]⟩ .f32)
    (x20 : FVec Ideal ⟨1, ![10]⟩ .f32) : Prop where
  h0 : V2 x0 a.x
  h1 : ∀ i e, x1 (ix2 i e) = a.ei i e
  h2 : V1 x2 a.ew
  h3 : V3 x3 a.w11
  h4 : V1 x4 a.b11
  h5 : V3 x5 a.w12
  h6 : V1 x6 a.b12
  h7 : V3 x7 a.w13
  h8 : V1 x8 a.b13
  h9 : V3 x9 a.w21
  h10 : V1 x10 a.b21
  h11 : V3 x11 a.w22
  h12 : V1 x12 a.b22
  h13 : V3 x13 a.w23
  h14 : V1 x14 a.b23
  h15 : V1 x15 a.g1
  h16 : V1 x16 a.s1
  h17 : V1 x17 a.g2
  h18 : V1 x18 a.s2
  h19 : V2 x19 a.lw
  h20 : V1 x20 a.lb

/-- There are nodes. -/
theorem hN : 0 < 10000 := by norm_num

variable (a : Args)

/-- The wrapped source words. -/
def ws (e : Fin 160000) : BitVec 32 := wrapW 10000#32 (a.ei 0 e)
/-- The wrapped destination words. -/
def wd (e : Fin 160000) : BitVec 32 := wrapW 10000#32 (a.ei 1 e)
/-- The degrees. -/
def dg (i : Fin 10000) : ℝ := deg (ws a) a.ew i
/-- The coefficients of the edges. -/
def nr (e : Fin 160000) : ℝ := nrm hN (ws a) (wd a) a.ew (dis (dg a)) e
/-- The scaled adjacency. -/
def S {C : ℕ} (A : Fin 10000 → Fin C → ℝ) : Fin 10000 → Fin C → ℝ := prop hN (ws a) (wd a) (nr a) A
/-- The first three layers side by side. -/
def pre1 (i : Fin 10000) (j : Fin 1200) : ℝ :=
  block (fun A => S a A) a.x (a.w11 0) (a.w12 0) (a.w12 1) (a.w13 0) (a.w13 1) (a.w13 2) a.b11 a.b12 a.b13 i j
/-- The hidden features. -/
def hid (i : Fin 10000) (j : Fin 1200) : ℝ := max (bn (pre1 a) a.g1 a.s1 i j) 0
/-- The second three layers side by side. -/
def pre2 (i : Fin 10000) (j : Fin 300) : ℝ :=
  block (fun A => S a A) (hid a) (a.w21 0) (a.w22 0) (a.w22 1) (a.w23 0) (a.w23 1) (a.w23 2) a.b21 a.b22 a.b23 i j
/-- The normalised features. -/
def feat (i : Fin 10000) (j : Fin 300) : ℝ := bn (pre2 a) a.g2 a.s2 i j
/-- The logits. -/
def logit (i : Fin 10000) (j : Fin 10) : ℝ := ∑ k, feat a i k * a.lw k j + a.lb j

end Cert.Net
end
end
-- ==== Proof.Finite.lean ====
/-
  What the precondition says: every entry of every float argument is a real number, so that the arguments are an `Args`.
-/
module

public import proofs.«01_k».proof.Pre_finite
public import proofs.«01_k».proof.Proof.Net
public import Idealize.ShloMosaic.Lib.ReduceAll

@[expose] public section

noncomputable section

namespace Cert.Pre_finite

open Idealize.ShloMosaic

/-- The shape facts of the precondition. -/
instance facts : Cert.Pre_finite.Facts where
  bcast_S_S10000x128 := by decide
  reducesTo_S10000x128_S_d0_1 := by decide
  h_S_ := by decide
  bcast_S_S160000 := by decide
  reducesTo_S160000_S_d0 := by decide
  bcast_S_S1x128x400 := by decide
  reducesTo_S1x128x400_S_d0_1_2 := by decide
  bcast_S_S400 := by decide
  reducesTo_S400_S_d0 := by decide
  bcast_S_S2x128x400 := by decide
  reducesTo_S2x128x400_S_d0_1_2 := by decide
  bcast_S_S3x128x400 := by decide
  reducesTo_S3x128x400_S_d0_1_2 := by decide
  bcast_S_S1x1200x100 := by decide
  reducesTo_S1x1200x100_S_d0_1_2 := by decide
  bcast_S_S100 := by decide
  reducesTo_S100_S_d0 := by decide
  bcast_S_S2x1200x100 := by decide
  reducesTo_S2x1200x100_S_d0_1_2 := by decide
  bcast_S_S3x1200x100 := by decide
  reducesTo_S3x1200x100_S_d0_1_2 := by decide
  bcast_S_S1200 := by decide
  reducesTo_S1200_S_d0 := by decide
  bcast_S_S300 := by decide
  reducesTo_S300_S_d0 := by decide
  bcast_S_S300x10 := by decide
  reducesTo_S300x10_S_d0_1 := by decide
  bcast_S_S10 := by decide
  reducesTo_S10_S_d0 := by decide

end Cert.Pre_finite

namespace Cert.Finite

open Idealize.ShloMosaic Idealize.ShloMosaic.ValueIdx Cert.Arr Cert.Net Cert.Pre_finite Cert.Pre_finite.Facts

/-- The word of plus infinity. -/
theorem w_top : Ideal.ofBits .f32 0x7F800000#32 = ⊤ := by
  simp [Ideal.ofBits, Ideal.ieee]

/-- An extended real whose absolute value is below plus infinity is a real number. -/
theorem real_of_abs_lt {x : EReal} (h : max x (-x) < ⊤) : x = ((x.toReal : ℝ) : EReal) := by
  refine (EReal.coe_toReal (fun e => ?_) (fun e => ?_)).symm
  · rw [e] at h
    exact absurd h (by simp)
  · rw [e] at h
    exact absurd h (by simp)

/-- The bit that says all of an array's absolute values are below plus infinity. -/
abbrev allFin {s : Shape} {axes : List (Fin s.rank)} (hb : S_.BroadcastsInDim s (![] : Fin 0 → Fin s.rank)) (hr : s.ReducesTo axes S_)
    (x : FVec Ideal s .f32) : IVec S_ 1 :=
  Host.reduce IntOp.andi (cmpf .olt (Host.absf x) (broadcastInDim s ![] hb (constant S_ .f32 0x7F800000#32))) (constantI S_ 1 1#1) hr h_S_

instance : Subsingleton S_.Idx := ⟨fun a b => funext fun k => k.elim0⟩

/-- When that bit is set every entry is a real number. -/
theorem allFin_real {s : Shape} {axes : List (Fin s.rank)} {hb : S_.BroadcastsInDim s (![] : Fin 0 → Fin s.rank)} {hr : s.ReducesTo axes S_}
    {x : FVec Ideal s .f32} (h : allFin hb hr x ix0 = 1#1) (i : s.Idx) : x i = (((x i : EReal).toReal : ℝ) : EReal) := by
  have h1 := Host.reduce_andi_all _ _ hr h_S_ ix0 h i
  have h2 : BitVec.ofBool (decide (max (x i : EReal) (-(x i)) < Ideal.ofBits .f32 0x7F800000#32)) = 1#1 := h1
  rw [w_top] at h2
  refine real_of_abs_lt ?_
  by_contra hn
  rw [decide_eq_false hn] at h2
  exact absurd h2 (by decide)

/-- A conjunction of bits that is set. -/
theorem and_set {x y : IVec S_ 1} (h : andi x y ix0 = 1#1) : x ix0 = 1#1 ∧ y ix0 = 1#1 :=
  (IntOp.andi_eq_one (c := x ix0) (d := y ix0)).1 h

/-- The precondition as one conjunction. -/
theorem fn_eq (x0 : FVec Ideal S10000x128 .f32) (x1 : IVec S2x160000 32) (x2 : FVec Ideal S160000 .f32) (x3 : FVec Ideal S1x128x400 .f32) (x4 : FVec Ideal S400 .f32) (x5 : FVec Ideal S2x128x400 .f32) (x6 : FVec Ideal S400 .f32) (x7 : FVec Ideal S3x128x400 .f32) (x8 : FVec Ideal S400 .f32) (x9 : FVec Ideal S1x1200x100 .f32) (x10 : FVec Ideal S100 .f32) (x11 : FVec Ideal S2x1200x100 .f32) (x12 : FVec Ideal S100 .f32) (x13 : FVec Ideal S3x1200x100 .f32) (x14 : FVec Ideal S100 .f32) (x15 : FVec Ideal S1200 .f32) (x16 : FVec Ideal S1200 .f32) (x17 : FVec Ideal S300 .f32) (x18 : FVec Ideal S300 .f32) (x19 : FVec Ideal S300x10 .f32) (x20 : FVec Ideal S10 .f32) :
    Cert.Pre_finite.fn (F := Ideal) x0 x1 x2 x3 x4 x5 x6 x7 x8 x9 x10 x11 x12 x13 x14 x15 x16 x17 x18 x19 x20 =
      andi (andi (andi (andi (andi (andi (andi (andi (andi (andi (andi (andi (andi (andi (andi (andi (andi (andi (andi (allFin bcast_S_S10000x128 reducesTo_S10000x128_S_d0_1 x0) (allFin bcast_S_S160000 reducesTo_S160000_S_d0 x2)) (allFin bcast_S_S1x128x400 reducesTo_S1x128x400_S_d0_1_2 x3)) (allFin bcast_S_S400 reducesTo_S400_S_d0 x4)) (allFin bcast_S_S2x128x400 reducesTo_S2x128x400_S_d0_1_2 x5)) (allFin bcast_S_S400 reducesTo_S400_S_d0 x6)) (allFin bcast_S_S3x128x400 reducesTo_S3x128x400_S_d0_1_2 x7)) (allFin bcast_S_S400 reducesTo_S400_S_d0 x8)) (allFin bcast_S_S1x1200x100 reducesTo_S1x1200x100_S_d0_1_2 x9)) (allFin bcast_S_S100 reducesTo_S100_S_d0 x10)) (allFin bcast_S_S2x1200x100 reducesTo_S2x1200x100_S_d0_1_2 x11)) (allFin bcast_S_S100 reducesTo_S100_S_d0 x12)) (allFin bcast_S_S3x1200x100 reducesTo_S3x1200x100_S_d0_1_2 x13)) (allFin bcast_S_S100 reducesTo_S100_S_d0 x14)) (allFin bcast_S_S1200 reducesTo_S1200_S_d0 x15)) (allFin bcast_S_S1200 reducesTo_S1200_S_d0 x16)) (allFin bcast_S_S300 reducesTo_S300_S_d0 x17)) (allFin bcast_S_S300 reducesTo_S300_S_d0 x18)) (allFin bcast_S_S300x10 reducesTo_S300x10_S_d0_1 x19)) (allFin bcast_S_S10 reducesTo_S10_S_d0 x20) := rfl

/-- Under the precondition the arguments are real numbers and index words. -/
theorem holds {x0 : FVec Ideal S10000x128 .f32} {x1 : IVec S2x160000 32} {x2 : FVec Ideal S160000 .f32} {x3 : FVec Ideal S1x128x400 .f32} {x4 : FVec Ideal S400 .f32} {x5 : FVec Ideal S2x128x400 .f32} {x6 : FVec Ideal S400 .f32} {x7 : FVec Ideal S3x128x400 .f32} {x8 : FVec Ideal S400 .f32} {x9 : FVec Ideal S1x1200x100 .f32} {x10 : FVec Ideal S100 .f32} {x11 : FVec Ideal S2x1200x100 .f32} {x12 : FVec Ideal S100 .f32} {x13 : FVec Ideal S3x1200x100 .f32} {x14 : FVec Ideal S100 .f32} {x15 : FVec Ideal S1200 .f32} {x16 : FVec Ideal S1200 .f32} {x17 : FVec Ideal S300 .f32} {x18 : FVec Ideal S300 .f32} {x19 : FVec Ideal S300x10 .f32} {x20 : FVec Ideal S10 .f32}
    (h : Cert.Pre_finite.fn (F := Ideal) x0 x1 x2 x3 x4 x5 x6 x7 x8 x9 x10 x11 x12 x13 x14 x15 x16 x17 x18 x19 x20 = fun _ => 1#1) :
    ∃ a : Args, Holds a x0 x1 x2 x3 x4 x5 x6 x7 x8 x9 x10 x11 x12 x13 x14 x15 x16 x17 x18 x19 x20 := by
  have h := congrFun h ix0
  rw [fn_eq] at h
  obtain ⟨h, h20⟩ := and_set h
  obtain ⟨h, h19⟩ := and_set h
  obtain ⟨h, h18⟩ := and_set h
  obtain ⟨h, h17⟩ := and_set h
  obtain ⟨h, h16⟩ := and_set h
  obtain ⟨h, h15⟩ := and_set h
  obtain ⟨h, h14⟩ := and_set h
  obtain ⟨h, h13⟩ := and_set h
  obtain ⟨h, h12⟩ := and_set h
  obtain ⟨h, h11⟩ := and_set h
  obtain ⟨h, h10⟩ := and_set h
  obtain ⟨h, h9⟩ := and_set h
  obtain ⟨h, h8⟩ := and_set h
  obtain ⟨h, h7⟩ := and_set h
  obtain ⟨h, h6⟩ := and_set h
  obtain ⟨h, h5⟩ := and_set h
  obtain ⟨h, h4⟩ := and_set h
  obtain ⟨h, h3⟩ := and_set h
  obtain ⟨h, h2⟩ := and_set h
  exact ⟨⟨fun i j => (x0 (ix2 i j) : EReal).toReal,
      fun i e => x1 (ix2 i e),
      fun i => (x2 (ix1 i) : EReal).toReal,
      fun i j k => (x3 (ix3 i j k) : EReal).toReal,
      fun i => (x4 (ix1 i) : EReal).toReal,
      fun i j k => (x5 (ix3 i j k) : EReal).toReal,
      fun i => (x6 (ix1 i) : EReal).toReal,
      fun i j k => (x7 (ix3 i j k) : EReal).toReal,
      fun i => (x8 (ix1 i) : EReal).toReal,
      fun i j k => (x9 (ix3 i j k) : EReal).toReal,
      fun i => (x10 (ix1 i) : EReal).toReal,
      fun i j k => (x11 (ix3 i j k) : EReal).toReal,
      fun i => (x12 (ix1 i) : EReal).toReal,
      fun i j k => (x13 (ix3 i j k) : EReal).toReal,
      fun i => (x14 (ix1 i) : EReal).toReal,
      fun i => (x15 (ix1 i) : EReal).toReal,
      fun i => (x16 (ix1 i) : EReal).toReal,
      fun i => (x17 (ix1 i) : EReal).toReal,
      fun i => (x18 (ix1 i) : EReal).toReal,
      fun i j => (x19 (ix2 i j) : EReal).toReal,
      fun i => (x20 (ix1 i) : EReal).toReal⟩,
    ⟨fun _ _ => allFin_real h _, fun _ _ => rfl, fun _ => allFin_real h2 _, fun _ _ _ => allFin_real h3 _, fun _ => allFin_real h4 _, fun _ _ _ => allFin_real h5 _, fun _ => allFin_real h6 _, fun _ _ _ => allFin_real h7 _, fun _ => allFin_real h8 _, fun _ _ _ => allFin_real h9 _, fun _ => allFin_real h10 _, fun _ _ _ => allFin_real h11 _, fun _ => allFin_real h12 _, fun _ _ _ => allFin_real h13 _, fun _ => allFin_real h14 _, fun _ => allFin_real h15 _, fun _ => allFin_real h16 _, fun _ => allFin_real h17 _, fun _ => allFin_real h18 _, fun _ _ => allFin_real h19 _, fun _ => allFin_real h20 _⟩⟩

end Cert.Finite
end
end
-- ==== Proof.Ssa.lean ====
/-
  A straight line of host operations in which every operation writes a buffer of a higher number than all the buffers
  touched before it (single assignment): at the end each result buffer still holds the operation's value at the end
  contents of its operands. So the end contents satisfy one equation per operation.
-/
module

public import Idealize.ShloMosaic.Lib.StableHlo.Run

@[expose] public section

noncomputable section

namespace Cert.Ssa

open Idealize.ShloMosaic Idealize.ShloMosaic.StableHlo

variable {τ : Topo} {sig : RefSig} {Val : EltTy → Type}

/-- The number of a device buffer among those of its memory. -/
def key (b : DevRef τ sig) : ℕ := b.idx.val

/-- The number of the buffer that a TensorCore reference names. -/
abbrev rk (τ : Topo) {sig : RefSig} (r : Ref sig .tc) : ℕ := key (Proc.devRef (τ := τ) .tc r)

/-- Single assignment from number `n` on: each operation writes numbers from its bound on, and the bound of the rest
    is above everything the operation touches. -/
def Line : ℕ → List (HloOp τ sig Val) → Prop
  | _, [] => True
  | n, op :: ops => (∀ b ∈ op.writes, n ≤ key b) ∧ ∃ m, n ≤ m ∧ (∀ b ∈ op.bufs, key b < m) ∧ Line m ops

/-- A single-assignment line leaves every buffer below its bound unchanged. -/
theorem after_below {b : DevRef τ sig} : ∀ (ops : List (HloOp τ sig Val)) (n : ℕ) (V : Valuation τ sig Val), Line n ops →
    key b < n → after ops V b = V b
  | [], _, _, _, _ => rfl
  | op :: ops, n, V, h, hb => by
    obtain ⟨hw, m, hnm, _, ht⟩ := h
    rw [after_cons, after_below ops m _ ht (Nat.lt_of_lt_of_le hb hnm)]
    exact HloOp.result_of_not_mem _ _ fun hm => Nat.not_le.mpr hb (hw b hm)

/-- At the end of a single-assignment line, what an operation of it touches is as that operation left it, run from
    some contents. -/
theorem after_mem : ∀ (ops : List (HloOp τ sig Val)) (n : ℕ) (V : Valuation τ sig Val), Line n ops →
    ∀ (i : ℕ) (op : HloOp τ sig Val), ops[i]? = some op → ∃ F : Valuation τ sig Val, ∀ b ∈ op.bufs, after ops V b = op.result F b
  | [], _, _, _, i, op, ho => by simp at ho
  | o :: ops, n, V, h, 0, op, ho => by
    obtain ⟨_, m, _, hb, ht⟩ := h
    obtain rfl : o = op := by simpa using ho
    exact ⟨V, fun b hm => by rw [after_cons, after_below ops m _ ht (hb b hm)]⟩
  | o :: ops, n, V, h, i + 1, op, ho => by
    obtain ⟨_, m, _, _, ht⟩ := h
    exact after_mem ops m (o.result V) ht i op (by simpa using ho)

section Builders

variable {x a b c y : Ref sig .tc} {n : ℕ} {ops : List (HloOp τ sig Val)}

/-- A constant at the head of a single-assignment line. -/
theorem Line.nullary (v : y.ty.Contents Val) (hy) (h : n ≤ rk τ y) (t : Line (rk τ y + 1) ops) :
    Line n (StableHlo.nullary (τ := τ) y v hy :: ops) :=
  ⟨by intro b hb; cases Finset.mem_singleton.mp hb; exact h, _, Nat.le_succ_of_le h,
    by intro b hb; cases Finset.mem_singleton.mp hb; exact Nat.lt_succ_self _, t⟩

/-- A one-operand operation at the head. -/
theorem Line.unary (f : x.ty.Contents Val → y.ty.Contents Val) (hx hy) (h : n ≤ rk τ y) (h1 : rk τ x < rk τ y)
    (t : Line (rk τ y + 1) ops) : Line n (StableHlo.unary (τ := τ) x y f hx hy :: ops) :=
  ⟨by intro b hb; cases Finset.mem_singleton.mp hb; exact h, _, Nat.le_succ_of_le h,
    by
      intro b hb
      rcases Finset.mem_insert.mp hb with rfl | hb
      · exact Nat.lt_succ_of_lt h1
      · cases Finset.mem_singleton.mp hb; exact Nat.lt_succ_self _, t⟩

/-- A reshape at the head. -/
theorem Line.reshape (he hn hx hy) (h : n ≤ rk τ y) (h1 : rk τ x < rk τ y)
    (t : Line (rk τ y + 1) ops) : Line n (StableHlo.reshape (τ := τ) (Val := Val) x y he hn hx hy :: ops) :=
  ⟨by intro b hb; cases Finset.mem_singleton.mp hb; exact h, _, Nat.le_succ_of_le h,
    by
      intro b hb
      rcases Finset.mem_insert.mp hb with rfl | hb
      · exact Nat.lt_succ_of_lt h1
      · cases Finset.mem_singleton.mp hb; exact Nat.lt_succ_self _, t⟩

/-- A two-operand operation at the head. -/
theorem Line.binary (f : a.ty.Contents Val → b.ty.Contents Val → y.ty.Contents Val) (ha hb hy) (h : n ≤ rk τ y)
    (h1 : rk τ a < rk τ y) (h2 : rk τ b < rk τ y) (t : Line (rk τ y + 1) ops) :
    Line n (StableHlo.binary (τ := τ) a b y f ha hb hy :: ops) :=
  ⟨by intro b hb; cases Finset.mem_singleton.mp hb; exact h, _, Nat.le_succ_of_le h,
    by
      intro b hb
      rcases Finset.mem_insert.mp hb with rfl | hb
      · exact Nat.lt_succ_of_lt h1
      rcases Finset.mem_insert.mp hb with rfl | hb
      · exact Nat.lt_succ_of_lt h2
      · cases Finset.mem_singleton.mp hb; exact Nat.lt_succ_self _, t⟩

/-- A three-operand operation at the head. -/
theorem Line.ternary (f : c.ty.Contents Val → a.ty.Contents Val → b.ty.Contents Val → y.ty.Contents Val) (hc ha hb hy)
    (h : n ≤ rk τ y) (h0 : rk τ c < rk τ y) (h1 : rk τ a < rk τ y) (h2 : rk τ b < rk τ y) (t : Line (rk τ y + 1) ops) :
    Line n (StableHlo.ternary (τ := τ) c a b y f hc ha hb hy :: ops) :=
  ⟨by intro b hb; cases Finset.mem_singleton.mp hb; exact h, _, Nat.le_succ_of_le h,
    by
      intro b hb
      rcases Finset.mem_insert.mp hb with rfl | hb
      · exact Nat.lt_succ_of_lt h0
      rcases Finset.mem_insert.mp hb with rfl | hb
      · exact Nat.lt_succ_of_lt h1
      rcases Finset.mem_insert.mp hb with rfl | hb
      · exact Nat.lt_succ_of_lt h2
      · cases Finset.mem_singleton.mp hb; exact Nat.lt_succ_self _, t⟩

/-- An operation on a literal family of operands at the head. -/
theorem Line.nary {k : ℕ} {xs : Fin k → Ref sig .tc} (f : ((i : Fin k) → (xs i).ty.Contents Val) → y.ty.Contents Val) (hxs hy)
    (h : n ≤ rk τ y) (h1 : ∀ i, rk τ (xs i) < rk τ y) (t : Line (rk τ y + 1) ops) :
    Line n (StableHlo.nary (τ := τ) xs y f hxs hy :: ops) :=
  ⟨by intro b hb; cases Finset.mem_singleton.mp hb; exact h, _, Nat.le_succ_of_le h,
    by
      intro b hb
      rcases Finset.mem_insert.mp hb with rfl | hb
      · exact Nat.lt_succ_self _
      · obtain ⟨i, -, rfl⟩ := Finset.mem_image.mp hb; exact Nat.lt_succ_of_lt (h1 i), t⟩

/-- Two references with different numbers are different. -/
theorem ne_of_rk {r s : Ref sig .tc} (h : rk τ r < rk τ s) : r ≠ s := fun e => absurd (e ▸ h) (Nat.lt_irrefl _)

variable {V : Valuation τ sig Val} (hl : Line n ops) (i : ℕ)
include hl

/-- The equation of a constant. -/
theorem eq_nullary {v : y.ty.Contents Val} {hy} (ho : ops[i]? = some (StableHlo.nullary (τ := τ) y v hy)) :
    after ops V (Proc.devRef .tc y) = v := by
  obtain ⟨F, h⟩ := after_mem ops n V hl i _ ho
  rw [h _ (Finset.mem_singleton_self _)]
  exact nullary_result y v hy F

/-- The equation of a one-operand operation. -/
theorem eq_unary {f : x.ty.Contents Val → y.ty.Contents Val} {hx hy} (ho : ops[i]? = some (StableHlo.unary (τ := τ) x y f hx hy))
    (h1 : rk τ x < rk τ y) : after ops V (Proc.devRef .tc y) = f (after ops V (Proc.devRef .tc x)) := by
  obtain ⟨F, h⟩ := after_mem ops n V hl i _ ho
  rw [h _ (Finset.mem_insert_of_mem (Finset.mem_singleton_self _)), h _ (Finset.mem_insert_self _ _),
    unary_result_ne x y f hx hy F (ne_of_rk h1)]
  exact unary_result x y f hx hy F

/-- The equation of a reshape. -/
theorem eq_reshape {he hn hx hy} (ho : ops[i]? = some (StableHlo.reshape (τ := τ) (Val := Val) x y he hn hx hy))
    (h1 : rk τ x < rk τ y) :
    after ops V (Proc.devRef .tc y) = fun j => he ▸ shapeCast y.ty.shape (after ops V (Proc.devRef .tc x)) hn j := by
  obtain ⟨F, h⟩ := after_mem ops n V hl i _ ho
  rw [h _ (Finset.mem_insert_of_mem (Finset.mem_singleton_self _)), h _ (Finset.mem_insert_self _ _),
    reshape_result_ne x y he hn hx hy F (ne_of_rk h1)]
  exact reshape_result x y he hn hx hy F

/-- The equation of a two-operand operation. -/
theorem eq_binary {f : a.ty.Contents Val → b.ty.Contents Val → y.ty.Contents Val} {ha hb hy}
    (ho : ops[i]? = some (StableHlo.binary (τ := τ) a b y f ha hb hy)) (h1 : rk τ a < rk τ y) (h2 : rk τ b < rk τ y) :
    after ops V (Proc.devRef .tc y) = f (after ops V (Proc.devRef .tc a)) (after ops V (Proc.devRef .tc b)) := by
  obtain ⟨F, h⟩ := after_mem ops n V hl i _ ho
  have hy' := h (Proc.devRef .tc y) (Finset.mem_insert_of_mem (Finset.mem_insert_of_mem (Finset.mem_singleton_self _)))
  have ha' := h (Proc.devRef .tc a) (Finset.mem_insert_self _ _)
  have hb' := h (Proc.devRef .tc b) (Finset.mem_insert_of_mem (Finset.mem_insert_self _ _))
  rw [binary_result_ne a b y f ha hb hy F (ne_of_rk h1)] at ha'
  rw [binary_result_ne a b y f ha hb hy F (ne_of_rk h2)] at hb'
  rw [hy', ha', hb']
  exact binary_result a b y f ha hb hy F

/-- The equation of a three-operand operation. -/
theorem eq_ternary {f : c.ty.Contents Val → a.ty.Contents Val → b.ty.Contents Val → y.ty.Contents Val} {hc ha hb hy}
    (ho : ops[i]? = some (StableHlo.ternary (τ := τ) c a b y f hc ha hb hy)) (h0 : rk τ c < rk τ y) (h1 : rk τ a < rk τ y)
    (h2 : rk τ b < rk τ y) :
    after ops V (Proc.devRef .tc y)
      = f (after ops V (Proc.devRef .tc c)) (after ops V (Proc.devRef .tc a)) (after ops V (Proc.devRef .tc b)) := by
  obtain ⟨F, h⟩ := after_mem ops n V hl i _ ho
  have hy' := h (Proc.devRef .tc y)
    (Finset.mem_insert_of_mem (Finset.mem_insert_of_mem (Finset.mem_insert_of_mem (Finset.mem_singleton_self _))))
  have hc' := h (Proc.devRef .tc c) (Finset.mem_insert_self _ _)
  have ha' := h (Proc.devRef .tc a) (Finset.mem_insert_of_mem (Finset.mem_insert_self _ _))
  have hb' := h (Proc.devRef .tc b) (Finset.mem_insert_of_mem (Finset.mem_insert_of_mem (Finset.mem_insert_self _ _)))
  rw [ternary_result_ne (hc := hc) (ha := ha) (hb := hb) (hy := hy) (f := f) (F := F) (h := ne_of_rk h0)] at hc'
  rw [ternary_result_ne (hc := hc) (ha := ha) (hb := hb) (hy := hy) (f := f) (F := F) (h := ne_of_rk h1)] at ha'
  rw [ternary_result_ne (hc := hc) (ha := ha) (hb := hb) (hy := hy) (f := f) (F := F) (h := ne_of_rk h2)] at hb'
  rw [hy', hc', ha', hb']
  exact ternary_result (hc := hc) (ha := ha) (hb := hb) (hy := hy) (f := f) (F := F)

/-- The equation of an operation on a literal family of operands. -/
theorem eq_nary {k : ℕ} {xs : Fin k → Ref sig .tc} {f : ((i : Fin k) → (xs i).ty.Contents Val) → y.ty.Contents Val} {hxs hy}
    (ho : ops[i]? = some (StableHlo.nary (τ := τ) xs y f hxs hy)) (h1 : ∀ i, rk τ (xs i) < rk τ y) :
    after ops V (Proc.devRef .tc y) = f fun i => after ops V (Proc.devRef .tc (xs i)) := by
  obtain ⟨F, h⟩ := after_mem ops n V hl i _ ho
  have hy' := h (Proc.devRef .tc y) (Finset.mem_insert_self _ _)
  have hx' : (fun i => after ops V (Proc.devRef .tc (xs i))) = fun i => F (Proc.devRef .tc (xs i)) := by
    funext j
    rw [h _ (Finset.mem_insert_of_mem (Finset.mem_image_of_mem _ (Finset.mem_univ j)))]
    exact nary_result_ne (xs := xs) (f := f) (hxs := hxs) (hy := hy) (F := F) (h := ne_of_rk (h1 j))
  rw [hy', hx']
  exact nary_result (xs := xs) (f := f) (hxs := hxs) (hy := hy) (F := F)

end Builders
end Cert.Ssa
end
end
-- ==== Proof.Host.lean ====
/-
  The host side of the kernel program, one equation per operation: what the program's buffer holds when the TensorCore
  call is entered is the operation's value at what its operands hold there.
-/
module

public import proofs.«01_k».proof.Proof.Gen.KernelIdeal.Frame
public import proofs.«01_k».proof.Proof.Ssa
public import Idealize.ShloMosaic.PureOps.Ideal.Laws

@[expose] public section

set_option maxRecDepth 20000
set_option maxHeartbeats 4000000

noncomputable section

namespace Cert.KernelIdeal.Host

open Cert.KernelIdeal Cert.KernelIdeal.Gen Idealize.ShloMosaic Idealize.ShloMosaic.TcCoe Idealize.ShloMosaic.StableHlo Cert.Ssa

/-- The host operations before the TensorCore call. -/
abbrev hostLine : List (HloOp τ sig (Elt Ideal)) :=
  List.flatten [hostOps0, hostOps0_1, hostOps0_2, hostOps0_3, hostOps0_4, hostOps0_5, hostOps0_6]

/-- Every host operation writes a buffer of a higher number than all the buffers touched before it. -/
theorem line : Line 21 hostLine := by
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.reshape _ _ _ _ (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nary _ _ _ (Nat.le_of_ble_eq_true rfl) (by decide) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nary _ _ _ (Nat.le_of_ble_eq_true rfl) (by decide) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.nullary _ _ (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.reshape _ _ _ _ (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.unary _ _ _ (Nat.le_of_ble_eq_true rfl) (Nat.le_of_ble_eq_true rfl) ?_
  refine Line.reshape _ _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nary _ _ _ (Nat.le_of_ble_eq_true rfl) (by decide) ?_
  refine Line.nary _ _ _ (Nat.le_of_ble_eq_true rfl) (by decide) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.ternary _ _ _ _ _ (Nat.le_of_ble_eq_true rfl) (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nary _ _ _ (Nat.le_of_ble_eq_true rfl) (by decide) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.nullary _ _ (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  refine Line.unary _ _ _ (Nat.le_of_ble_eq_true rfl) (Nat.le_of_ble_eq_true rfl) ?_
  refine Line.unary _ _ _ (Nat.le_of_ble_eq_true rfl) (Nat.le_of_ble_eq_true rfl) ?_
  refine Line.binary _ _ _ _ (Nat.le_of_ble_eq_true rfl) (Nat.le_of_ble_eq_true rfl) (Nat.le_of_ble_eq_true rfl) ?_
  trivial

variable (m : (ℓ : Loc nD τ sig) → Buf (Elt Ideal) ℓ) (c : Dev nD)

section Contents

/-- The contents of `main_arg0`. -/
def k_arg0 : FVec Ideal S10000x128 .f32 := V m c main_arg0
/-- The contents of `main_arg1`. -/
def k_arg1 : IVec S2x160000 32 := V m c main_arg1
/-- The contents of `main_arg2`. -/
def k_arg2 : FVec Ideal S160000 .f32 := V m c main_arg2
/-- The contents of `main_arg3`. -/
def k_arg3 : FVec Ideal S1x128x400 .f32 := V m c main_arg3
/-- The contents of `main_arg4`. -/
def k_arg4 : FVec Ideal S400 .f32 := V m c main_arg4
/-- The contents of `main_arg5`. -/
def k_arg5 : FVec Ideal S2x128x400 .f32 := V m c main_arg5
/-- The contents of `main_arg6`. -/
def k_arg6 : FVec Ideal S400 .f32 := V m c main_arg6
/-- The contents of `main_arg7`. -/
def k_arg7 : FVec Ideal S3x128x400 .f32 := V m c main_arg7
/-- The contents of `main_arg8`. -/
def k_arg8 : FVec Ideal S400 .f32 := V m c main_arg8
/-- The contents of `main_arg9`. -/
def k_arg9 : FVec Ideal S1x1200x100 .f32 := V m c main_arg9
/-- The contents of `main_arg10`. -/
def k_arg10 : FVec Ideal S100 .f32 := V m c main_arg10
/-- The contents of `main_arg11`. -/
def k_arg11 : FVec Ideal S2x1200x100 .f32 := V m c main_arg11
/-- The contents of `main_arg12`. -/
def k_arg12 : FVec Ideal S100 .f32 := V m c main_arg12
/-- The contents of `main_arg13`. -/
def k_arg13 : FVec Ideal S3x1200x100 .f32 := V m c main_arg13
/-- The contents of `main_arg14`. -/
def k_arg14 : FVec Ideal S100 .f32 := V m c main_arg14
/-- The contents of `main_arg15`. -/
def k_arg15 : FVec Ideal S1200 .f32 := V m c main_arg15
/-- The contents of `main_arg16`. -/
def k_arg16 : FVec Ideal S1200 .f32 := V m c main_arg16
/-- The contents of `main_arg17`. -/
def k_arg17 : FVec Ideal S300 .f32 := V m c main_arg17
/-- The contents of `main_arg18`. -/
def k_arg18 : FVec Ideal S300 .f32 := V m c main_arg18
/-- The contents of `main_arg19`. -/
def k_arg19 : FVec Ideal S300x10 .f32 := V m c main_arg19
/-- The contents of `main_arg20`. -/
def k_arg20 : FVec Ideal S10 .f32 := V m c main_arg20
/-- The contents of `main_v0`. -/
def k_v0 : IVec S1x160000 32 := V m c main_v0
/-- The contents of `main_v1`. -/
def k_v1 : IVec S160000 32 := V m c main_v1
/-- The contents of `main_v2`. -/
def k_v2 : IVec S1x160000 32 := V m c main_v2
/-- The contents of `main_v3`. -/
def k_v3 : IVec S160000 32 := V m c main_v3
/-- The contents of `main_cst`. -/
def k_cst : FVec Ideal S_ .f32 := V m c main_cst
/-- The contents of `main_v4`. -/
def k_v4 : FVec Ideal S10000 .f32 := V m c main_v4
/-- The contents of `main_c`. -/
def k_c : IVec S_ 32 := V m c main_c
/-- The contents of `main_v5`. -/
def k_v5 : IVec S160000 32 := V m c main_v5
/-- The contents of `main_v6`. -/
def k_v6 : IVec S160000 1 := V m c main_v6
/-- The contents of `main_c_0`. -/
def k_c_0 : IVec S_ 32 := V m c main_c_0
/-- The contents of `main_v7`. -/
def k_v7 : IVec S160000 32 := V m c main_v7
/-- The contents of `main_v8`. -/
def k_v8 : IVec S160000 32 := V m c main_v8
/-- The contents of `main_v9`. -/
def k_v9 : IVec S160000 32 := V m c main_v9
/-- The contents of `main_v10`. -/
def k_v10 : IVec S160000x1 32 := V m c main_v10
/-- The contents of `main_v11`. -/
def k_v11 : FVec Ideal S10000 .f32 := V m c main_v11
/-- The contents of `main_cst_1`. -/
def k_cst_1 : FVec Ideal S_ .f32 := V m c main_cst_1
/-- The contents of `main_v12`. -/
def k_v12 : FVec Ideal S10000 .f32 := V m c main_v12
/-- The contents of `main_v13`. -/
def k_v13 : IVec S10000 1 := V m c main_v13
/-- The contents of `main_cst_2`. -/
def k_cst_2 : FVec Ideal S_ .f32 := V m c main_cst_2
/-- The contents of `main_v14`. -/
def k_v14 : FVec Ideal S10000 .f32 := V m c main_v14
/-- The contents of `main_v15`. -/
def k_v15 : IVec S10000 1 := V m c main_v15
/-- The contents of `main_cst_3`. -/
def k_cst_3 : FVec Ideal S_ .f32 := V m c main_cst_3
/-- The contents of `main_call0_v0`. -/
def k_call0_v0 : FVec Ideal S_ .f32 := V m c main_call0_v0
/-- The contents of `main_call0_v1`. -/
def k_call0_v1 : FVec Ideal S10000 .f32 := V m c main_call0_v1
/-- The contents of `main_v16`. -/
def k_v16 : FVec Ideal S10000 .f32 := V m c main_v16
/-- The contents of `main_v17`. -/
def k_v17 : FVec Ideal S10000 .f32 := V m c main_v17
/-- The contents of `main_cst_4`. -/
def k_cst_4 : FVec Ideal S_ .f32 := V m c main_cst_4
/-- The contents of `main_call1_v0`. -/
def k_call1_v0 : FVec Ideal S_ .f32 := V m c main_call1_v0
/-- The contents of `main_call1_v1`. -/
def k_call1_v1 : FVec Ideal S10000 .f32 := V m c main_call1_v1
/-- The contents of `main_v18`. -/
def k_v18 : FVec Ideal S10000 .f32 := V m c main_v18
/-- The contents of `main_c_5`. -/
def k_c_5 : IVec S_ 32 := V m c main_c_5
/-- The contents of `main_v19`. -/
def k_v19 : IVec S160000 32 := V m c main_v19
/-- The contents of `main_v20`. -/
def k_v20 : IVec S160000 1 := V m c main_v20
/-- The contents of `main_c_6`. -/
def k_c_6 : IVec S_ 32 := V m c main_c_6
/-- The contents of `main_v21`. -/
def k_v21 : IVec S160000 32 := V m c main_v21
/-- The contents of `main_v22`. -/
def k_v22 : IVec S160000 32 := V m c main_v22
/-- The contents of `main_v23`. -/
def k_v23 : IVec S160000 32 := V m c main_v23
/-- The contents of `main_v24`. -/
def k_v24 : IVec S160000x1 32 := V m c main_v24
/-- The contents of `main_v25`. -/
def k_v25 : FVec Ideal S160000 .f32 := V m c main_v25
/-- The contents of `main_v26`. -/
def k_v26 : FVec Ideal S160000 .f32 := V m c main_v26
/-- The contents of `main_v27`. -/
def k_v27 : FVec Ideal S160000 .f32 := V m c main_v27
/-- The contents of `main_c_7`. -/
def k_c_7 : IVec S_ 32 := V m c main_c_7
/-- The contents of `main_v28`. -/
def k_v28 : IVec S160000 32 := V m c main_v28
/-- The contents of `main_v29`. -/
def k_v29 : IVec S160000 1 := V m c main_v29
/-- The contents of `main_c_8`. -/
def k_c_8 : IVec S_ 32 := V m c main_c_8
/-- The contents of `main_v30`. -/
def k_v30 : IVec S160000 32 := V m c main_v30
/-- The contents of `main_v31`. -/
def k_v31 : IVec S160000 32 := V m c main_v31
/-- The contents of `main_v32`. -/
def k_v32 : IVec S160000 32 := V m c main_v32
/-- The contents of `main_v33`. -/
def k_v33 : IVec S160000x1 32 := V m c main_v33
/-- The contents of `main_v34`. -/
def k_v34 : FVec Ideal S160000 .f32 := V m c main_v34
/-- The contents of `main_v35`. -/
def k_v35 : FVec Ideal S160000 .f32 := V m c main_v35
/-- The contents of `main_cst_9`. -/
def k_cst_9 : FVec Ideal S_ .f32 := V m c main_cst_9
/-- The contents of `main_v36`. -/
def k_v36 : FVec Ideal S10000x128 .f32 := V m c main_v36
/-- The contents of `main_v37`. -/
def k_v37 : FVec Ideal S160000x1 .f32 := V m c main_v37
/-- The contents of `main_c_10`. -/
def k_c_10 : IVec S_ 32 := V m c main_c_10
/-- The contents of `main_v38`. -/
def k_v38 : IVec S160000 32 := V m c main_v38
/-- The contents of `main_v39`. -/
def k_v39 : IVec S160000 1 := V m c main_v39
/-- The contents of `main_c_11`. -/
def k_c_11 : IVec S_ 32 := V m c main_c_11
/-- The contents of `main_v40`. -/
def k_v40 : IVec S160000 32 := V m c main_v40
/-- The contents of `main_v41`. -/
def k_v41 : IVec S160000 32 := V m c main_v41
/-- The contents of `main_v42`. -/
def k_v42 : IVec S160000 32 := V m c main_v42
/-- The contents of `main_v43`. -/
def k_v43 : IVec S160000x1 32 := V m c main_v43
/-- The contents of `main_v44`. -/
def k_v44 : FVec Ideal S160000x128 .f32 := V m c main_v44
/-- The contents of `main_v45`. -/
def k_v45 : FVec Ideal S160000x128 .f32 := V m c main_v45
/-- The contents of `main_v46`. -/
def k_v46 : FVec Ideal S160000x128 .f32 := V m c main_v46
/-- The contents of `main_c_12`. -/
def k_c_12 : IVec S_ 32 := V m c main_c_12
/-- The contents of `main_v47`. -/
def k_v47 : IVec S160000 32 := V m c main_v47
/-- The contents of `main_v48`. -/
def k_v48 : IVec S160000 1 := V m c main_v48
/-- The contents of `main_c_13`. -/
def k_c_13 : IVec S_ 32 := V m c main_c_13
/-- The contents of `main_v49`. -/
def k_v49 : IVec S160000 32 := V m c main_v49
/-- The contents of `main_v50`. -/
def k_v50 : IVec S160000 32 := V m c main_v50
/-- The contents of `main_v51`. -/
def k_v51 : IVec S160000 32 := V m c main_v51
/-- The contents of `main_v52`. -/
def k_v52 : IVec S160000x1 32 := V m c main_v52
/-- The contents of `main_v53`. -/
def k_v53 : FVec Ideal S10000x128 .f32 := V m c main_v53
/-- The contents of `main_cst_14`. -/
def k_cst_14 : FVec Ideal S_ .f32 := V m c main_cst_14
/-- The contents of `main_v54`. -/
def k_v54 : FVec Ideal S10000x128 .f32 := V m c main_v54
/-- The contents of `main_v55`. -/
def k_v55 : FVec Ideal S160000x1 .f32 := V m c main_v55
/-- The contents of `main_c_15`. -/
def k_c_15 : IVec S_ 32 := V m c main_c_15
/-- The contents of `main_v56`. -/
def k_v56 : IVec S160000 32 := V m c main_v56
/-- The contents of `main_v57`. -/
def k_v57 : IVec S160000 1 := V m c main_v57
/-- The contents of `main_c_16`. -/
def k_c_16 : IVec S_ 32 := V m c main_c_16
/-- The contents of `main_v58`. -/
def k_v58 : IVec S160000 32 := V m c main_v58
/-- The contents of `main_v59`. -/
def k_v59 : IVec S160000 32 := V m c main_v59
/-- The contents of `main_v60`. -/
def k_v60 : IVec S160000 32 := V m c main_v60
/-- The contents of `main_v61`. -/
def k_v61 : IVec S160000x1 32 := V m c main_v61
/-- The contents of `main_v62`. -/
def k_v62 : FVec Ideal S160000x128 .f32 := V m c main_v62
/-- The contents of `main_v63`. -/
def k_v63 : FVec Ideal S160000x128 .f32 := V m c main_v63
/-- The contents of `main_v64`. -/
def k_v64 : FVec Ideal S160000x128 .f32 := V m c main_v64
/-- The contents of `main_c_17`. -/
def k_c_17 : IVec S_ 32 := V m c main_c_17
/-- The contents of `main_v65`. -/
def k_v65 : IVec S160000 32 := V m c main_v65
/-- The contents of `main_v66`. -/
def k_v66 : IVec S160000 1 := V m c main_v66
/-- The contents of `main_c_18`. -/
def k_c_18 : IVec S_ 32 := V m c main_c_18
/-- The contents of `main_v67`. -/
def k_v67 : IVec S160000 32 := V m c main_v67
/-- The contents of `main_v68`. -/
def k_v68 : IVec S160000 32 := V m c main_v68
/-- The contents of `main_v69`. -/
def k_v69 : IVec S160000 32 := V m c main_v69
/-- The contents of `main_v70`. -/
def k_v70 : IVec S160000x1 32 := V m c main_v70
/-- The contents of `main_v71`. -/
def k_v71 : FVec Ideal S10000x128 .f32 := V m c main_v71
/-- The contents of `main_v72`. -/
def k_v72 : FVec Ideal S128x400 .f32 := V m c main_v72
/-- The contents of `main_v73`. -/
def k_v73 : FVec Ideal S1x128x400 .f32 := V m c main_v73
/-- The contents of `main_v74`. -/
def k_v74 : FVec Ideal S128x400 .f32 := V m c main_v74
/-- The contents of `main_v75`. -/
def k_v75 : FVec Ideal S1x128x400 .f32 := V m c main_v75
/-- The contents of `main_v76`. -/
def k_v76 : FVec Ideal S128x400 .f32 := V m c main_v76
/-- The contents of `main_v77`. -/
def k_v77 : FVec Ideal S1x128x400 .f32 := V m c main_v77
/-- The contents of `main_v78`. -/
def k_v78 : FVec Ideal S128x400 .f32 := V m c main_v78
/-- The contents of `main_v79`. -/
def k_v79 : FVec Ideal S128x400 .f32 := V m c main_v79
/-- The contents of `main_v80`. -/
def k_v80 : FVec Ideal S128x1200 .f32 := V m c main_v80
/-- The contents of `main_v81`. -/
def k_v81 : FVec Ideal S1x128x400 .f32 := V m c main_v81
/-- The contents of `main_v82`. -/
def k_v82 : FVec Ideal S128x400 .f32 := V m c main_v82
/-- The contents of `main_v83`. -/
def k_v83 : FVec Ideal S1x128x400 .f32 := V m c main_v83
/-- The contents of `main_v84`. -/
def k_v84 : FVec Ideal S128x400 .f32 := V m c main_v84
/-- The contents of `main_v85`. -/
def k_v85 : FVec Ideal S128x800 .f32 := V m c main_v85
/-- The contents of `main_v86`. -/
def k_v86 : FVec Ideal S1x128x400 .f32 := V m c main_v86
/-- The contents of `main_v87`. -/
def k_v87 : FVec Ideal S128x400 .f32 := V m c main_v87
/-- The contents of `main_cst_19`. -/
def k_cst_19 : FVec Ideal S_ .f32 := V m c main_cst_19
/-- The contents of `main_v88`. -/
def k_v88 : FVec Ideal S128x400 .f32 := V m c main_v88
/-- The contents of `main_v89`. -/
def k_v89 : FVec Ideal S128x400 .f32 := V m c main_v89
/-- The contents of `main_v90`. -/
def k_v90 : FVec Ideal S1200 .f32 := V m c main_v90
/-- The contents of `main_v91`. -/
def k_v91 : FVec Ideal S10000x1200 .f32 := V m c main_v91
/-- The contents of `main_v92`. -/
def k_v92 : FVec Ideal S1x1200 .f32 := V m c main_v92
/-- The contents of `main_v93`. -/
def k_v93 : FVec Ideal S10000x1200 .f32 := V m c main_v93
/-- The contents of `main_v94`. -/
def k_v94 : FVec Ideal S10000x1200 .f32 := V m c main_v94
/-- The contents of `main_v95`. -/
def k_v95 : FVec Ideal S10000x800 .f32 := V m c main_v95
/-- The contents of `main_c_20`. -/
def k_c_20 : IVec S_ 32 := V m c main_c_20
/-- The contents of `main_v96`. -/
def k_v96 : IVec S1 32 := V m c main_v96
/-- The contents of `main_v97`. -/
def k_v97 : FVec Ideal S10000x1200 .f32 := V m c main_v97
/-- The contents of `main_v98`. -/
def k_v98 : FVec Ideal S10000x400 .f32 := V m c main_v98
/-- The contents of `main_c_21`. -/
def k_c_21 : IVec S_ 32 := V m c main_c_21
/-- The contents of `main_v99`. -/
def k_v99 : IVec S1 32 := V m c main_v99
/-- The contents of `main_v100`. -/
def k_v100 : FVec Ideal S10000x1200 .f32 := V m c main_v100
/-- The contents of `main_cst_22`. -/
def k_cst_22 : FVec Ideal S_ .f32 := V m c main_cst_22
/-- The contents of `main_v101`. -/
def k_v101 : FVec Ideal S1200 .f32 := V m c main_v101
/-- The contents of `main_cst_23`. -/
def k_cst_23 : FVec Ideal S_ .f32 := V m c main_cst_23
/-- The contents of `main_v102`. -/
def k_v102 : FVec Ideal S1200 .f32 := V m c main_v102
/-- The contents of `main_v103`. -/
def k_v103 : FVec Ideal S1200 .f32 := V m c main_v103
/-- The contents of `main_v104`. -/
def k_v104 : FVec Ideal S10000x1200 .f32 := V m c main_v104
/-- The contents of `main_cst_24`. -/
def k_cst_24 : FVec Ideal S_ .f32 := V m c main_cst_24
/-- The contents of `main_v105`. -/
def k_v105 : FVec Ideal S1200 .f32 := V m c main_v105
/-- The contents of `main_cst_25`. -/
def k_cst_25 : FVec Ideal S_ .f32 := V m c main_cst_25
/-- The contents of `main_v106`. -/
def k_v106 : FVec Ideal S1200 .f32 := V m c main_v106
/-- The contents of `main_v107`. -/
def k_v107 : FVec Ideal S1200 .f32 := V m c main_v107
/-- The contents of `main_v108`. -/
def k_v108 : FVec Ideal S1200 .f32 := V m c main_v108
/-- The contents of `main_v109`. -/
def k_v109 : FVec Ideal S1200 .f32 := V m c main_v109
/-- The contents of `main_cst_26`. -/
def k_cst_26 : FVec Ideal S_ .f32 := V m c main_cst_26
/-- The contents of `main_v110`. -/
def k_v110 : FVec Ideal S1200 .f32 := V m c main_v110
/-- The contents of `main_v111`. -/
def k_v111 : FVec Ideal S1200 .f32 := V m c main_v111
/-- The contents of `main_v112`. -/
def k_v112 : FVec Ideal S1200 .f32 := V m c main_v112
/-- The contents of `main_v113`. -/
def k_v113 : FVec Ideal S1200 .f32 := V m c main_v113
/-- The contents of `main_v114`. -/
def k_v114 : FVec Ideal S1200 .f32 := V m c main_v114
/-- The contents of `main_v115`. -/
def k_v115 : FVec Ideal S1200 .f32 := V m c main_v115
/-- The contents of `main_v116`. -/
def k_v116 : FVec Ideal S1x1200 .f32 := V m c main_v116
/-- The contents of `main_v117`. -/
def k_v117 : FVec Ideal S10000x1200 .f32 := V m c main_v117
/-- The contents of `main_v118`. -/
def k_v118 : FVec Ideal S10000x1200 .f32 := V m c main_v118
/-- The contents of `main_v119`. -/
def k_v119 : FVec Ideal S1x1200 .f32 := V m c main_v119
/-- The contents of `main_v120`. -/
def k_v120 : FVec Ideal S10000x1200 .f32 := V m c main_v120
/-- The contents of `main_v121`. -/
def k_v121 : FVec Ideal S10000x1200 .f32 := V m c main_v121
/-- The contents of `main_call2_cst`. -/
def k_call2_cst : FVec Ideal S_ .f32 := V m c main_call2_cst
/-- The contents of `main_call2_v0`. -/
def k_call2_v0 : FVec Ideal S10000x1200 .f32 := V m c main_call2_v0
/-- The contents of `main_v122`. -/
def k_v122 : FVec Ideal S10000x1200 .f32 := V m c main_v122
/-- The contents of `main_v123`. -/
def k_v123 : FVec Ideal S1x1200x100 .f32 := V m c main_v123
/-- The contents of `main_v124`. -/
def k_v124 : FVec Ideal S1200x100 .f32 := V m c main_v124
/-- The contents of `main_v125`. -/
def k_v125 : FVec Ideal S10000x100 .f32 := V m c main_v125
/-- The contents of `main_v126`. -/
def k_v126 : FVec Ideal S1x1200x100 .f32 := V m c main_v126
/-- The contents of `main_v127`. -/
def k_v127 : FVec Ideal S1200x100 .f32 := V m c main_v127
/-- The contents of `main_v128`. -/
def k_v128 : FVec Ideal S10000x100 .f32 := V m c main_v128
/-- The contents of `main_v129`. -/
def k_v129 : FVec Ideal S1x1200x100 .f32 := V m c main_v129
/-- The contents of `main_v130`. -/
def k_v130 : FVec Ideal S1200x100 .f32 := V m c main_v130
/-- The contents of `main_v131`. -/
def k_v131 : FVec Ideal S10000x100 .f32 := V m c main_v131
/-- The contents of `main_v132`. -/
def k_v132 : FVec Ideal S1200x100 .f32 := V m c main_v132
/-- The contents of `main_v133`. -/
def k_v133 : FVec Ideal S1x1200x100 .f32 := V m c main_v133
/-- The contents of `main_v134`. -/
def k_v134 : FVec Ideal S1200x100 .f32 := V m c main_v134
/-- The contents of `main_v135`. -/
def k_v135 : FVec Ideal S1x1200x100 .f32 := V m c main_v135
/-- The contents of `main_v136`. -/
def k_v136 : FVec Ideal S1200x100 .f32 := V m c main_v136
/-- The contents of `main_v137`. -/
def k_v137 : FVec Ideal S1x1200x100 .f32 := V m c main_v137
/-- The contents of `main_v138`. -/
def k_v138 : FVec Ideal S1200x100 .f32 := V m c main_v138
/-- The contents of `main_v139`. -/
def k_v139 : FVec Ideal S1200x100 .f32 := V m c main_v139
/-- The contents of `main_v140`. -/
def k_v140 : FVec Ideal S1200x300 .f32 := V m c main_v140
/-- The contents of `main_v141`. -/
def k_v141 : FVec Ideal S300 .f32 := V m c main_v141
/-- The contents of `main_v142`. -/
def k_v142 : FVec Ideal S10000x300 .f32 := V m c main_v142
/-- The contents of `main_v143`. -/
def k_v143 : FVec Ideal S1x300 .f32 := V m c main_v143
/-- The contents of `main_v144`. -/
def k_v144 : FVec Ideal S10000x300 .f32 := V m c main_v144
/-- The contents of `main_v145`. -/
def k_v145 : FVec Ideal S10000x300 .f32 := V m c main_v145
/-- The contents of `main_cst_27`. -/
def k_cst_27 : FVec Ideal S_ .f32 := V m c main_cst_27
/-- The contents of `main_v146`. -/
def k_v146 : FVec Ideal S10000x100 .f32 := V m c main_v146
/-- The contents of `main_v147`. -/
def k_v147 : FVec Ideal S160000x1 .f32 := V m c main_v147
/-- The contents of `main_c_28`. -/
def k_c_28 : IVec S_ 32 := V m c main_c_28
/-- The contents of `main_v148`. -/
def k_v148 : IVec S160000 32 := V m c main_v148
/-- The contents of `main_v149`. -/
def k_v149 : IVec S160000 1 := V m c main_v149
/-- The contents of `main_c_29`. -/
def k_c_29 : IVec S_ 32 := V m c main_c_29
/-- The contents of `main_v150`. -/
def k_v150 : IVec S160000 32 := V m c main_v150
/-- The contents of `main_v151`. -/
def k_v151 : IVec S160000 32 := V m c main_v151
/-- The contents of `main_v152`. -/
def k_v152 : IVec S160000 32 := V m c main_v152
/-- The contents of `main_v153`. -/
def k_v153 : IVec S160000x1 32 := V m c main_v153
/-- The contents of `main_v154`. -/
def k_v154 : FVec Ideal S160000x100 .f32 := V m c main_v154
/-- The contents of `main_v155`. -/
def k_v155 : FVec Ideal S160000x100 .f32 := V m c main_v155
/-- The contents of `main_v156`. -/
def k_v156 : FVec Ideal S160000x100 .f32 := V m c main_v156
/-- The contents of `main_c_30`. -/
def k_c_30 : IVec S_ 32 := V m c main_c_30
/-- The contents of `main_v157`. -/
def k_v157 : IVec S160000 32 := V m c main_v157
/-- The contents of `main_v158`. -/
def k_v158 : IVec S160000 1 := V m c main_v158
/-- The contents of `main_c_31`. -/
def k_c_31 : IVec S_ 32 := V m c main_c_31
/-- The contents of `main_v159`. -/
def k_v159 : IVec S160000 32 := V m c main_v159
/-- The contents of `main_v160`. -/
def k_v160 : IVec S160000 32 := V m c main_v160
/-- The contents of `main_v161`. -/
def k_v161 : IVec S160000 32 := V m c main_v161
/-- The contents of `main_v162`. -/
def k_v162 : IVec S160000x1 32 := V m c main_v162
/-- The contents of `main_v163`. -/
def k_v163 : FVec Ideal S10000x100 .f32 := V m c main_v163
/-- The contents of `main_cst_32`. -/
def k_cst_32 : FVec Ideal S_ .f32 := V m c main_cst_32
/-- The contents of `main_v164`. -/
def k_v164 : FVec Ideal S10000x100 .f32 := V m c main_v164
/-- The contents of `main_v165`. -/
def k_v165 : FVec Ideal S160000x1 .f32 := V m c main_v165
/-- The contents of `main_c_33`. -/
def k_c_33 : IVec S_ 32 := V m c main_c_33
/-- The contents of `main_v166`. -/
def k_v166 : IVec S160000 32 := V m c main_v166
/-- The contents of `main_v167`. -/
def k_v167 : IVec S160000 1 := V m c main_v167
/-- The contents of `main_c_34`. -/
def k_c_34 : IVec S_ 32 := V m c main_c_34
/-- The contents of `main_v168`. -/
def k_v168 : IVec S160000 32 := V m c main_v168
/-- The contents of `main_v169`. -/
def k_v169 : IVec S160000 32 := V m c main_v169
/-- The contents of `main_v170`. -/
def k_v170 : IVec S160000 32 := V m c main_v170
/-- The contents of `main_v171`. -/
def k_v171 : IVec S160000x1 32 := V m c main_v171
/-- The contents of `main_v172`. -/
def k_v172 : FVec Ideal S160000x100 .f32 := V m c main_v172
/-- The contents of `main_v173`. -/
def k_v173 : FVec Ideal S160000x100 .f32 := V m c main_v173
/-- The contents of `main_v174`. -/
def k_v174 : FVec Ideal S160000x100 .f32 := V m c main_v174
/-- The contents of `main_c_35`. -/
def k_c_35 : IVec S_ 32 := V m c main_c_35
/-- The contents of `main_v175`. -/
def k_v175 : IVec S160000 32 := V m c main_v175
/-- The contents of `main_v176`. -/
def k_v176 : IVec S160000 1 := V m c main_v176
/-- The contents of `main_c_36`. -/
def k_c_36 : IVec S_ 32 := V m c main_c_36
/-- The contents of `main_v177`. -/
def k_v177 : IVec S160000 32 := V m c main_v177
/-- The contents of `main_v178`. -/
def k_v178 : IVec S160000 32 := V m c main_v178
/-- The contents of `main_v179`. -/
def k_v179 : IVec S160000 32 := V m c main_v179
/-- The contents of `main_v180`. -/
def k_v180 : IVec S160000x1 32 := V m c main_v180
/-- The contents of `main_v181`. -/
def k_v181 : FVec Ideal S10000x100 .f32 := V m c main_v181
/-- The contents of `main_cst_37`. -/
def k_cst_37 : FVec Ideal S_ .f32 := V m c main_cst_37
/-- The contents of `main_v182`. -/
def k_v182 : FVec Ideal S10000x100 .f32 := V m c main_v182
/-- The contents of `main_v183`. -/
def k_v183 : FVec Ideal S160000x1 .f32 := V m c main_v183
/-- The contents of `main_c_38`. -/
def k_c_38 : IVec S_ 32 := V m c main_c_38
/-- The contents of `main_v184`. -/
def k_v184 : IVec S160000 32 := V m c main_v184
/-- The contents of `main_v185`. -/
def k_v185 : IVec S160000 1 := V m c main_v185
/-- The contents of `main_c_39`. -/
def k_c_39 : IVec S_ 32 := V m c main_c_39
/-- The contents of `main_v186`. -/
def k_v186 : IVec S160000 32 := V m c main_v186
/-- The contents of `main_v187`. -/
def k_v187 : IVec S160000 32 := V m c main_v187
/-- The contents of `main_v188`. -/
def k_v188 : IVec S160000 32 := V m c main_v188
/-- The contents of `main_v189`. -/
def k_v189 : IVec S160000x1 32 := V m c main_v189
/-- The contents of `main_v190`. -/
def k_v190 : FVec Ideal S160000x100 .f32 := V m c main_v190
/-- The contents of `main_v191`. -/
def k_v191 : FVec Ideal S160000x100 .f32 := V m c main_v191
/-- The contents of `main_v192`. -/
def k_v192 : FVec Ideal S160000x100 .f32 := V m c main_v192
/-- The contents of `main_c_40`. -/
def k_c_40 : IVec S_ 32 := V m c main_c_40
/-- The contents of `main_v193`. -/
def k_v193 : IVec S160000 32 := V m c main_v193
/-- The contents of `main_v194`. -/
def k_v194 : IVec S160000 1 := V m c main_v194
/-- The contents of `main_c_41`. -/
def k_c_41 : IVec S_ 32 := V m c main_c_41
/-- The contents of `main_v195`. -/
def k_v195 : IVec S160000 32 := V m c main_v195
/-- The contents of `main_v196`. -/
def k_v196 : IVec S160000 32 := V m c main_v196
/-- The contents of `main_v197`. -/
def k_v197 : IVec S160000 32 := V m c main_v197
/-- The contents of `main_v198`. -/
def k_v198 : IVec S160000x1 32 := V m c main_v198
/-- The contents of `main_v199`. -/
def k_v199 : FVec Ideal S10000x100 .f32 := V m c main_v199
/-- The contents of `main_cst_42`. -/
def k_cst_42 : FVec Ideal S_ .f32 := V m c main_cst_42
/-- The contents of `main_v200`. -/
def k_v200 : FVec Ideal S10000x100 .f32 := V m c main_v200
/-- The contents of `main_v201`. -/
def k_v201 : FVec Ideal S160000x1 .f32 := V m c main_v201
/-- The contents of `main_c_43`. -/
def k_c_43 : IVec S_ 32 := V m c main_c_43
/-- The contents of `main_v202`. -/
def k_v202 : IVec S160000 32 := V m c main_v202
/-- The contents of `main_v203`. -/
def k_v203 : IVec S160000 1 := V m c main_v203
/-- The contents of `main_c_44`. -/
def k_c_44 : IVec S_ 32 := V m c main_c_44
/-- The contents of `main_v204`. -/
def k_v204 : IVec S160000 32 := V m c main_v204
/-- The contents of `main_v205`. -/
def k_v205 : IVec S160000 32 := V m c main_v205
/-- The contents of `main_v206`. -/
def k_v206 : IVec S160000 32 := V m c main_v206
/-- The contents of `main_v207`. -/
def k_v207 : IVec S160000x1 32 := V m c main_v207
/-- The contents of `main_v208`. -/
def k_v208 : FVec Ideal S160000x100 .f32 := V m c main_v208
/-- The contents of `main_v209`. -/
def k_v209 : FVec Ideal S160000x100 .f32 := V m c main_v209
/-- The contents of `main_v210`. -/
def k_v210 : FVec Ideal S160000x100 .f32 := V m c main_v210
/-- The contents of `main_c_45`. -/
def k_c_45 : IVec S_ 32 := V m c main_c_45
/-- The contents of `main_v211`. -/
def k_v211 : IVec S160000 32 := V m c main_v211
/-- The contents of `main_v212`. -/
def k_v212 : IVec S160000 1 := V m c main_v212
/-- The contents of `main_c_46`. -/
def k_c_46 : IVec S_ 32 := V m c main_c_46
/-- The contents of `main_v213`. -/
def k_v213 : IVec S160000 32 := V m c main_v213
/-- The contents of `main_v214`. -/
def k_v214 : IVec S160000 32 := V m c main_v214
/-- The contents of `main_v215`. -/
def k_v215 : IVec S160000 32 := V m c main_v215
/-- The contents of `main_v216`. -/
def k_v216 : IVec S160000x1 32 := V m c main_v216
/-- The contents of `main_v217`. -/
def k_v217 : FVec Ideal S10000x100 .f32 := V m c main_v217
/-- The contents of `main_cst_47`. -/
def k_cst_47 : FVec Ideal S_ .f32 := V m c main_cst_47
/-- The contents of `main_v218`. -/
def k_v218 : FVec Ideal S10000x100 .f32 := V m c main_v218
/-- The contents of `main_cst_48`. -/
def k_cst_48 : FVec Ideal S_ .f32 := V m c main_cst_48
/-- The contents of `main_v219`. -/
def k_v219 : FVec Ideal S10000x100 .f32 := V m c main_v219
/-- The contents of `main_v220`. -/
def k_v220 : FVec Ideal S10000x100 .f32 := V m c main_v220
/-- The contents of `main_v221`. -/
def k_v221 : FVec Ideal S10000x100 .f32 := V m c main_v221
/-- The contents of `main_v222`. -/
def k_v222 : FVec Ideal S10000x300 .f32 := V m c main_v222
/-- The contents of `main_v223`. -/
def k_v223 : FVec Ideal S10000x300 .f32 := V m c main_v223
/-- The contents of `main_cst_49`. -/
def k_cst_49 : FVec Ideal S_ .f32 := V m c main_cst_49
/-- The contents of `main_v224`. -/
def k_v224 : FVec Ideal S300 .f32 := V m c main_v224
/-- The contents of `main_cst_50`. -/
def k_cst_50 : FVec Ideal S_ .f32 := V m c main_cst_50
/-- The contents of `main_v225`. -/
def k_v225 : FVec Ideal S300 .f32 := V m c main_v225
/-- The contents of `main_v226`. -/
def k_v226 : FVec Ideal S300 .f32 := V m c main_v226
/-- The contents of `main_v227`. -/
def k_v227 : FVec Ideal S10000x300 .f32 := V m c main_v227
/-- The contents of `main_cst_51`. -/
def k_cst_51 : FVec Ideal S_ .f32 := V m c main_cst_51
/-- The contents of `main_v228`. -/
def k_v228 : FVec Ideal S300 .f32 := V m c main_v228
/-- The contents of `main_cst_52`. -/
def k_cst_52 : FVec Ideal S_ .f32 := V m c main_cst_52
/-- The contents of `main_v229`. -/
def k_v229 : FVec Ideal S300 .f32 := V m c main_v229
/-- The contents of `main_v230`. -/
def k_v230 : FVec Ideal S300 .f32 := V m c main_v230
/-- The contents of `main_v231`. -/
def k_v231 : FVec Ideal S300 .f32 := V m c main_v231
/-- The contents of `main_v232`. -/
def k_v232 : FVec Ideal S300 .f32 := V m c main_v232
/-- The contents of `main_cst_53`. -/
def k_cst_53 : FVec Ideal S_ .f32 := V m c main_cst_53
/-- The contents of `main_v233`. -/
def k_v233 : FVec Ideal S300 .f32 := V m c main_v233
/-- The contents of `main_v234`. -/
def k_v234 : FVec Ideal S300 .f32 := V m c main_v234
/-- The contents of `main_v235`. -/
def k_v235 : FVec Ideal S300 .f32 := V m c main_v235
/-- The contents of `main_v236`. -/
def k_v236 : FVec Ideal S300 .f32 := V m c main_v236
/-- The contents of `main_v237`. -/
def k_v237 : FVec Ideal S300 .f32 := V m c main_v237
/-- The contents of `main_v238`. -/
def k_v238 : FVec Ideal S300 .f32 := V m c main_v238
/-- The contents of `main_v239`. -/
def k_v239 : FVec Ideal S1x300 .f32 := V m c main_v239
/-- The contents of `main_v240`. -/
def k_v240 : FVec Ideal S10000x300 .f32 := V m c main_v240
/-- The contents of `main_v241`. -/
def k_v241 : FVec Ideal S10000x300 .f32 := V m c main_v241
/-- The contents of `main_v242`. -/
def k_v242 : FVec Ideal S1x300 .f32 := V m c main_v242
/-- The contents of `main_v243`. -/
def k_v243 : FVec Ideal S10000x300 .f32 := V m c main_v243
/-- The contents of `main_v244`. -/
def k_v244 : FVec Ideal S10000x300 .f32 := V m c main_v244
end Contents

theorem e_v0 : k_v0 m c = extractStridedSlice S1x160000 ![0, 0] (k_arg1 m c) slices_S2x160000_S1x160000_0_0 :=
  eq_unary (x := main_arg1) (y := main_v0) line 0 rfl (Nat.le_of_ble_eq_true rfl)
theorem e_v1 : k_v1 m c = shapeCast S160000 (k_v0 m c) shapeCasts_S1x160000_S160000 :=
  eq_reshape (x := main_v0) (y := main_v1) line 1 rfl (Nat.le_of_ble_eq_true rfl)
theorem e_v2 : k_v2 m c = extractStridedSlice S1x160000 ![1, 0] (k_arg1 m c) slices_S2x160000_S1x160000_1_0 :=
  eq_unary (x := main_arg1) (y := main_v2) line 2 rfl (Nat.le_of_ble_eq_true rfl)
theorem e_v3 : k_v3 m c = shapeCast S160000 (k_v2 m c) shapeCasts_S1x160000_S160000 :=
  eq_reshape (x := main_v2) (y := main_v3) line 3 rfl (Nat.le_of_ble_eq_true rfl)
theorem e_cst : k_cst m c = constant S_ .f32 0x00000000#32 :=
  eq_nullary  (y := main_cst) line 4 rfl
theorem e_v4 : k_v4 m c = broadcastInDim S10000 ![] bcast_S_S10000 (k_cst m c) :=
  eq_unary (x := main_cst) (y := main_v4) line 5 rfl (Nat.le_of_ble_eq_true rfl)
theorem e_c : k_c m c = constantI S_ 32 0#32 :=
  eq_nullary  (y := main_c) line 6 rfl
theorem e_v5 : k_v5 m c = broadcastInDim S160000 ![] bcast_S_S160000 (k_c m c) :=
  eq_unary (x := main_c) (y := main_v5) line 7 rfl (Nat.le_of_ble_eq_true rfl)
theorem e_v6 : k_v6 m c = cmpi .slt (k_v1 m c) (k_v5 m c) :=
  eq_binary (a := main_v1) (b := main_v5) (y := main_v6) line 8 rfl (Nat.le_of_ble_eq_true rfl) (Nat.le_of_ble_eq_true rfl)
theorem e_c_0 : k_c_0 m c = constantI S_ 32 10000#32 :=
  eq_nullary  (y := main_c_0) line 9 rfl
theorem e_v7 : k_v7 m c = broadcastInDim S160000 ![] bcast_S_S160000 (k_c_0 m c) :=
  eq_unary (x := main_c_0) (y := main_v7) line 10 rfl (Nat.le_of_ble_eq_true rfl)
theorem e_v8 : k_v8 m c = addi (k_v1 m c) (k_v7 m c) :=
  eq_binary (a := main_v1) (b := main_v7) (y := main_v8) line 11 rfl (Nat.le_of_ble_eq_true rfl) (Nat.le_of_ble_eq_true rfl)
theorem e_v9 : k_v9 m c = select (k_v6 m c) (k_v8 m c) (k_v1 m c) :=
  eq_ternary (c := main_v6) (a := main_v8) (b := main_v1) (y := main_v9) line 12 rfl (Nat.le_of_ble_eq_true rfl) (Nat.le_of_ble_eq_true rfl) (Nat.le_of_ble_eq_true rfl)
theorem e_v10 : k_v10 m c = broadcastInDim S160000x1 ![0] bcast_S160000_S160000x1_0 (k_v9 m c) :=
  eq_unary (x := main_v9) (y := main_v10) line 13 rfl (Nat.le_of_ble_eq_true rfl)
theorem e_v11 : k_v11 m c = Host.scatterAdd scatter_S10000_S160000x1_S160000_n_0_0_1 (k_v4 m c) (k_v10 m c) (k_arg2 m c) :=
  eq_ternary (c := main_v4) (a := main_v10) (b := main_arg2) (y := main_v11) line 14 rfl (Nat.le_of_ble_eq_true rfl) (Nat.le_of_ble_eq_true rfl) (Nat.le_of_ble_eq_true rfl)
theorem e_cst_1 : k_cst_1 m c = constant S_ .f32 0x00000000#32 :=
  eq_nullary  (y := main_cst_1) line 15 rfl
theorem e_v12 : k_v12 m c = broadcastInDim S10000 ![] bcast_S_S10000 (k_cst_1 m c) :=
  eq_unary (x := main_cst_1) (y := main_v12) line 16 rfl (Nat.le_of_ble_eq_true rfl)
theorem e_v13 : k_v13 m c = cmpf .ogt (k_v11 m c) (k_v12 m c) :=
  eq_binary (a := main_v11) (b := main_v12) (y := main_v13) line 17 rfl (Nat.le_of_ble_eq_true rfl) (Nat.le_of_ble_eq_true rfl)
theorem e_cst_2 : k_cst_2 m c = constant S_ .f32 0x00000000#32 :=
  eq_nullary  (y := main_cst_2) line 18 rfl
theorem e_v14 : k_v14 m c = broadcastInDim S10000 ![] bcast_S_S10000 (k_cst_2 m c) :=
  eq_unary (x := main_cst_2) (y := main_v14) line 19 rfl (Nat.le_of_ble_eq_true rfl)
theorem e_v15 : k_v15 m c = cmpf .ogt (k_v11 m c) (k_v14 m c) :=
  eq_binary (a := main_v11) (b := main_v14) (y := main_v15) line 20 rfl (Nat.le_of_ble_eq_true rfl) (Nat.le_of_ble_eq_true rfl)
theorem e_cst_3 : k_cst_3 m c = constant S_ .f32 0x3F800000#32 :=
  eq_nullary  (y := main_cst_3) line 21 rfl
theorem e_call0_v0 : k_call0_v0 m c = k_cst_3 m c :=
  eq_unary (x := main_cst_3) (y := main_call0_v0) line 22 rfl (Nat.le_of_ble_eq_true rfl)
theorem e_call0_v1 : k_call0_v1 m c = (broadcastInDim S10000 ![] bcast_S_S10000) (k_call0_v0 m c) :=
  eq_unary (x := main_call0_v0) (y := main_call0_v1) line 23 rfl (Nat.le_of_ble_eq_true rfl)
theorem e_v16 : k_v16 m c = select (k_v15 m c) (k_v11 m c) (k_call0_v1 m c) :=
  eq_ternary (c := main_v15) (a := main_v11) (b := main_call0_v1) (y := main_v16) line 24 rfl (Nat.le_of_ble_eq_true rfl) (Nat.le_of_ble_eq_true rfl) (Nat.le_of_ble_eq_true rfl)
theorem e_v17 : k_v17 m c = Host.rsqrt (k_v16 m c) :=
  eq_unary (x := main_v16) (y := main_v17) line 25 rfl (Nat.le_of_ble_eq_true rfl)
theorem e_cst_4 : k_cst_4 m c = constant S_ .f32 0x00000000#32 :=
  eq_nullary  (y := main_cst_4) line 26 rfl
theorem e_call1_v0 : k_call1_v0 m c = k_cst_4 m c :=
  eq_unary (x := main_cst_4) (y := main_call1_v0) line 27 rfl (Nat.le_of_ble_eq_true rfl)
theorem e_call1_v1 : k_call1_v1 m c = (broadcastInDim S10000 ![] bcast_S_S10000) (k_call1_v0 m c) :=
  eq_unary (x := main_call1_v0) (y := main_call1_v1) line 28 rfl (Nat.le_of_ble_eq_true rfl)
theorem e_v18 : k_v18 m c = select (k_v13 m c) (k_v17 m c) (k_call1_v1 m c) :=
  eq_ternary (c := main_v13) (a := main_v17) (b := main_call1_v1) (y := main_v18) line 29 rfl (Nat.le_of_ble_eq_true rfl) (Nat.le_of_ble_eq_true rfl) (Nat.le_of_ble_eq_true rfl)
theorem e_c_5 : k_c_5 m c = constantI S_ 32 0#32 :=
  eq_nullary  (y := main_c_5) line 30 rfl
theorem e_v19 : k_v19 m c = broadcastInDim S160000 ![] bcast_S_S160000 (k_c_5 m c) :=
  eq_unary (x := main_c_5) (y := main_v19) line 31 rfl (Nat.le_of_ble_eq_true rfl)
theorem e_v20 : k_v20 m c = cmpi .slt (k_v1 m c) (k_v19 m c) :=
  eq_binary (a := main_v1) (b := main_v19) (y := main_v20) line 32 rfl (Nat.le_of_ble_eq_true rfl) (Nat.le_of_ble_eq_true rfl)
theorem e_c_6 : k_c_6 m c = constantI S_ 32 10000#32 :=
  eq_nullary  (y := main_c_6) line 33 rfl
theorem e_v21 : k_v21 m c = broadcastInDim S160000 ![] bcast_S_S160000 (k_c_6 m c) :=
  eq_unary (x := main_c_6) (y := main_v21) line 34 rfl (Nat.le_of_ble_eq_true rfl)
theorem e_v22 : k_v22 m c = addi (k_v1 m c) (k_v21 m c) :=
  eq_binary (a := main_v1) (b := main_v21) (y := main_v22) line 35 rfl (Nat.le_of_ble_eq_true rfl) (Nat.le_of_ble_eq_true rfl)
theorem e_v23 : k_v23 m c = select (k_v20 m c) (k_v22 m c) (k_v1 m c) :=
  eq_ternary (c := main_v20) (a := main_v22) (b := main_v1) (y := main_v23) line 36 rfl (Nat.le_of_ble_eq_true rfl) (Nat.le_of_ble_eq_true rfl) (Nat.le_of_ble_eq_true rfl)
theorem e_v24 : k_v24 m c = broadcastInDim S160000x1 ![0] bcast_S160000_S160000x1_0 (k_v23 m c) :=
  eq_unary (x := main_v23) (y := main_v24) line 37 rfl (Nat.le_of_ble_eq_true rfl)
theorem e_v25 : k_v25 m c = Host.gather gather_S10000_S160000x1_S160000_n_0_n_n_0_1_1 (k_v18 m c) (k_v24 m c) :=
  eq_binary (a := main_v18) (b := main_v24) (y := main_v25) line 38 rfl (Nat.le_of_ble_eq_true rfl) (Nat.le_of_ble_eq_true rfl)
theorem e_v26 : k_v26 m c = Host.negf (k_v25 m c) :=
  eq_unary (x := main_v25) (y := main_v26) line 39 rfl (Nat.le_of_ble_eq_true rfl)
theorem e_v27 : k_v27 m c = mulf (k_v26 m c) (k_arg2 m c) :=
  eq_binary (a := main_v26) (b := main_arg2) (y := main_v27) line 40 rfl (Nat.le_of_ble_eq_true rfl) (Nat.le_of_ble_eq_true rfl)
theorem e_c_7 : k_c_7 m c = constantI S_ 32 0#32 :=
  eq_nullary  (y := main_c_7) line 41 rfl
theorem e_v28 : k_v28 m c = broadcastInDim S160000 ![] bcast_S_S160000 (k_c_7 m c) :=
  eq_unary (x := main_c_7) (y := main_v28) line 42 rfl (Nat.le_of_ble_eq_true rfl)
theorem e_v29 : k_v29 m c = cmpi .slt (k_v3 m c) (k_v28 m c) :=
  eq_binary (a := main_v3) (b := main_v28) (y := main_v29) line 43 rfl (Nat.le_of_ble_eq_true rfl) (Nat.le_of_ble_eq_true rfl)
theorem e_c_8 : k_c_8 m c = constantI S_ 32 10000#32 :=
  eq_nullary  (y := main_c_8) line 44 rfl
theorem e_v30 : k_v30 m c = broadcastInDim S160000 ![] bcast_S_S160000 (k_c_8 m c) :=
  eq_unary (x := main_c_8) (y := main_v30) line 45 rfl (Nat.le_of_ble_eq_true rfl)
theorem e_v31 : k_v31 m c = addi (k_v3 m c) (k_v30 m c) :=
  eq_binary (a := main_v3) (b := main_v30) (y := main_v31) line 46 rfl (Nat.le_of_ble_eq_true rfl) (Nat.le_of_ble_eq_true rfl)
theorem e_v32 : k_v32 m c = select (k_v29 m c) (k_v31 m c) (k_v3 m c) :=
  eq_ternary (c := main_v29) (a := main_v31) (b := main_v3) (y := main_v32) line 47 rfl (Nat.le_of_ble_eq_true rfl) (Nat.le_of_ble_eq_true rfl) (Nat.le_of_ble_eq_true rfl)
theorem e_v33 : k_v33 m c = broadcastInDim S160000x1 ![0] bcast_S160000_S160000x1_0 (k_v32 m c) :=
  eq_unary (x := main_v32) (y := main_v33) line 48 rfl (Nat.le_of_ble_eq_true rfl)
theorem e_v34 : k_v34 m c = Host.gather gather_S10000_S160000x1_S160000_n_0_n_n_0_1_1 (k_v18 m c) (k_v33 m c) :=
  eq_binary (a := main_v18) (b := main_v33) (y := main_v34) line 49 rfl (Nat.le_of_ble_eq_true rfl) (Nat.le_of_ble_eq_true rfl)
theorem e_v35 : k_v35 m c = mulf (k_v27 m c) (k_v34 m c) :=
  eq_binary (a := main_v27) (b := main_v34) (y := main_v35) line 50 rfl (Nat.le_of_ble_eq_true rfl) (Nat.le_of_ble_eq_true rfl)
theorem e_cst_9 : k_cst_9 m c = constant S_ .f32 0x00000000#32 :=
  eq_nullary  (y := main_cst_9) line 51 rfl
theorem e_v36 : k_v36 m c = broadcastInDim S10000x128 ![] bcast_S_S10000x128 (k_cst_9 m c) :=
  eq_unary (x := main_cst_9) (y := main_v36) line 52 rfl (Nat.le_of_ble_eq_true rfl)
theorem e_v37 : k_v37 m c = broadcastInDim S160000x1 ![0] bcast_S160000_S160000x1_0 (k_v35 m c) :=
  eq_unary (x := main_v35) (y := main_v37) line 53 rfl (Nat.le_of_ble_eq_true rfl)
theorem e_c_10 : k_c_10 m c = constantI S_ 32 0#32 :=
  eq_nullary  (y := main_c_10) line 54 rfl
theorem e_v38 : k_v38 m c = broadcastInDim S160000 ![] bcast_S_S160000 (k_c_10 m c) :=
  eq_unary (x := main_c_10) (y := main_v38) line 55 rfl (Nat.le_of_ble_eq_true rfl)
theorem e_v39 : k_v39 m c = cmpi .slt (k_v1 m c) (k_v38 m c) :=
  eq_binary (a := main_v1) (b := main_v38) (y := main_v39) line 56 rfl (Nat.le_of_ble_eq_true rfl) (Nat.le_of_ble_eq_true rfl)
theorem e_c_11 : k_c_11 m c = constantI S_ 32 10000#32 :=
  eq_nullary  (y := main_c_11) line 57 rfl
theorem e_v40 : k_v40 m c = broadcastInDim S160000 ![] bcast_S_S160000 (k_c_11 m c) :=
  eq_unary (x := main_c_11) (y := main_v40) line 58 rfl (Nat.le_of_ble_eq_true rfl)
theorem e_v41 : k_v41 m c = addi (k_v1 m c) (k_v40 m c) :=
  eq_binary (a := main_v1) (b := main_v40) (y := main_v41) line 59 rfl (Nat.le_of_ble_eq_true rfl) (Nat.le_of_ble_eq_true rfl)
theorem e_v42 : k_v42 m c = select (k_v39 m c) (k_v41 m c) (k_v1 m c) :=
  eq_ternary (c := main_v39) (a := main_v41) (b := main_v1) (y := main_v42) line 60 rfl (Nat.le_of_ble_eq_true rfl) (Nat.le_of_ble_eq_true rfl) (Nat.le_of_ble_eq_true rfl)
theorem e_v43 : k_v43 m c = broadcastInDim S160000x1 ![0] bcast_S160000_S160000x1_0 (k_v42 m c) :=
  eq_unary (x := main_v42) (y := main_v43) line 61 rfl (Nat.le_of_ble_eq_true rfl)
theorem e_v44 : k_v44 m c = Host.gather gather_S10000x128_S160000x1_S160000x128_1_0_n_n_0_1_1128 (k_arg0 m c) (k_v43 m c) :=
  eq_binary (a := main_arg0) (b := main_v43) (y := main_v44) line 62 rfl (Nat.le_of_ble_eq_true rfl) (Nat.le_of_ble_eq_true rfl)
theorem e_v45 : k_v45 m c = broadcastInDim S160000x128 ![0, 1] bcast_S160000x1_S160000x128_0_1 (k_v37 m c) :=
  eq_unary (x := main_v37) (y := main_v45) line 63 rfl (Nat.le_of_ble_eq_true rfl)
theorem e_v46 : k_v46 m c = mulf (k_v45 m c) (k_v44 m c) :=
  eq_binary (a := main_v45) (b := main_v44) (y := main_v46) line 64 rfl (Nat.le_of_ble_eq_true rfl) (Nat.le_of_ble_eq_true rfl)
theorem e_c_12 : k_c_12 m c = constantI S_ 32 0#32 :=
  eq_nullary  (y := main_c_12) line 65 rfl
theorem e_v47 : k_v47 m c = broadcastInDim S160000 ![] bcast_S_S160000 (k_c_12 m c) :=
  eq_unary (x := main_c_12) (y := main_v47) line 66 rfl (Nat.le_of_ble_eq_true rfl)
theorem e_v48 : k_v48 m c = cmpi .slt (k_v3 m c) (k_v47 m c) :=
  eq_binary (a := main_v3) (b := main_v47) (y := main_v48) line 67 rfl (Nat.le_of_ble_eq_true rfl) (Nat.le_of_ble_eq_true rfl)
theorem e_c_13 : k_c_13 m c = constantI S_ 32 10000#32 :=
  eq_nullary  (y := main_c_13) line 68 rfl
theorem e_v49 : k_v49 m c = broadcastInDim S160000 ![] bcast_S_S160000 (k_c_13 m c) :=
  eq_unary (x := main_c_13) (y := main_v49) line 69 rfl (Nat.le_of_ble_eq_true rfl)
theorem e_v50 : k_v50 m c = addi (k_v3 m c) (k_v49 m c) :=
  eq_binary (a := main_v3) (b := main_v49) (y := main_v50) line 70 rfl (Nat.le_of_ble_eq_true rfl) (Nat.le_of_ble_eq_true rfl)
theorem e_v51 : k_v51 m c = select (k_v48 m c) (k_v50 m c) (k_v3 m c) :=
  eq_ternary (c := main_v48) (a := main_v50) (b := main_v3) (y := main_v51) line 71 rfl (Nat.le_of_ble_eq_true rfl) (Nat.le_of_ble_eq_true rfl) (Nat.le_of_ble_eq_true rfl)
theorem e_v52 : k_v52 m c = broadcastInDim S160000x1 ![0] bcast_S160000_S160000x1_0 (k_v51 m c) :=
  eq_unary (x := main_v51) (y := main_v52) line 72 rfl (Nat.le_of_ble_eq_true rfl)
theorem e_v53 : k_v53 m c = Host.scatterAdd scatter_S10000x128_S160000x1_S160000x128_1_0_0_1 (k_v36 m c) (k_v52 m c) (k_v46 m c) :=
  eq_ternary (c := main_v36) (a := main_v52) (b := main_v46) (y := main_v53) line 73 rfl (Nat.le_of_ble_eq_true rfl) (Nat.le_of_ble_eq_true rfl) (Nat.le_of_ble_eq_true rfl)
theorem e_cst_14 : k_cst_14 m c = constant S_ .f32 0x00000000#32 :=
  eq_nullary  (y := main_cst_14) line 74 rfl
theorem e_v54 : k_v54 m c = broadcastInDim S10000x128 ![] bcast_S_S10000x128 (k_cst_14 m c) :=
  eq_unary (x := main_cst_14) (y := main_v54) line 75 rfl (Nat.le_of_ble_eq_true rfl)
theorem e_v55 : k_v55 m c = broadcastInDim S160000x1 ![0] bcast_S160000_S160000x1_0 (k_v35 m c) :=
  eq_unary (x := main_v35) (y := main_v55) line 76 rfl (Nat.le_of_ble_eq_true rfl)
theorem e_c_15 : k_c_15 m c = constantI S_ 32 0#32 :=
  eq_nullary  (y := main_c_15) line 77 rfl
theorem e_v56 : k_v56 m c = broadcastInDim S160000 ![] bcast_S_S160000 (k_c_15 m c) :=
  eq_unary (x := main_c_15) (y := main_v56) line 78 rfl (Nat.le_of_ble_eq_true rfl)
theorem e_v57 : k_v57 m c = cmpi .slt (k_v1 m c) (k_v56 m c) :=
  eq_binary (a := main_v1) (b := main_v56) (y := main_v57) line 79 rfl (Nat.le_of_ble_eq_true rfl) (Nat.le_of_ble_eq_true rfl)
theorem e_c_16 : k_c_16 m c = constantI S_ 32 10000#32 :=
  eq_nullary  (y := main_c_16) line 80 rfl
theorem e_v58 : k_v58 m c = broadcastInDim S160000 ![] bcast_S_S160000 (k_c_16 m c) :=
  eq_unary (x := main_c_16) (y := main_v58) line 81 rfl (Nat.le_of_ble_eq_true rfl)
theorem e_v59 : k_v59 m c = addi (k_v1 m c) (k_v58 m c) :=
  eq_binary (a := main_v1) (b := main_v58) (y := main_v59) line 82 rfl (Nat.le_of_ble_eq_true rfl) (Nat.le_of_ble_eq_true rfl)
theorem e_v60 : k_v60 m c = select (k_v57 m c) (k_v59 m c) (k_v1 m c) :=
  eq_ternary (c := main_v57) (a := main_v59) (b := main_v1) (y := main_v60) line 83 rfl (Nat.le_of_ble_eq_true rfl) (Nat.le_of_ble_eq_true rfl) (Nat.le_of_ble_eq_true rfl)
theorem e_v61 : k_v61 m c = broadcastInDim S160000x1 ![0] bcast_S160000_S160000x1_0 (k_v60 m c) :=
  eq_unary (x := main_v60) (y := main_v61) line 84 rfl (Nat.le_of_ble_eq_true rfl)
theorem e_v62 : k_v62 m c = Host.gather gather_S10000x128_S160000x1_S160000x128_1_0_n_n_0_1_1128 (k_v53 m c) (k_v61 m c) :=
  eq_binary (a := main_v53) (b := main_v61) (y := main_v62) line 85 rfl (Nat.le_of_ble_eq_true rfl) (Nat.le_of_ble_eq_true rfl)
theorem e_v63 : k_v63 m c = broadcastInDim S160000x128 ![0, 1] bcast_S160000x1_S160000x128_0_1 (k_v55 m c) :=
  eq_unary (x := main_v55) (y := main_v63) line 86 rfl (Nat.le_of_ble_eq_true rfl)
theorem e_v64 : k_v64 m c = mulf (k_v63 m c) (k_v62 m c) :=
  eq_binary (a := main_v63) (b := main_v62) (y := main_v64) line 87 rfl (Nat.le_of_ble_eq_true rfl) (Nat.le_of_ble_eq_true rfl)
theorem e_c_17 : k_c_17 m c = constantI S_ 32 0#32 :=
  eq_nullary  (y := main_c_17) line 88 rfl
theorem e_v65 : k_v65 m c = broadcastInDim S160000 ![] bcast_S_S160000 (k_c_17 m c) :=
  eq_unary (x := main_c_17) (y := main_v65) line 89 rfl (Nat.le_of_ble_eq_true rfl)
theorem e_v66 : k_v66 m c = cmpi .slt (k_v3 m c) (k_v65 m c) :=
  eq_binary (a := main_v3) (b := main_v65) (y := main_v66) line 90 rfl (Nat.le_of_ble_eq_true rfl) (Nat.le_of_ble_eq_true rfl)
theorem e_c_18 : k_c_18 m c = constantI S_ 32 10000#32 :=
  eq_nullary  (y := main_c_18) line 91 rfl
theorem e_v67 : k_v67 m c = broadcastInDim S160000 ![] bcast_S_S160000 (k_c_18 m c) :=
  eq_unary (x := main_c_18) (y := main_v67) line 92 rfl (Nat.le_of_ble_eq_true rfl)
theorem e_v68 : k_v68 m c = addi (k_v3 m c) (k_v67 m c) :=
  eq_binary (a := main_v3) (b := main_v67) (y := main_v68) line 93 rfl (Nat.le_of_ble_eq_true rfl) (Nat.le_of_ble_eq_true rfl)
theorem e_v69 : k_v69 m c = select (k_v66 m c) (k_v68 m c) (k_v3 m c) :=
  eq_ternary (c := main_v66) (a := main_v68) (b := main_v3) (y := main_v69) line 94 rfl (Nat.le_of_ble_eq_true rfl) (Nat.le_of_ble_eq_true rfl) (Nat.le_of_ble_eq_true rfl)
theorem e_v70 : k_v70 m c = broadcastInDim S160000x1 ![0] bcast_S160000_S160000x1_0 (k_v69 m c) :=
  eq_unary (x := main_v69) (y := main_v70) line 95 rfl (Nat.le_of_ble_eq_true rfl)
theorem e_v71 : k_v71 m c = Host.scatterAdd scatter_S10000x128_S160000x1_S160000x128_1_0_0_1 (k_v54 m c) (k_v70 m c) (k_v64 m c) :=
  eq_ternary (c := main_v54) (a := main_v70) (b := main_v64) (y := main_v71) line 96 rfl (Nat.le_of_ble_eq_true rfl) (Nat.le_of_ble_eq_true rfl) (Nat.le_of_ble_eq_true rfl)
theorem e_v72 : k_v72 m c = shapeCast S128x400 (k_arg3 m c) shapeCasts_S1x128x400_S128x400 :=
  eq_reshape (x := main_arg3) (y := main_v72) line 97 rfl (Nat.le_of_ble_eq_true rfl)
theorem e_v73 : k_v73 m c = extractStridedSlice S1x128x400 ![0, 0, 0] (k_arg5 m c) slices_S2x128x400_S1x128x400_0_0_0 :=
  eq_unary (x := main_arg5) (y := main_v73) line 98 rfl (Nat.le_of_ble_eq_true rfl)
theorem e_v74 : k_v74 m c = shapeCast S128x400 (k_v73 m c) shapeCasts_S1x128x400_S128x400 :=
  eq_reshape (x := main_v73) (y := main_v74) line 99 rfl (Nat.le_of_ble_eq_true rfl)
theorem e_v75 : k_v75 m c = extractStridedSlice S1x128x400 ![0, 0, 0] (k_arg7 m c) slices_S3x128x400_S1x128x400_0_0_0 :=
  eq_unary (x := main_arg7) (y := main_v75) line 100 rfl (Nat.le_of_ble_eq_true rfl)
theorem e_v76 : k_v76 m c = shapeCast S128x400 (k_v75 m c) shapeCasts_S1x128x400_S128x400 :=
  eq_reshape (x := main_v75) (y := main_v76) line 101 rfl (Nat.le_of_ble_eq_true rfl)
theorem e_v77 : k_v77 m c = extractStridedSlice S1x128x400 ![2, 0, 0] (k_arg7 m c) slices_S3x128x400_S1x128x400_2_0_0 :=
  eq_unary (x := main_arg7) (y := main_v77) line 102 rfl (Nat.le_of_ble_eq_true rfl)
theorem e_v78 : k_v78 m c = shapeCast S128x400 (k_v77 m c) shapeCasts_S1x128x400_S128x400 :=
  eq_reshape (x := main_v77) (y := main_v78) line 103 rfl (Nat.le_of_ble_eq_true rfl)
theorem e_v79 : k_v79 m c = subf (k_v76 m c) (k_v78 m c) :=
  eq_binary (a := main_v76) (b := main_v78) (y := main_v79) line 104 rfl (Nat.le_of_ble_eq_true rfl) (Nat.le_of_ble_eq_true rfl)
theorem e_v80 : k_v80 m c = concatenate S128x1200 1 [⟨S128x400, (k_v72 m c)⟩, ⟨S128x400, (k_v74 m c)⟩, ⟨S128x400, (k_v79 m c)⟩] concatenates_S128x400_S128x400_S128x400_S128x1200_d1 :=
  eq_nary (xs := ![main_v72, main_v74, main_v79]) (y := main_v80) line 105 rfl (by decide)
theorem e_v81 : k_v81 m c = extractStridedSlice S1x128x400 ![1, 0, 0] (k_arg5 m c) slices_S2x128x400_S1x128x400_1_0_0 :=
  eq_unary (x := main_arg5) (y := main_v81) line 106 rfl (Nat.le_of_ble_eq_true rfl)
theorem e_v82 : k_v82 m c = shapeCast S128x400 (k_v81 m c) shapeCasts_S1x128x400_S128x400 :=
  eq_reshape (x := main_v81) (y := main_v82) line 107 rfl (Nat.le_of_ble_eq_true rfl)
theorem e_v83 : k_v83 m c = extractStridedSlice S1x128x400 ![1, 0, 0] (k_arg7 m c) slices_S3x128x400_S1x128x400_1_0_0 :=
  eq_unary (x := main_arg7) (y := main_v83) line 108 rfl (Nat.le_of_ble_eq_true rfl)
theorem e_v84 : k_v84 m c = shapeCast S128x400 (k_v83 m c) shapeCasts_S1x128x400_S128x400 :=
  eq_reshape (x := main_v83) (y := main_v84) line 109 rfl (Nat.le_of_ble_eq_true rfl)
theorem e_v85 : k_v85 m c = concatenate S128x800 1 [⟨S128x400, (k_v82 m c)⟩, ⟨S128x400, (k_v84 m c)⟩] concatenates_S128x400_S128x400_S128x800_d1 :=
  eq_binary (a := main_v82) (b := main_v84) (y := main_v85) line 110 rfl (Nat.le_of_ble_eq_true rfl) (Nat.le_of_ble_eq_true rfl)
theorem e_v86 : k_v86 m c = extractStridedSlice S1x128x400 ![2, 0, 0] (k_arg7 m c) slices_S3x128x400_S1x128x400_2_0_0 :=
  eq_unary (x := main_arg7) (y := main_v86) line 111 rfl (Nat.le_of_ble_eq_true rfl)
theorem e_v87 : k_v87 m c = shapeCast S128x400 (k_v86 m c) shapeCasts_S1x128x400_S128x400 :=
  eq_reshape (x := main_v86) (y := main_v87) line 112 rfl (Nat.le_of_ble_eq_true rfl)
theorem e_cst_19 : k_cst_19 m c = constant S_ .f32 0x40000000#32 :=
  eq_nullary  (y := main_cst_19) line 113 rfl
theorem e_v88 : k_v88 m c = broadcastInDim S128x400 ![] bcast_S_S128x400 (k_cst_19 m c) :=
  eq_unary (x := main_cst_19) (y := main_v88) line 114 rfl (Nat.le_of_ble_eq_true rfl)
theorem e_v89 : k_v89 m c = mulf (k_v88 m c) (k_v87 m c) :=
  eq_binary (a := main_v88) (b := main_v87) (y := main_v89) line 115 rfl (Nat.le_of_ble_eq_true rfl) (Nat.le_of_ble_eq_true rfl)
theorem e_v90 : k_v90 m c = concatenate S1200 0 [⟨S400, (k_arg4 m c)⟩, ⟨S400, (k_arg6 m c)⟩, ⟨S400, (k_arg8 m c)⟩] concatenates_S400_S400_S400_S1200_d0 :=
  eq_nary (xs := ![main_arg4, main_arg6, main_arg8]) (y := main_v90) line 116 rfl (by decide)
theorem e_v91 : k_v91 m c = Host.dotGeneral dot_S10000x128_S128x1200_S10000x1200_1_0_0_1_n_n none (k_arg0 m c) (k_v80 m c) :=
  eq_binary (a := main_arg0) (b := main_v80) (y := main_v91) line 117 rfl (Nat.le_of_ble_eq_true rfl) (Nat.le_of_ble_eq_true rfl)
theorem e_v92 : k_v92 m c = broadcastInDim S1x1200 ![1] bcast_S1200_S1x1200_1 (k_v90 m c) :=
  eq_unary (x := main_v90) (y := main_v92) line 118 rfl (Nat.le_of_ble_eq_true rfl)
theorem e_v93 : k_v93 m c = broadcastInDim S10000x1200 ![0, 1] bcast_S1x1200_S10000x1200_0_1 (k_v92 m c) :=
  eq_unary (x := main_v92) (y := main_v93) line 119 rfl (Nat.le_of_ble_eq_true rfl)
theorem e_v94 : k_v94 m c = addf (k_v91 m c) (k_v93 m c) :=
  eq_binary (a := main_v91) (b := main_v93) (y := main_v94) line 120 rfl (Nat.le_of_ble_eq_true rfl) (Nat.le_of_ble_eq_true rfl)
theorem e_v95 : k_v95 m c = Host.dotGeneral dot_S10000x128_S128x800_S10000x800_1_0_0_1_n_n none (k_v53 m c) (k_v85 m c) :=
  eq_binary (a := main_v53) (b := main_v85) (y := main_v95) line 121 rfl (Nat.le_of_ble_eq_true rfl) (Nat.le_of_ble_eq_true rfl)
theorem e_c_20 : k_c_20 m c = constantI S_ 32 400#32 :=
  eq_nullary  (y := main_c_20) line 122 rfl
theorem e_v96 : k_v96 m c = broadcastInDim S1 ![] bcast_S_S1 (k_c_20 m c) :=
  eq_unary (x := main_c_20) (y := main_v96) line 123 rfl (Nat.le_of_ble_eq_true rfl)
theorem e_v97 : k_v97 m c = Host.scatter scatter_S10000x1200_S1_S10000x800_01_n_1_0 FloatOps.addf (k_v94 m c) (k_v96 m c) (k_v95 m c) :=
  eq_ternary (c := main_v94) (a := main_v96) (b := main_v95) (y := main_v97) line 124 rfl (Nat.le_of_ble_eq_true rfl) (Nat.le_of_ble_eq_true rfl) (Nat.le_of_ble_eq_true rfl)
theorem e_v98 : k_v98 m c = Host.dotGeneral dot_S10000x128_S128x400_S10000x400_1_0_0_1_n_n none (k_v71 m c) (k_v89 m c) :=
  eq_binary (a := main_v71) (b := main_v89) (y := main_v98) line 125 rfl (Nat.le_of_ble_eq_true rfl) (Nat.le_of_ble_eq_true rfl)
theorem e_c_21 : k_c_21 m c = constantI S_ 32 800#32 :=
  eq_nullary  (y := main_c_21) line 126 rfl
theorem e_v99 : k_v99 m c = broadcastInDim S1 ![] bcast_S_S1 (k_c_21 m c) :=
  eq_unary (x := main_c_21) (y := main_v99) line 127 rfl (Nat.le_of_ble_eq_true rfl)
theorem e_v100 : k_v100 m c = Host.scatter scatter_S10000x1200_S1_S10000x400_01_n_1_0 FloatOps.addf (k_v97 m c) (k_v99 m c) (k_v98 m c) :=
  eq_ternary (c := main_v97) (a := main_v99) (b := main_v98) (y := main_v100) line 128 rfl (Nat.le_of_ble_eq_true rfl) (Nat.le_of_ble_eq_true rfl) (Nat.le_of_ble_eq_true rfl)
theorem e_cst_22 : k_cst_22 m c = constant S_ .f32 0x00000000#32 :=
  eq_nullary  (y := main_cst_22) line 129 rfl
theorem e_v101 : k_v101 m c = Host.reduceAdd (k_v100 m c) (k_cst_22 m c) reducesTo_S10000x1200_S1200_d0 h_S_ :=
  eq_binary (a := main_v100) (b := main_cst_22) (y := main_v101) line 130 rfl (Nat.le_of_ble_eq_true rfl) (Nat.le_of_ble_eq_true rfl)
theorem e_cst_23 : k_cst_23 m c = constant S_ .f32 0x461C4000#32 :=
  eq_nullary  (y := main_cst_23) line 131 rfl
theorem e_v102 : k_v102 m c = broadcastInDim S1200 ![] bcast_S_S1200 (k_cst_23 m c) :=
  eq_unary (x := main_cst_23) (y := main_v102) line 132 rfl (Nat.le_of_ble_eq_true rfl)
theorem e_v103 : k_v103 m c = Host.divf (k_v101 m c) (k_v102 m c) :=
  eq_binary (a := main_v101) (b := main_v102) (y := main_v103) line 133 rfl (Nat.le_of_ble_eq_true rfl) (Nat.le_of_ble_eq_true rfl)
theorem e_v104 : k_v104 m c = mulf (k_v100 m c) (k_v100 m c) :=
  eq_binary (a := main_v100) (b := main_v100) (y := main_v104) line 134 rfl (Nat.le_of_ble_eq_true rfl) (Nat.le_of_ble_eq_true rfl)
theorem e_cst_24 : k_cst_24 m c = constant S_ .f32 0x00000000#32 :=
  eq_nullary  (y := main_cst_24) line 135 rfl
theorem e_v105 : k_v105 m c = Host.reduceAdd (k_v104 m c) (k_cst_24 m c) reducesTo_S10000x1200_S1200_d0 h_S_ :=
  eq_binary (a := main_v104) (b := main_cst_24) (y := main_v105) line 136 rfl (Nat.le_of_ble_eq_true rfl) (Nat.le_of_ble_eq_true rfl)
theorem e_cst_25 : k_cst_25 m c = constant S_ .f32 0x461C4000#32 :=
  eq_nullary  (y := main_cst_25) line 137 rfl
theorem e_v106 : k_v106 m c = broadcastInDim S1200 ![] bcast_S_S1200 (k_cst_25 m c) :=
  eq_unary (x := main_cst_25) (y := main_v106) line 138 rfl (Nat.le_of_ble_eq_true rfl)
theorem e_v107 : k_v107 m c = Host.divf (k_v105 m c) (k_v106 m c) :=
  eq_binary (a := main_v105) (b := main_v106) (y := main_v107) line 139 rfl (Nat.le_of_ble_eq_true rfl) (Nat.le_of_ble_eq_true rfl)
theorem e_v108 : k_v108 m c = mulf (k_v103 m c) (k_v103 m c) :=
  eq_binary (a := main_v103) (b := main_v103) (y := main_v108) line 140 rfl (Nat.le_of_ble_eq_true rfl) (Nat.le_of_ble_eq_true rfl)
theorem e_v109 : k_v109 m c = subf (k_v107 m c) (k_v108 m c) :=
  eq_binary (a := main_v107) (b := main_v108) (y := main_v109) line 141 rfl (Nat.le_of_ble_eq_true rfl) (Nat.le_of_ble_eq_true rfl)
theorem e_cst_26 : k_cst_26 m c = constant S_ .f32 0x3727C5AC#32 :=
  eq_nullary  (y := main_cst_26) line 142 rfl
theorem e_v110 : k_v110 m c = broadcastInDim S1200 ![] bcast_S_S1200 (k_cst_26 m c) :=
  eq_unary (x := main_cst_26) (y := main_v110) line 143 rfl (Nat.le_of_ble_eq_true rfl)
theorem e_v111 : k_v111 m c = addf (k_v109 m c) (k_v110 m c) :=
  eq_binary (a := main_v109) (b := main_v110) (y := main_v111) line 144 rfl (Nat.le_of_ble_eq_true rfl) (Nat.le_of_ble_eq_true rfl)
theorem e_v112 : k_v112 m c = Host.rsqrt (k_v111 m c) :=
  eq_unary (x := main_v111) (y := main_v112) line 145 rfl (Nat.le_of_ble_eq_true rfl)
theorem e_v113 : k_v113 m c = mulf (k_arg15 m c) (k_v112 m c) :=
  eq_binary (a := main_arg15) (b := main_v112) (y := main_v113) line 146 rfl (Nat.le_of_ble_eq_true rfl) (Nat.le_of_ble_eq_true rfl)
theorem e_v114 : k_v114 m c = mulf (k_v103 m c) (k_v113 m c) :=
  eq_binary (a := main_v103) (b := main_v113) (y := main_v114) line 147 rfl (Nat.le_of_ble_eq_true rfl) (Nat.le_of_ble_eq_true rfl)
theorem e_v115 : k_v115 m c = subf (k_arg16 m c) (k_v114 m c) :=
  eq_binary (a := main_arg16) (b := main_v114) (y := main_v115) line 148 rfl (Nat.le_of_ble_eq_true rfl) (Nat.le_of_ble_eq_true rfl)
theorem e_v116 : k_v116 m c = broadcastInDim S1x1200 ![1] bcast_S1200_S1x1200_1 (k_v113 m c) :=
  eq_unary (x := main_v113) (y := main_v116) line 149 rfl (Nat.le_of_ble_eq_true rfl)
theorem e_v117 : k_v117 m c = broadcastInDim S10000x1200 ![0, 1] bcast_S1x1200_S10000x1200_0_1 (k_v116 m c) :=
  eq_unary (x := main_v116) (y := main_v117) line 150 rfl (Nat.le_of_ble_eq_true rfl)
theorem e_v118 : k_v118 m c = mulf (k_v100 m c) (k_v117 m c) :=
  eq_binary (a := main_v100) (b := main_v117) (y := main_v118) line 151 rfl (Nat.le_of_ble_eq_true rfl) (Nat.le_of_ble_eq_true rfl)
theorem e_v119 : k_v119 m c = broadcastInDim S1x1200 ![1] bcast_S1200_S1x1200_1 (k_v115 m c) :=
  eq_unary (x := main_v115) (y := main_v119) line 152 rfl (Nat.le_of_ble_eq_true rfl)
theorem e_v120 : k_v120 m c = broadcastInDim S10000x1200 ![0, 1] bcast_S1x1200_S10000x1200_0_1 (k_v119 m c) :=
  eq_unary (x := main_v119) (y := main_v120) line 153 rfl (Nat.le_of_ble_eq_true rfl)
theorem e_v121 : k_v121 m c = addf (k_v118 m c) (k_v120 m c) :=
  eq_binary (a := main_v118) (b := main_v120) (y := main_v121) line 154 rfl (Nat.le_of_ble_eq_true rfl) (Nat.le_of_ble_eq_true rfl)
theorem e_call2_cst : k_call2_cst m c = constant S_ .f32 0x00000000#32 :=
  eq_nullary  (y := main_call2_cst) line 155 rfl
theorem e_call2_v0 : k_call2_v0 m c = (broadcastInDim S10000x1200 ![] bcast_S_S10000x1200) (k_call2_cst m c) :=
  eq_unary (x := main_call2_cst) (y := main_call2_v0) line 156 rfl (Nat.le_of_ble_eq_true rfl)
theorem e_v122 : k_v122 m c = maximumf (k_v121 m c) (k_call2_v0 m c) :=
  eq_binary (a := main_v121) (b := main_call2_v0) (y := main_v122) line 157 rfl (Nat.le_of_ble_eq_true rfl) (Nat.le_of_ble_eq_true rfl)
theorem e_v123 : k_v123 m c = extractStridedSlice S1x1200x100 ![1, 0, 0] (k_arg11 m c) slices_S2x1200x100_S1x1200x100_1_0_0 :=
  eq_unary (x := main_arg11) (y := main_v123) line 158 rfl (Nat.le_of_ble_eq_true rfl)
theorem e_v124 : k_v124 m c = shapeCast S1200x100 (k_v123 m c) shapeCasts_S1x1200x100_S1200x100 :=
  eq_reshape (x := main_v123) (y := main_v124) line 159 rfl (Nat.le_of_ble_eq_true rfl)
theorem e_v125 : k_v125 m c = Host.dotGeneral dot_S10000x1200_S1200x100_S10000x100_1_0_0_1_n_n none (k_v122 m c) (k_v124 m c) :=
  eq_binary (a := main_v122) (b := main_v124) (y := main_v125) line 160 rfl (Nat.le_of_ble_eq_true rfl) (Nat.le_of_ble_eq_true rfl)
theorem e_v126 : k_v126 m c = extractStridedSlice S1x1200x100 ![1, 0, 0] (k_arg13 m c) slices_S3x1200x100_S1x1200x100_1_0_0 :=
  eq_unary (x := main_arg13) (y := main_v126) line 161 rfl (Nat.le_of_ble_eq_true rfl)
theorem e_v127 : k_v127 m c = shapeCast S1200x100 (k_v126 m c) shapeCasts_S1x1200x100_S1200x100 :=
  eq_reshape (x := main_v126) (y := main_v127) line 162 rfl (Nat.le_of_ble_eq_true rfl)
theorem e_v128 : k_v128 m c = Host.dotGeneral dot_S10000x1200_S1200x100_S10000x100_1_0_0_1_n_n none (k_v122 m c) (k_v127 m c) :=
  eq_binary (a := main_v122) (b := main_v127) (y := main_v128) line 163 rfl (Nat.le_of_ble_eq_true rfl) (Nat.le_of_ble_eq_true rfl)
theorem e_v129 : k_v129 m c = extractStridedSlice S1x1200x100 ![2, 0, 0] (k_arg13 m c) slices_S3x1200x100_S1x1200x100_2_0_0 :=
  eq_unary (x := main_arg13) (y := main_v129) line 164 rfl (Nat.le_of_ble_eq_true rfl)
theorem e_v130 : k_v130 m c = shapeCast S1200x100 (k_v129 m c) shapeCasts_S1x1200x100_S1200x100 :=
  eq_reshape (x := main_v129) (y := main_v130) line 165 rfl (Nat.le_of_ble_eq_true rfl)
theorem e_v131 : k_v131 m c = Host.dotGeneral dot_S10000x1200_S1200x100_S10000x100_1_0_0_1_n_n none (k_v122 m c) (k_v130 m c) :=
  eq_binary (a := main_v122) (b := main_v130) (y := main_v131) line 166 rfl (Nat.le_of_ble_eq_true rfl) (Nat.le_of_ble_eq_true rfl)
theorem e_v132 : k_v132 m c = shapeCast S1200x100 (k_arg9 m c) shapeCasts_S1x1200x100_S1200x100 :=
  eq_reshape (x := main_arg9) (y := main_v132) line 167 rfl (Nat.le_of_ble_eq_true rfl)
theorem e_v133 : k_v133 m c = extractStridedSlice S1x1200x100 ![0, 0, 0] (k_arg11 m c) slices_S2x1200x100_S1x1200x100_0_0_0 :=
  eq_unary (x := main_arg11) (y := main_v133) line 168 rfl (Nat.le_of_ble_eq_true rfl)
theorem e_v134 : k_v134 m c = shapeCast S1200x100 (k_v133 m c) shapeCasts_S1x1200x100_S1200x100 :=
  eq_reshape (x := main_v133) (y := main_v134) line 169 rfl (Nat.le_of_ble_eq_true rfl)
theorem e_v135 : k_v135 m c = extractStridedSlice S1x1200x100 ![0, 0, 0] (k_arg13 m c) slices_S3x1200x100_S1x1200x100_0_0_0 :=
  eq_unary (x := main_arg13) (y := main_v135) line 170 rfl (Nat.le_of_ble_eq_true rfl)
theorem e_v136 : k_v136 m c = shapeCast S1200x100 (k_v135 m c) shapeCasts_S1x1200x100_S1200x100 :=
  eq_reshape (x := main_v135) (y := main_v136) line 171 rfl (Nat.le_of_ble_eq_true rfl)
theorem e_v137 : k_v137 m c = extractStridedSlice S1x1200x100 ![2, 0, 0] (k_arg13 m c) slices_S3x1200x100_S1x1200x100_2_0_0 :=
  eq_unary (x := main_arg13) (y := main_v137) line 172 rfl (Nat.le_of_ble_eq_true rfl)
theorem e_v138 : k_v138 m c = shapeCast S1200x100 (k_v137 m c) shapeCasts_S1x1200x100_S1200x100 :=
  eq_reshape (x := main_v137) (y := main_v138) line 173 rfl (Nat.le_of_ble_eq_true rfl)
theorem e_v139 : k_v139 m c = subf (k_v136 m c) (k_v138 m c) :=
  eq_binary (a := main_v136) (b := main_v138) (y := main_v139) line 174 rfl (Nat.le_of_ble_eq_true rfl) (Nat.le_of_ble_eq_true rfl)
theorem e_v140 : k_v140 m c = concatenate S1200x300 1 [⟨S1200x100, (k_v132 m c)⟩, ⟨S1200x100, (k_v134 m c)⟩, ⟨S1200x100, (k_v139 m c)⟩] concatenates_S1200x100_S1200x100_S1200x100_S1200x300_d1 :=
  eq_nary (xs := ![main_v132, main_v134, main_v139]) (y := main_v140) line 175 rfl (by decide)
theorem e_v141 : k_v141 m c = concatenate S300 0 [⟨S100, (k_arg10 m c)⟩, ⟨S100, (k_arg12 m c)⟩, ⟨S100, (k_arg14 m c)⟩] concatenates_S100_S100_S100_S300_d0 :=
  eq_nary (xs := ![main_arg10, main_arg12, main_arg14]) (y := main_v141) line 176 rfl (by decide)
theorem e_v142 : k_v142 m c = Host.dotGeneral dot_S10000x1200_S1200x300_S10000x300_1_0_0_1_n_n none (k_v122 m c) (k_v140 m c) :=
  eq_binary (a := main_v122) (b := main_v140) (y := main_v142) line 177 rfl (Nat.le_of_ble_eq_true rfl) (Nat.le_of_ble_eq_true rfl)
theorem e_v143 : k_v143 m c = broadcastInDim S1x300 ![1] bcast_S300_S1x300_1 (k_v141 m c) :=
  eq_unary (x := main_v141) (y := main_v143) line 178 rfl (Nat.le_of_ble_eq_true rfl)
theorem e_v144 : k_v144 m c = broadcastInDim S10000x300 ![0, 1] bcast_S1x300_S10000x300_0_1 (k_v143 m c) :=
  eq_unary (x := main_v143) (y := main_v144) line 179 rfl (Nat.le_of_ble_eq_true rfl)
theorem e_v145 : k_v145 m c = addf (k_v142 m c) (k_v144 m c) :=
  eq_binary (a := main_v142) (b := main_v144) (y := main_v145) line 180 rfl (Nat.le_of_ble_eq_true rfl) (Nat.le_of_ble_eq_true rfl)
theorem e_cst_27 : k_cst_27 m c = constant S_ .f32 0x00000000#32 :=
  eq_nullary  (y := main_cst_27) line 181 rfl
theorem e_v146 : k_v146 m c = broadcastInDim S10000x100 ![] bcast_S_S10000x100 (k_cst_27 m c) :=
  eq_unary (x := main_cst_27) (y := main_v146) line 182 rfl (Nat.le_of_ble_eq_true rfl)
theorem e_v147 : k_v147 m c = broadcastInDim S160000x1 ![0] bcast_S160000_S160000x1_0 (k_v35 m c) :=
  eq_unary (x := main_v35) (y := main_v147) line 183 rfl (Nat.le_of_ble_eq_true rfl)
theorem e_c_28 : k_c_28 m c = constantI S_ 32 0#32 :=
  eq_nullary  (y := main_c_28) line 184 rfl
theorem e_v148 : k_v148 m c = broadcastInDim S160000 ![] bcast_S_S160000 (k_c_28 m c) :=
  eq_unary (x := main_c_28) (y := main_v148) line 185 rfl (Nat.le_of_ble_eq_true rfl)
theorem e_v149 : k_v149 m c = cmpi .slt (k_v1 m c) (k_v148 m c) :=
  eq_binary (a := main_v1) (b := main_v148) (y := main_v149) line 186 rfl (Nat.le_of_ble_eq_true rfl) (Nat.le_of_ble_eq_true rfl)
theorem e_c_29 : k_c_29 m c = constantI S_ 32 10000#32 :=
  eq_nullary  (y := main_c_29) line 187 rfl
theorem e_v150 : k_v150 m c = broadcastInDim S160000 ![] bcast_S_S160000 (k_c_29 m c) :=
  eq_unary (x := main_c_29) (y := main_v150) line 188 rfl (Nat.le_of_ble_eq_true rfl)
theorem e_v151 : k_v151 m c = addi (k_v1 m c) (k_v150 m c) :=
  eq_binary (a := main_v1) (b := main_v150) (y := main_v151) line 189 rfl (Nat.le_of_ble_eq_true rfl) (Nat.le_of_ble_eq_true rfl)
theorem e_v152 : k_v152 m c = select (k_v149 m c) (k_v151 m c) (k_v1 m c) :=
  eq_ternary (c := main_v149) (a := main_v151) (b := main_v1) (y := main_v152) line 190 rfl (Nat.le_of_ble_eq_true rfl) (Nat.le_of_ble_eq_true rfl) (Nat.le_of_ble_eq_true rfl)
theorem e_v153 : k_v153 m c = broadcastInDim S160000x1 ![0] bcast_S160000_S160000x1_0 (k_v152 m c) :=
  eq_unary (x := main_v152) (y := main_v153) line 191 rfl (Nat.le_of_ble_eq_true rfl)
theorem e_v154 : k_v154 m c = Host.gather gather_S10000x100_S160000x1_S160000x100_1_0_n_n_0_1_1100 (k_v125 m c) (k_v153 m c) :=
  eq_binary (a := main_v125) (b := main_v153) (y := main_v154) line 192 rfl (Nat.le_of_ble_eq_true rfl) (Nat.le_of_ble_eq_true rfl)
theorem e_v155 : k_v155 m c = broadcastInDim S160000x100 ![0, 1] bcast_S160000x1_S160000x100_0_1 (k_v147 m c) :=
  eq_unary (x := main_v147) (y := main_v155) line 193 rfl (Nat.le_of_ble_eq_true rfl)
theorem e_v156 : k_v156 m c = mulf (k_v155 m c) (k_v154 m c) :=
  eq_binary (a := main_v155) (b := main_v154) (y := main_v156) line 194 rfl (Nat.le_of_ble_eq_true rfl) (Nat.le_of_ble_eq_true rfl)
theorem e_c_30 : k_c_30 m c = constantI S_ 32 0#32 :=
  eq_nullary  (y := main_c_30) line 195 rfl
theorem e_v157 : k_v157 m c = broadcastInDim S160000 ![] bcast_S_S160000 (k_c_30 m c) :=
  eq_unary (x := main_c_30) (y := main_v157) line 196 rfl (Nat.le_of_ble_eq_true rfl)
theorem e_v158 : k_v158 m c = cmpi .slt (k_v3 m c) (k_v157 m c) :=
  eq_binary (a := main_v3) (b := main_v157) (y := main_v158) line 197 rfl (Nat.le_of_ble_eq_true rfl) (Nat.le_of_ble_eq_true rfl)
theorem e_c_31 : k_c_31 m c = constantI S_ 32 10000#32 :=
  eq_nullary  (y := main_c_31) line 198 rfl
theorem e_v159 : k_v159 m c = broadcastInDim S160000 ![] bcast_S_S160000 (k_c_31 m c) :=
  eq_unary (x := main_c_31) (y := main_v159) line 199 rfl (Nat.le_of_ble_eq_true rfl)
theorem e_v160 : k_v160 m c = addi (k_v3 m c) (k_v159 m c) :=
  eq_binary (a := main_v3) (b := main_v159) (y := main_v160) line 200 rfl (Nat.le_of_ble_eq_true rfl) (Nat.le_of_ble_eq_true rfl)
theorem e_v161 : k_v161 m c = select (k_v158 m c) (k_v160 m c) (k_v3 m c) :=
  eq_ternary (c := main_v158) (a := main_v160) (b := main_v3) (y := main_v161) line 201 rfl (Nat.le_of_ble_eq_true rfl) (Nat.le_of_ble_eq_true rfl) (Nat.le_of_ble_eq_true rfl)
theorem e_v162 : k_v162 m c = broadcastInDim S160000x1 ![0] bcast_S160000_S160000x1_0 (k_v161 m c) :=
  eq_unary (x := main_v161) (y := main_v162) line 202 rfl (Nat.le_of_ble_eq_true rfl)
theorem e_v163 : k_v163 m c = Host.scatterAdd scatter_S10000x100_S160000x1_S160000x100_1_0_0_1 (k_v146 m c) (k_v162 m c) (k_v156 m c) :=
  eq_ternary (c := main_v146) (a := main_v162) (b := main_v156) (y := main_v163) line 203 rfl (Nat.le_of_ble_eq_true rfl) (Nat.le_of_ble_eq_true rfl) (Nat.le_of_ble_eq_true rfl)
theorem e_cst_32 : k_cst_32 m c = constant S_ .f32 0x00000000#32 :=
  eq_nullary  (y := main_cst_32) line 204 rfl
theorem e_v164 : k_v164 m c = broadcastInDim S10000x100 ![] bcast_S_S10000x100 (k_cst_32 m c) :=
  eq_unary (x := main_cst_32) (y := main_v164) line 205 rfl (Nat.le_of_ble_eq_true rfl)
theorem e_v165 : k_v165 m c = broadcastInDim S160000x1 ![0] bcast_S160000_S160000x1_0 (k_v35 m c) :=
  eq_unary (x := main_v35) (y := main_v165) line 206 rfl (Nat.le_of_ble_eq_true rfl)
theorem e_c_33 : k_c_33 m c = constantI S_ 32 0#32 :=
  eq_nullary  (y := main_c_33) line 207 rfl
theorem e_v166 : k_v166 m c = broadcastInDim S160000 ![] bcast_S_S160000 (k_c_33 m c) :=
  eq_unary (x := main_c_33) (y := main_v166) line 208 rfl (Nat.le_of_ble_eq_true rfl)
theorem e_v167 : k_v167 m c = cmpi .slt (k_v1 m c) (k_v166 m c) :=
  eq_binary (a := main_v1) (b := main_v166) (y := main_v167) line 209 rfl (Nat.le_of_ble_eq_true rfl) (Nat.le_of_ble_eq_true rfl)
theorem e_c_34 : k_c_34 m c = constantI S_ 32 10000#32 :=
  eq_nullary  (y := main_c_34) line 210 rfl
theorem e_v168 : k_v168 m c = broadcastInDim S160000 ![] bcast_S_S160000 (k_c_34 m c) :=
  eq_unary (x := main_c_34) (y := main_v168) line 211 rfl (Nat.le_of_ble_eq_true rfl)
theorem e_v169 : k_v169 m c = addi (k_v1 m c) (k_v168 m c) :=
  eq_binary (a := main_v1) (b := main_v168) (y := main_v169) line 212 rfl (Nat.le_of_ble_eq_true rfl) (Nat.le_of_ble_eq_true rfl)
theorem e_v170 : k_v170 m c = select (k_v167 m c) (k_v169 m c) (k_v1 m c) :=
  eq_ternary (c := main_v167) (a := main_v169) (b := main_v1) (y := main_v170) line 213 rfl (Nat.le_of_ble_eq_true rfl) (Nat.le_of_ble_eq_true rfl) (Nat.le_of_ble_eq_true rfl)
theorem e_v171 : k_v171 m c = broadcastInDim S160000x1 ![0] bcast_S160000_S160000x1_0 (k_v170 m c) :=
  eq_unary (x := main_v170) (y := main_v171) line 214 rfl (Nat.le_of_ble_eq_true rfl)
theorem e_v172 : k_v172 m c = Host.gather gather_S10000x100_S160000x1_S160000x100_1_0_n_n_0_1_1100 (k_v128 m c) (k_v171 m c) :=
  eq_binary (a := main_v128) (b := main_v171) (y := main_v172) line 215 rfl (Nat.le_of_ble_eq_true rfl) (Nat.le_of_ble_eq_true rfl)
theorem e_v173 : k_v173 m c = broadcastInDim S160000x100 ![0, 1] bcast_S160000x1_S160000x100_0_1 (k_v165 m c) :=
  eq_unary (x := main_v165) (y := main_v173) line 216 rfl (Nat.le_of_ble_eq_true rfl)
theorem e_v174 : k_v174 m c = mulf (k_v173 m c) (k_v172 m c) :=
  eq_binary (a := main_v173) (b := main_v172) (y := main_v174) line 217 rfl (Nat.le_of_ble_eq_true rfl) (Nat.le_of_ble_eq_true rfl)
theorem e_c_35 : k_c_35 m c = constantI S_ 32 0#32 :=
  eq_nullary  (y := main_c_35) line 218 rfl
theorem e_v175 : k_v175 m c = broadcastInDim S160000 ![] bcast_S_S160000 (k_c_35 m c) :=
  eq_unary (x := main_c_35) (y := main_v175) line 219 rfl (Nat.le_of_ble_eq_true rfl)
theorem e_v176 : k_v176 m c = cmpi .slt (k_v3 m c) (k_v175 m c) :=
  eq_binary (a := main_v3) (b := main_v175) (y := main_v176) line 220 rfl (Nat.le_of_ble_eq_true rfl) (Nat.le_of_ble_eq_true rfl)
theorem e_c_36 : k_c_36 m c = constantI S_ 32 10000#32 :=
  eq_nullary  (y := main_c_36) line 221 rfl
theorem e_v177 : k_v177 m c = broadcastInDim S160000 ![] bcast_S_S160000 (k_c_36 m c) :=
  eq_unary (x := main_c_36) (y := main_v177) line 222 rfl (Nat.le_of_ble_eq_true rfl)
theorem e_v178 : k_v178 m c = addi (k_v3 m c) (k_v177 m c) :=
  eq_binary (a := main_v3) (b := main_v177) (y := main_v178) line 223 rfl (Nat.le_of_ble_eq_true rfl) (Nat.le_of_ble_eq_true rfl)
theorem e_v179 : k_v179 m c = select (k_v176 m c) (k_v178 m c) (k_v3 m c) :=
  eq_ternary (c := main_v176) (a := main_v178) (b := main_v3) (y := main_v179) line 224 rfl (Nat.le_of_ble_eq_true rfl) (Nat.le_of_ble_eq_true rfl) (Nat.le_of_ble_eq_true rfl)
theorem e_v180 : k_v180 m c = broadcastInDim S160000x1 ![0] bcast_S160000_S160000x1_0 (k_v179 m c) :=
  eq_unary (x := main_v179) (y := main_v180) line 225 rfl (Nat.le_of_ble_eq_true rfl)
theorem e_v181 : k_v181 m c = Host.scatterAdd scatter_S10000x100_S160000x1_S160000x100_1_0_0_1 (k_v164 m c) (k_v180 m c) (k_v174 m c) :=
  eq_ternary (c := main_v164) (a := main_v180) (b := main_v174) (y := main_v181) line 226 rfl (Nat.le_of_ble_eq_true rfl) (Nat.le_of_ble_eq_true rfl) (Nat.le_of_ble_eq_true rfl)
theorem e_cst_37 : k_cst_37 m c = constant S_ .f32 0x00000000#32 :=
  eq_nullary  (y := main_cst_37) line 227 rfl
theorem e_v182 : k_v182 m c = broadcastInDim S10000x100 ![] bcast_S_S10000x100 (k_cst_37 m c) :=
  eq_unary (x := main_cst_37) (y := main_v182) line 228 rfl (Nat.le_of_ble_eq_true rfl)
theorem e_v183 : k_v183 m c = broadcastInDim S160000x1 ![0] bcast_S160000_S160000x1_0 (k_v35 m c) :=
  eq_unary (x := main_v35) (y := main_v183) line 229 rfl (Nat.le_of_ble_eq_true rfl)
theorem e_c_38 : k_c_38 m c = constantI S_ 32 0#32 :=
  eq_nullary  (y := main_c_38) line 230 rfl
theorem e_v184 : k_v184 m c = broadcastInDim S160000 ![] bcast_S_S160000 (k_c_38 m c) :=
  eq_unary (x := main_c_38) (y := main_v184) line 231 rfl (Nat.le_of_ble_eq_true rfl)
theorem e_v185 : k_v185 m c = cmpi .slt (k_v1 m c) (k_v184 m c) :=
  eq_binary (a := main_v1) (b := main_v184) (y := main_v185) line 232 rfl (Nat.le_of_ble_eq_true rfl) (Nat.le_of_ble_eq_true rfl)
theorem e_c_39 : k_c_39 m c = constantI S_ 32 10000#32 :=
  eq_nullary  (y := main_c_39) line 233 rfl
theorem e_v186 : k_v186 m c = broadcastInDim S160000 ![] bcast_S_S160000 (k_c_39 m c) :=
  eq_unary (x := main_c_39) (y := main_v186) line 234 rfl (Nat.le_of_ble_eq_true rfl)
theorem e_v187 : k_v187 m c = addi (k_v1 m c) (k_v186 m c) :=
  eq_binary (a := main_v1) (b := main_v186) (y := main_v187) line 235 rfl (Nat.le_of_ble_eq_true rfl) (Nat.le_of_ble_eq_true rfl)
theorem e_v188 : k_v188 m c = select (k_v185 m c) (k_v187 m c) (k_v1 m c) :=
  eq_ternary (c := main_v185) (a := main_v187) (b := main_v1) (y := main_v188) line 236 rfl (Nat.le_of_ble_eq_true rfl) (Nat.le_of_ble_eq_true rfl) (Nat.le_of_ble_eq_true rfl)
theorem e_v189 : k_v189 m c = broadcastInDim S160000x1 ![0] bcast_S160000_S160000x1_0 (k_v188 m c) :=
  eq_unary (x := main_v188) (y := main_v189) line 237 rfl (Nat.le_of_ble_eq_true rfl)
theorem e_v190 : k_v190 m c = Host.gather gather_S10000x100_S160000x1_S160000x100_1_0_n_n_0_1_1100 (k_v131 m c) (k_v189 m c) :=
  eq_binary (a := main_v131) (b := main_v189) (y := main_v190) line 238 rfl (Nat.le_of_ble_eq_true rfl) (Nat.le_of_ble_eq_true rfl)
theorem e_v191 : k_v191 m c = broadcastInDim S160000x100 ![0, 1] bcast_S160000x1_S160000x100_0_1 (k_v183 m c) :=
  eq_unary (x := main_v183) (y := main_v191) line 239 rfl (Nat.le_of_ble_eq_true rfl)
theorem e_v192 : k_v192 m c = mulf (k_v191 m c) (k_v190 m c) :=
  eq_binary (a := main_v191) (b := main_v190) (y := main_v192) line 240 rfl (Nat.le_of_ble_eq_true rfl) (Nat.le_of_ble_eq_true rfl)
theorem e_c_40 : k_c_40 m c = constantI S_ 32 0#32 :=
  eq_nullary  (y := main_c_40) line 241 rfl
theorem e_v193 : k_v193 m c = broadcastInDim S160000 ![] bcast_S_S160000 (k_c_40 m c) :=
  eq_unary (x := main_c_40) (y := main_v193) line 242 rfl (Nat.le_of_ble_eq_true rfl)
theorem e_v194 : k_v194 m c = cmpi .slt (k_v3 m c) (k_v193 m c) :=
  eq_binary (a := main_v3) (b := main_v193) (y := main_v194) line 243 rfl (Nat.le_of_ble_eq_true rfl) (Nat.le_of_ble_eq_true rfl)
theorem e_c_41 : k_c_41 m c = constantI S_ 32 10000#32 :=
  eq_nullary  (y := main_c_41) line 244 rfl
theorem e_v195 : k_v195 m c = broadcastInDim S160000 ![] bcast_S_S160000 (k_c_41 m c) :=
  eq_unary (x := main_c_41) (y := main_v195) line 245 rfl (Nat.le_of_ble_eq_true rfl)
theorem e_v196 : k_v196 m c = addi (k_v3 m c) (k_v195 m c) :=
  eq_binary (a := main_v3) (b := main_v195) (y := main_v196) line 246 rfl (Nat.le_of_ble_eq_true rfl) (Nat.le_of_ble_eq_true rfl)
theorem e_v197 : k_v197 m c = select (k_v194 m c) (k_v196 m c) (k_v3 m c) :=
  eq_ternary (c := main_v194) (a := main_v196) (b := main_v3) (y := main_v197) line 247 rfl (Nat.le_of_ble_eq_true rfl) (Nat.le_of_ble_eq_true rfl) (Nat.le_of_ble_eq_true rfl)
theorem e_v198 : k_v198 m c = broadcastInDim S160000x1 ![0] bcast_S160000_S160000x1_0 (k_v197 m c) :=
  eq_unary (x := main_v197) (y := main_v198) line 248 rfl (Nat.le_of_ble_eq_true rfl)
theorem e_v199 : k_v199 m c = Host.scatterAdd scatter_S10000x100_S160000x1_S160000x100_1_0_0_1 (k_v182 m c) (k_v198 m c) (k_v192 m c) :=
  eq_ternary (c := main_v182) (a := main_v198) (b := main_v192) (y := main_v199) line 249 rfl (Nat.le_of_ble_eq_true rfl) (Nat.le_of_ble_eq_true rfl) (Nat.le_of_ble_eq_true rfl)
theorem e_cst_42 : k_cst_42 m c = constant S_ .f32 0x00000000#32 :=
  eq_nullary  (y := main_cst_42) line 250 rfl
theorem e_v200 : k_v200 m c = broadcastInDim S10000x100 ![] bcast_S_S10000x100 (k_cst_42 m c) :=
  eq_unary (x := main_cst_42) (y := main_v200) line 251 rfl (Nat.le_of_ble_eq_true rfl)
theorem e_v201 : k_v201 m c = broadcastInDim S160000x1 ![0] bcast_S160000_S160000x1_0 (k_v35 m c) :=
  eq_unary (x := main_v35) (y := main_v201) line 252 rfl (Nat.le_of_ble_eq_true rfl)
theorem e_c_43 : k_c_43 m c = constantI S_ 32 0#32 :=
  eq_nullary  (y := main_c_43) line 253 rfl
theorem e_v202 : k_v202 m c = broadcastInDim S160000 ![] bcast_S_S160000 (k_c_43 m c) :=
  eq_unary (x := main_c_43) (y := main_v202) line 254 rfl (Nat.le_of_ble_eq_true rfl)
theorem e_v203 : k_v203 m c = cmpi .slt (k_v1 m c) (k_v202 m c) :=
  eq_binary (a := main_v1) (b := main_v202) (y := main_v203) line 255 rfl (Nat.le_of_ble_eq_true rfl) (Nat.le_of_ble_eq_true rfl)
theorem e_c_44 : k_c_44 m c = constantI S_ 32 10000#32 :=
  eq_nullary  (y := main_c_44) line 256 rfl
theorem e_v204 : k_v204 m c = broadcastInDim S160000 ![] bcast_S_S160000 (k_c_44 m c) :=
  eq_unary (x := main_c_44) (y := main_v204) line 257 rfl (Nat.le_of_ble_eq_true rfl)
theorem e_v205 : k_v205 m c = addi (k_v1 m c) (k_v204 m c) :=
  eq_binary (a := main_v1) (b := main_v204) (y := main_v205) line 258 rfl (Nat.le_of_ble_eq_true rfl) (Nat.le_of_ble_eq_true rfl)
theorem e_v206 : k_v206 m c = select (k_v203 m c) (k_v205 m c) (k_v1 m c) :=
  eq_ternary (c := main_v203) (a := main_v205) (b := main_v1) (y := main_v206) line 259 rfl (Nat.le_of_ble_eq_true rfl) (Nat.le_of_ble_eq_true rfl) (Nat.le_of_ble_eq_true rfl)
theorem e_v207 : k_v207 m c = broadcastInDim S160000x1 ![0] bcast_S160000_S160000x1_0 (k_v206 m c) :=
  eq_unary (x := main_v206) (y := main_v207) line 260 rfl (Nat.le_of_ble_eq_true rfl)
theorem e_v208 : k_v208 m c = Host.gather gather_S10000x100_S160000x1_S160000x100_1_0_n_n_0_1_1100 (k_v199 m c) (k_v207 m c) :=
  eq_binary (a := main_v199) (b := main_v207) (y := main_v208) line 261 rfl (Nat.le_of_ble_eq_true rfl) (Nat.le_of_ble_eq_true rfl)
theorem e_v209 : k_v209 m c = broadcastInDim S160000x100 ![0, 1] bcast_S160000x1_S160000x100_0_1 (k_v201 m c) :=
  eq_unary (x := main_v201) (y := main_v209) line 262 rfl (Nat.le_of_ble_eq_true rfl)
theorem e_v210 : k_v210 m c = mulf (k_v209 m c) (k_v208 m c) :=
  eq_binary (a := main_v209) (b := main_v208) (y := main_v210) line 263 rfl (Nat.le_of_ble_eq_true rfl) (Nat.le_of_ble_eq_true rfl)
theorem e_c_45 : k_c_45 m c = constantI S_ 32 0#32 :=
  eq_nullary  (y := main_c_45) line 264 rfl
theorem e_v211 : k_v211 m c = broadcastInDim S160000 ![] bcast_S_S160000 (k_c_45 m c) :=
  eq_unary (x := main_c_45) (y := main_v211) line 265 rfl (Nat.le_of_ble_eq_true rfl)
theorem e_v212 : k_v212 m c = cmpi .slt (k_v3 m c) (k_v211 m c) :=
  eq_binary (a := main_v3) (b := main_v211) (y := main_v212) line 266 rfl (Nat.le_of_ble_eq_true rfl) (Nat.le_of_ble_eq_true rfl)
theorem e_c_46 : k_c_46 m c = constantI S_ 32 10000#32 :=
  eq_nullary  (y := main_c_46) line 267 rfl
theorem e_v213 : k_v213 m c = broadcastInDim S160000 ![] bcast_S_S160000 (k_c_46 m c) :=
  eq_unary (x := main_c_46) (y := main_v213) line 268 rfl (Nat.le_of_ble_eq_true rfl)
theorem e_v214 : k_v214 m c = addi (k_v3 m c) (k_v213 m c) :=
  eq_binary (a := main_v3) (b := main_v213) (y := main_v214) line 269 rfl (Nat.le_of_ble_eq_true rfl) (Nat.le_of_ble_eq_true rfl)
theorem e_v215 : k_v215 m c = select (k_v212 m c) (k_v214 m c) (k_v3 m c) :=
  eq_ternary (c := main_v212) (a := main_v214) (b := main_v3) (y := main_v215) line 270 rfl (Nat.le_of_ble_eq_true rfl) (Nat.le_of_ble_eq_true rfl) (Nat.le_of_ble_eq_true rfl)
theorem e_v216 : k_v216 m c = broadcastInDim S160000x1 ![0] bcast_S160000_S160000x1_0 (k_v215 m c) :=
  eq_unary (x := main_v215) (y := main_v216) line 271 rfl (Nat.le_of_ble_eq_true rfl)
theorem e_v217 : k_v217 m c = Host.scatterAdd scatter_S10000x100_S160000x1_S160000x100_1_0_0_1 (k_v200 m c) (k_v216 m c) (k_v210 m c) :=
  eq_ternary (c := main_v200) (a := main_v216) (b := main_v210) (y := main_v217) line 272 rfl (Nat.le_of_ble_eq_true rfl) (Nat.le_of_ble_eq_true rfl) (Nat.le_of_ble_eq_true rfl)
theorem e_cst_47 : k_cst_47 m c = constant S_ .f32 0x00000000#32 :=
  eq_nullary  (y := main_cst_47) line 273 rfl
theorem e_v218 : k_v218 m c = broadcastInDim S10000x100 ![] bcast_S_S10000x100 (k_cst_47 m c) :=
  eq_unary (x := main_cst_47) (y := main_v218) line 274 rfl (Nat.le_of_ble_eq_true rfl)
theorem e_cst_48 : k_cst_48 m c = constant S_ .f32 0x40000000#32 :=
  eq_nullary  (y := main_cst_48) line 275 rfl
theorem e_v219 : k_v219 m c = broadcastInDim S10000x100 ![] bcast_S_S10000x100 (k_cst_48 m c) :=
  eq_unary (x := main_cst_48) (y := main_v219) line 276 rfl (Nat.le_of_ble_eq_true rfl)
theorem e_v220 : k_v220 m c = mulf (k_v219 m c) (k_v217 m c) :=
  eq_binary (a := main_v219) (b := main_v217) (y := main_v220) line 277 rfl (Nat.le_of_ble_eq_true rfl) (Nat.le_of_ble_eq_true rfl)
theorem e_v221 : k_v221 m c = addf (k_v181 m c) (k_v220 m c) :=
  eq_binary (a := main_v181) (b := main_v220) (y := main_v221) line 278 rfl (Nat.le_of_ble_eq_true rfl) (Nat.le_of_ble_eq_true rfl)
theorem e_v222 : k_v222 m c = concatenate S10000x300 1 [⟨S10000x100, (k_v218 m c)⟩, ⟨S10000x100, (k_v163 m c)⟩, ⟨S10000x100, (k_v221 m c)⟩] concatenates_S10000x100_S10000x100_S10000x100_S10000x300_d1 :=
  eq_nary (xs := ![main_v218, main_v163, main_v221]) (y := main_v222) line 279 rfl (by decide)
theorem e_v223 : k_v223 m c = addf (k_v145 m c) (k_v222 m c) :=
  eq_binary (a := main_v145) (b := main_v222) (y := main_v223) line 280 rfl (Nat.le_of_ble_eq_true rfl) (Nat.le_of_ble_eq_true rfl)
theorem e_cst_49 : k_cst_49 m c = constant S_ .f32 0x00000000#32 :=
  eq_nullary  (y := main_cst_49) line 281 rfl
theorem e_v224 : k_v224 m c = Host.reduceAdd (k_v223 m c) (k_cst_49 m c) reducesTo_S10000x300_S300_d0 h_S_ :=
  eq_binary (a := main_v223) (b := main_cst_49) (y := main_v224) line 282 rfl (Nat.le_of_ble_eq_true rfl) (Nat.le_of_ble_eq_true rfl)
theorem e_cst_50 : k_cst_50 m c = constant S_ .f32 0x461C4000#32 :=
  eq_nullary  (y := main_cst_50) line 283 rfl
theorem e_v225 : k_v225 m c = broadcastInDim S300 ![] bcast_S_S300 (k_cst_50 m c) :=
  eq_unary (x := main_cst_50) (y := main_v225) line 284 rfl (Nat.le_of_ble_eq_true rfl)
theorem e_v226 : k_v226 m c = Host.divf (k_v224 m c) (k_v225 m c) :=
  eq_binary (a := main_v224) (b := main_v225) (y := main_v226) line 285 rfl (Nat.le_of_ble_eq_true rfl) (Nat.le_of_ble_eq_true rfl)
theorem e_v227 : k_v227 m c = mulf (k_v223 m c) (k_v223 m c) :=
  eq_binary (a := main_v223) (b := main_v223) (y := main_v227) line 286 rfl (Nat.le_of_ble_eq_true rfl) (Nat.le_of_ble_eq_true rfl)
theorem e_cst_51 : k_cst_51 m c = constant S_ .f32 0x00000000#32 :=
  eq_nullary  (y := main_cst_51) line 287 rfl
theorem e_v228 : k_v228 m c = Host.reduceAdd (k_v227 m c) (k_cst_51 m c) reducesTo_S10000x300_S300_d0 h_S_ :=
  eq_binary (a := main_v227) (b := main_cst_51) (y := main_v228) line 288 rfl (Nat.le_of_ble_eq_true rfl) (Nat.le_of_ble_eq_true rfl)
theorem e_cst_52 : k_cst_52 m c = constant S_ .f32 0x461C4000#32 :=
  eq_nullary  (y := main_cst_52) line 289 rfl
theorem e_v229 : k_v229 m c = broadcastInDim S300 ![] bcast_S_S300 (k_cst_52 m c) :=
  eq_unary (x := main_cst_52) (y := main_v229) line 290 rfl (Nat.le_of_ble_eq_true rfl)
theorem e_v230 : k_v230 m c = Host.divf (k_v228 m c) (k_v229 m c) :=
  eq_binary (a := main_v228) (b := main_v229) (y := main_v230) line 291 rfl (Nat.le_of_ble_eq_true rfl) (Nat.le_of_ble_eq_true rfl)
theorem e_v231 : k_v231 m c = mulf (k_v226 m c) (k_v226 m c) :=
  eq_binary (a := main_v226) (b := main_v226) (y := main_v231) line 292 rfl (Nat.le_of_ble_eq_true rfl) (Nat.le_of_ble_eq_true rfl)
theorem e_v232 : k_v232 m c = subf (k_v230 m c) (k_v231 m c) :=
  eq_binary (a := main_v230) (b := main_v231) (y := main_v232) line 293 rfl (Nat.le_of_ble_eq_true rfl) (Nat.le_of_ble_eq_true rfl)
theorem e_cst_53 : k_cst_53 m c = constant S_ .f32 0x3727C5AC#32 :=
  eq_nullary  (y := main_cst_53) line 294 rfl
theorem e_v233 : k_v233 m c = broadcastInDim S300 ![] bcast_S_S300 (k_cst_53 m c) :=
  eq_unary (x := main_cst_53) (y := main_v233) line 295 rfl (Nat.le_of_ble_eq_true rfl)
theorem e_v234 : k_v234 m c = addf (k_v232 m c) (k_v233 m c) :=
  eq_binary (a := main_v232) (b := main_v233) (y := main_v234) line 296 rfl (Nat.le_of_ble_eq_true rfl) (Nat.le_of_ble_eq_true rfl)
theorem e_v235 : k_v235 m c = Host.rsqrt (k_v234 m c) :=
  eq_unary (x := main_v234) (y := main_v235) line 297 rfl (Nat.le_of_ble_eq_true rfl)
theorem e_v236 : k_v236 m c = mulf (k_arg17 m c) (k_v235 m c) :=
  eq_binary (a := main_arg17) (b := main_v235) (y := main_v236) line 298 rfl (Nat.le_of_ble_eq_true rfl) (Nat.le_of_ble_eq_true rfl)
theorem e_v237 : k_v237 m c = mulf (k_v226 m c) (k_v236 m c) :=
  eq_binary (a := main_v226) (b := main_v236) (y := main_v237) line 299 rfl (Nat.le_of_ble_eq_true rfl) (Nat.le_of_ble_eq_true rfl)
theorem e_v238 : k_v238 m c = subf (k_arg18 m c) (k_v237 m c) :=
  eq_binary (a := main_arg18) (b := main_v237) (y := main_v238) line 300 rfl (Nat.le_of_ble_eq_true rfl) (Nat.le_of_ble_eq_true rfl)
theorem e_v239 : k_v239 m c = broadcastInDim S1x300 ![1] bcast_S300_S1x300_1 (k_v236 m c) :=
  eq_unary (x := main_v236) (y := main_v239) line 301 rfl (Nat.le_of_ble_eq_true rfl)
theorem e_v240 : k_v240 m c = broadcastInDim S10000x300 ![0, 1] bcast_S1x300_S10000x300_0_1 (k_v239 m c) :=
  eq_unary (x := main_v239) (y := main_v240) line 302 rfl (Nat.le_of_ble_eq_true rfl)
theorem e_v241 : k_v241 m c = mulf (k_v223 m c) (k_v240 m c) :=
  eq_binary (a := main_v223) (b := main_v240) (y := main_v241) line 303 rfl (Nat.le_of_ble_eq_true rfl) (Nat.le_of_ble_eq_true rfl)
theorem e_v242 : k_v242 m c = broadcastInDim S1x300 ![1] bcast_S300_S1x300_1 (k_v238 m c) :=
  eq_unary (x := main_v238) (y := main_v242) line 304 rfl (Nat.le_of_ble_eq_true rfl)
theorem e_v243 : k_v243 m c = broadcastInDim S10000x300 ![0, 1] bcast_S1x300_S10000x300_0_1 (k_v242 m c) :=
  eq_unary (x := main_v242) (y := main_v243) line 305 rfl (Nat.le_of_ble_eq_true rfl)
theorem e_v244 : k_v244 m c = addf (k_v241 m c) (k_v243 m c) :=
  eq_binary (a := main_v241) (b := main_v243) (y := main_v244) line 306 rfl (Nat.le_of_ble_eq_true rfl) (Nat.le_of_ble_eq_true rfl)

end Cert.KernelIdeal.Host
end
end
-- ==== Proof.Ker.lean ====
/-
  The values of the kernel's arrays before its last step, stage by stage, in real arithmetic.
-/
module

public import proofs.«01_k».proof.Proof.Host
public import proofs.«01_k».proof.Proof.Net

@[expose] public section

noncomputable section

namespace Cert.KernelIdeal.Ker

open Idealize.ShloMosaic Idealize.ShloMosaic.ValueIdx Cert.Arr Cert.Model Cert.Net Cert.KernelIdeal.Host
open Cert.KernelIdeal Cert.KernelIdeal.Gen
open scoped BigOperators

variable {m : (ℓ : Loc nD τ sig) → Buf (Elt Ideal) ℓ} {c : Dev nD} {a : Args}

/-- The kernel's argument arrays hold the arguments `a`. -/
def KHolds (m : (ℓ : Loc nD τ sig) → Buf (Elt Ideal) ℓ) (c : Dev nD) (a : Args) : Prop :=
  Holds a (k_arg0 m c) (k_arg1 m c) (k_arg2 m c) (k_arg3 m c) (k_arg4 m c) (k_arg5 m c) (k_arg6 m c) (k_arg7 m c) (k_arg8 m c) (k_arg9 m c)
    (k_arg10 m c) (k_arg11 m c) (k_arg12 m c) (k_arg13 m c) (k_arg14 m c) (k_arg15 m c) (k_arg16 m c) (k_arg17 m c) (k_arg18 m c) (k_arg19 m c)
    (k_arg20 m c)

variable (H : KHolds m c a)
include H

/-- The source words. -/
theorem src : W1 (k_v1 m c) (a.ei 0) := by
  rw [e_v1, e_v0]
  exact fun e => (W1.rowOfMatrix _ (0 : Fin 2) _ _ e).trans (H.h1 0 e)

/-- The destination words. -/
theorem dst : W1 (k_v3 m c) (a.ei 1) := by
  rw [e_v3, e_v2]
  exact fun e => (W1.rowOfMatrix _ (1 : Fin 2) _ _ e).trans (H.h1 1 e)

/-- A column of wrapped source words. -/
theorem v10_idx : IC (k_v10 m c) (ws a) := by
  rw [e_v10, e_v9, e_v8, e_v7, e_c_0, e_v6, e_v5, e_c]
  exact (src H).wrapCol 10000#32 _ _ _

/-- A column of wrapped source words. -/
theorem v24_idx : IC (k_v24 m c) (ws a) := by
  rw [e_v24, e_v23, e_v22, e_v21, e_c_6, e_v20, e_v19, e_c_5]
  exact (src H).wrapCol 10000#32 _ _ _

/-- A column of wrapped destination words. -/
theorem v33_idx : IC (k_v33 m c) (wd a) := by
  rw [e_v33, e_v32, e_v31, e_v30, e_c_8, e_v29, e_v28, e_c_7]
  exact (dst H).wrapCol 10000#32 _ _ _

/-- A column of wrapped source words. -/
theorem v43_idx : IC (k_v43 m c) (ws a) := by
  rw [e_v43, e_v42, e_v41, e_v40, e_c_11, e_v39, e_v38, e_c_10]
  exact (src H).wrapCol 10000#32 _ _ _

/-- A column of wrapped destination words. -/
theorem v52_idx : IC (k_v52 m c) (wd a) := by
  rw [e_v52, e_v51, e_v50, e_v49, e_c_13, e_v48, e_v47, e_c_12]
  exact (dst H).wrapCol 10000#32 _ _ _

/-- A column of wrapped source words. -/
theorem v61_idx : IC (k_v61 m c) (ws a) := by
  rw [e_v61, e_v60, e_v59, e_v58, e_c_16, e_v57, e_v56, e_c_15]
  exact (src H).wrapCol 10000#32 _ _ _

/-- A column of wrapped destination words. -/
theorem v70_idx : IC (k_v70 m c) (wd a) := by
  rw [e_v70, e_v69, e_v68, e_v67, e_c_18, e_v66, e_v65, e_c_17]
  exact (dst H).wrapCol 10000#32 _ _ _

/-- A column of wrapped source words. -/
theorem v153_idx : IC (k_v153 m c) (ws a) := by
  rw [e_v153, e_v152, e_v151, e_v150, e_c_29, e_v149, e_v148, e_c_28]
  exact (src H).wrapCol 10000#32 _ _ _

/-- A column of wrapped destination words. -/
theorem v162_idx : IC (k_v162 m c) (wd a) := by
  rw [e_v162, e_v161, e_v160, e_v159, e_c_31, e_v158, e_v157, e_c_30]
  exact (dst H).wrapCol 10000#32 _ _ _

/-- A column of wrapped source words. -/
theorem v171_idx : IC (k_v171 m c) (ws a) := by
  rw [e_v171, e_v170, e_v169, e_v168, e_c_34, e_v167, e_v166, e_c_33]
  exact (src H).wrapCol 10000#32 _ _ _

/-- A column of wrapped destination words. -/
theorem v180_idx : IC (k_v180 m c) (wd a) := by
  rw [e_v180, e_v179, e_v178, e_v177, e_c_36, e_v176, e_v175, e_c_35]
  exact (dst H).wrapCol 10000#32 _ _ _

/-- A column of wrapped source words. -/
theorem v189_idx : IC (k_v189 m c) (ws a) := by
  rw [e_v189, e_v188, e_v187, e_v186, e_c_39, e_v185, e_v184, e_c_38]
  exact (src H).wrapCol 10000#32 _ _ _

/-- A column of wrapped destination words. -/
theorem v198_idx : IC (k_v198 m c) (wd a) := by
  rw [e_v198, e_v197, e_v196, e_v195, e_c_41, e_v194, e_v193, e_c_40]
  exact (dst H).wrapCol 10000#32 _ _ _

/-- A column of wrapped source words. -/
theorem v207_idx : IC (k_v207 m c) (ws a) := by
  rw [e_v207, e_v206, e_v205, e_v204, e_c_44, e_v203, e_v202, e_c_43]
  exact (src H).wrapCol 10000#32 _ _ _

/-- A column of wrapped destination words. -/
theorem v216_idx : IC (k_v216 m c) (wd a) := by
  rw [e_v216, e_v215, e_v214, e_v213, e_c_46, e_v212, e_v211, e_c_45]
  exact (dst H).wrapCol 10000#32 _ _ _

/-- The degrees. -/
theorem v11_val : V1 (k_v11 m c) (dg a) := by
  rw [e_v11, e_v4, e_cst]
  exact V1.deg H.h2 V0.zero (v10_idx H) _ _ rfl _

/-- Their reciprocal square roots. -/
theorem v18_val : V1 (k_v18 m c) (dis (dg a)) := by
  rw [e_v18, e_call1_v1, e_call1_v0, e_cst_4, e_v17, e_v16, e_call0_v1, e_call0_v0, e_cst_3, e_v15, e_v14, e_cst_2, e_v13, e_v12, e_cst_1]
  exact V1.dis (v11_val H) V0.zero V0.zero V0.one V0.zero _ _ _ _

/-- The coefficients of the edges. -/
theorem v35_val : V1 (k_v35 m c) (nr a) := by
  rw [e_v35, e_v34, e_v27, e_v26, e_v25]
  exact V1.nrm (v18_val H) H.h2 (v24_idx H) (v33_idx H) hN _ _ rfl

/-- The scaled adjacency applied to the input. -/
theorem v53_val : V2 (k_v53 m c) (S a a.x) := by
  rw [e_v53, e_v46, e_v45, e_v44, e_v37, e_v36, e_cst_9]
  exact V2.prop H.h0 (v35_val H) (v43_idx H) (v52_idx H) V0.zero hN _ _ rfl _ _ rfl _ _ _

/-- The scaled adjacency applied twice to the input. -/
theorem v71_val : V2 (k_v71 m c) (S a (S a a.x)) := by
  rw [e_v71, e_v64, e_v63, e_v62, e_v55, e_v54, e_cst_14]
  exact V2.prop (v53_val H) (v35_val H) (v61_idx H) (v70_idx H) V0.zero hN _ _ rfl _ _ rfl _ _ _

/-- The weights of the first product. -/
theorem v80_val : V2 (k_v80 m c) fun k j => cat3 (a.w11 0 k) (a.w12 0 k) (fun j => a.w13 0 k j - a.w13 2 k j) j := by
  rw [e_v80, e_v79, e_v78, e_v77, e_v76, e_v75, e_v74, e_v73, e_v72]
  exact V2.concat3 (H.h3.unstack _) ((H.h5.slice 0 _).unstack _) (((H.h7.slice 0 _).unstack _).sub ((H.h7.slice 2 _).unstack _)) _ rfl (fun _ k j h => cat3_0 _ _ _ k j h) (fun _ k j h => cat3_1 _ _ _ k j h) (fun _ k j h => cat3_2 _ _ _ k j h)

/-- The weights of the second product. -/
theorem v85_val : V2 (k_v85 m c) fun k j => cat2 (a.w12 1 k) (a.w13 1 k) j := by
  rw [e_v85, e_v84, e_v83, e_v82, e_v81]
  exact V2.concat2 ((H.h5.slice 1 _).unstack _) ((H.h7.slice 1 _).unstack _) _ rfl (fun _ k j h => cat2_0 _ _ k j h) (fun _ k j h => cat2_1 _ _ k j h)

/-- The weights of the third product. -/
theorem v89_val : V2 (k_v89 m c) fun k j => 2 * a.w13 2 k j := by
  rw [e_v89, e_v88, e_cst_19, e_v87, e_v86]
  exact (V0.two.bc2 _).mul ((H.h7.slice 2 _).unstack _)

/-- The bias of the first three layers. -/
theorem v90_val : V1 (k_v90 m c) fun j => cat3 a.b11 a.b12 a.b13 j := by
  rw [e_v90]
  exact V1.concat3 H.h4 H.h6 H.h8 _ rfl (fun k j h => cat3_0 _ _ _ k j h) (fun k j h => cat3_1 _ _ _ k j h) (fun k j h => cat3_2 _ _ _ k j h)

/-- The first three layers. -/
theorem v100_val : V2 (k_v100 m c) (pre1 a) := by
  rw [e_v100, e_v99, e_c_21, e_v98, e_v97, e_v96, e_c_20, e_v95, e_v94, e_v93, e_v92, e_v91]
  refine V2.congr (V2.addCols (V2.addCols ((V2.dot H.h0 (v80_val H) _ rfl).add ((v90_val H).rows _ _)) (V2.dot (v53_val H) (v85_val H) _ rfl)
    _ _ rfl _ 400 rfl) (V2.dot (v71_val H) (v89_val H) _ rfl) _ _ rfl _ 800 rfl) fun i j => ?_
  exact block_fused (C := 400) (M := 1200) (P := 800) rfl (fun A => S a A) a.x _ _ _ _ _ _ _ _ _ rfl i j

/-- The means of the first three layers' columns. -/
theorem v103_val : V1 (k_v103 m c) (mean (pre1 a)) := by
  rw [e_v103, e_v102, e_cst_23, e_v101, e_cst_22]
  exact V2.mean (v100_val H) V0.zero V0.tenThousand _ (by decide) _ _

/-- The scale of each column. -/
theorem v113_val : V1 (k_v113 m c) fun j => a.g1 j * (Real.sqrt ((∑ i, pre1 a i j * pre1 a i j) / 10000 - mean (pre1 a) j * mean (pre1 a) j + eps))⁻¹ := by
  rw [e_v113, e_v112, e_v111, e_v110, e_cst_26, e_v109, e_v108, e_v107, e_v106, e_cst_25, e_v105, e_cst_24, e_v104]
  refine H.h15.mul (V1.rsqrt (((V2.mean ((v100_val H).mul (v100_val H)) V0.zero V0.tenThousand _ (by decide) _ _).sub
    ((v103_val H).mul (v103_val H))).add (V0.eps.bc1 _)) fun j => ?_)
  rw [var_eq rfl]
  exact var_eps_pos _ _

/-- The hidden features. -/
theorem v122_val : V2 (k_v122 m c) (hid a) := by
  rw [e_v122, e_call2_v0, e_call2_cst, e_v121, e_v120, e_v119, e_v118, e_v117, e_v116, e_v115, e_v114]
  refine V2.congr (V2.max ((((v100_val H).mul ((v113_val H).rows _ _))).add
    ((H.h16.sub ((v103_val H).mul (v113_val H))).rows _ _)) (V0.zero.bc2 _)) fun i j => ?_
  exact congrArg (max · 0) (bn_affine rfl (pre1 a) a.g1 a.s1 i j)

/-- The hidden features times a weight. -/
theorem v125_val : V2 (k_v125 m c) fun i j => ∑ k, hid a i k * a.w22 1 k j := by
  rw [e_v125, e_v124, e_v123]
  exact V2.dot (v122_val H) ((H.h11.slice 1 _).unstack _) _ rfl

/-- The hidden features times a weight. -/
theorem v128_val : V2 (k_v128 m c) fun i j => ∑ k, hid a i k * a.w23 1 k j := by
  rw [e_v128, e_v127, e_v126]
  exact V2.dot (v122_val H) ((H.h13.slice 1 _).unstack _) _ rfl

/-- The hidden features times a weight. -/
theorem v131_val : V2 (k_v131 m c) fun i j => ∑ k, hid a i k * a.w23 2 k j := by
  rw [e_v131, e_v130, e_v129]
  exact V2.dot (v122_val H) ((H.h13.slice 2 _).unstack _) _ rfl

/-- The weights of the second product of the second three layers. -/
theorem v140_val : V2 (k_v140 m c) fun k j => cat3 (a.w21 0 k) (a.w22 0 k) (fun j => a.w23 0 k j - a.w23 2 k j) j := by
  rw [e_v140, e_v139, e_v138, e_v137, e_v136, e_v135, e_v134, e_v133, e_v132]
  exact V2.concat3 (H.h9.unstack _) ((H.h11.slice 0 _).unstack _) (((H.h13.slice 0 _).unstack _).sub ((H.h13.slice 2 _).unstack _)) _ rfl (fun _ k j h => cat3_0 _ _ _ k j h) (fun _ k j h => cat3_1 _ _ _ k j h) (fun _ k j h => cat3_2 _ _ _ k j h)

/-- The bias of the second three layers. -/
theorem v141_val : V1 (k_v141 m c) fun j => cat3 a.b21 a.b22 a.b23 j := by
  rw [e_v141]
  exact V1.concat3 H.h10 H.h12 H.h14 _ rfl (fun k j h => cat3_0 _ _ _ k j h) (fun k j h => cat3_1 _ _ _ k j h) (fun k j h => cat3_2 _ _ _ k j h)

/-- The scaled adjacency applied to such a product. -/
theorem v163_val : V2 (k_v163 m c) (S a fun i j => ∑ k, hid a i k * a.w22 1 k j) := by
  rw [e_v163, e_v156, e_v155, e_v154, e_v147, e_v146, e_cst_27]
  exact V2.prop (v125_val H) (v35_val H) (v153_idx H) (v162_idx H) V0.zero hN _ _ rfl _ _ rfl _ _ _

/-- The scaled adjacency applied to such a product. -/
theorem v181_val : V2 (k_v181 m c) (S a fun i j => ∑ k, hid a i k * a.w23 1 k j) := by
  rw [e_v181, e_v174, e_v173, e_v172, e_v165, e_v164, e_cst_32]
  exact V2.prop (v128_val H) (v35_val H) (v171_idx H) (v180_idx H) V0.zero hN _ _ rfl _ _ rfl _ _ _

/-- The scaled adjacency applied to such a product. -/
theorem v199_val : V2 (k_v199 m c) (S a fun i j => ∑ k, hid a i k * a.w23 2 k j) := by
  rw [e_v199, e_v192, e_v191, e_v190, e_v183, e_v182, e_cst_37]
  exact V2.prop (v131_val H) (v35_val H) (v189_idx H) (v198_idx H) V0.zero hN _ _ rfl _ _ rfl _ _ _

/-- The scaled adjacency applied twice. -/
theorem v217_val : V2 (k_v217 m c) (S a (S a fun i j => ∑ k, hid a i k * a.w23 2 k j)) := by
  rw [e_v217, e_v210, e_v209, e_v208, e_v201, e_v200, e_cst_42]
  exact V2.prop (v199_val H) (v35_val H) (v207_idx H) (v216_idx H) V0.zero hN _ _ rfl _ _ rfl _ _ _

/-- The second three layers. -/
theorem v223_val : V2 (k_v223 m c) (pre2 a) := by
  rw [e_v223, e_v222, e_v221, e_v220, e_v219, e_cst_48, e_v218, e_cst_47, e_v145, e_v144, e_v143, e_v142]
  refine V2.congr (((V2.dot (v122_val H) (v140_val H) _ rfl).add ((v141_val H).rows _ _)).add (V2.concat3 (V0.zero.bc2 _) (v163_val H)
    ((v181_val H).add ((V0.two.bc2 _).mul (v217_val H))) _ rfl (fun i k j h => cat3_0 (fun _ => 0) (S a (fun i j => ∑ k, hid a i k * a.w22 1 k j) i)
      (fun q => S a (fun i j => ∑ k, hid a i k * a.w23 1 k j) i q + 2 * S a (S a fun i j => ∑ k, hid a i k * a.w23 2 k j) i q) k j h)
      (fun _ k j h => cat3_1 _ _ _ k j h) (fun _ k j h => cat3_2 _ _ _ k j h))) fun i j => ?_
  exact block_late (C := 100) (M := 300) rfl hN (ws a) (wd a) (nr a) (hid a) _ _ _ _ _ _ _ _ _ i j

/-- The means of the second three layers' columns. -/
theorem v226_val : V1 (k_v226 m c) (mean (pre2 a)) := by
  rw [e_v226, e_v225, e_cst_50, e_v224, e_cst_49]
  exact V2.mean (v223_val H) V0.zero V0.tenThousand _ (by decide) _ _

/-- The scale of each column. -/
theorem v236_val : V1 (k_v236 m c) fun j => a.g2 j * (Real.sqrt ((∑ i, pre2 a i j * pre2 a i j) / 10000 - mean (pre2 a) j * mean (pre2 a) j + eps))⁻¹ := by
  rw [e_v236, e_v235, e_v234, e_v233, e_cst_53, e_v232, e_v231, e_v230, e_v229, e_cst_52, e_v228, e_cst_51, e_v227]
  refine H.h17.mul (V1.rsqrt (((V2.mean ((v223_val H).mul (v223_val H)) V0.zero V0.tenThousand _ (by decide) _ _).sub
    ((v226_val H).mul (v226_val H))).add (V0.eps.bc1 _)) fun j => ?_)
  rw [var_eq rfl]
  exact var_eps_pos _ _

/-- The normalised features, the operand of the last step. -/
theorem v244_val : V2 (k_v244 m c) (feat a) := by
  rw [e_v244, e_v243, e_v242, e_v241, e_v240, e_v239, e_v238, e_v237]
  refine V2.congr ((((v223_val H).mul ((v236_val H).rows _ _))).add
    ((H.h18.sub ((v226_val H).mul (v236_val H))).rows _ _)) fun i j => ?_
  exact bn_affine rfl (pre2 a) a.g2 a.s2 i j

end Cert.KernelIdeal.Ker
end
end
-- ==== Proof.Rows.lean ====
/-
  Maxima, sums and broadcasts along the rows of a matrix of real numbers, and the logarithm of the softmax of each row
  in the two forms in which it is computed.
-/
module

public import proofs.«01_k».proof.Proof.Idiom

@[expose] public section

noncomputable section

namespace Cert.Arr

open Idealize.ShloMosaic Idealize.ShloMosaic.ValueIdx Cert.Model
open scoped BigOperators

/-- The maximum of a nonempty set of real numbers and minus infinity is a real number. -/
theorem fold_max_real {ι : Type*} [DecidableEq ι] (s : Finset ι) (hs : s.Nonempty) (f : ι → EReal) (hf : ∀ i, ∃ r : ℝ, f i = r) :
    ∃ r : ℝ, s.fold max (⊥ : EReal) f = r := by
  induction hs using Finset.Nonempty.cons_induction with
  | singleton a =>
    obtain ⟨r, hr⟩ := hf a
    exact ⟨r, by rw [Finset.fold_singleton, hr, max_bot_right]⟩
  | cons a s h _ ih =>
    obtain ⟨r, hr⟩ := hf a
    obtain ⟨q, hq⟩ := ih
    exact ⟨max r q, by rw [Finset.fold_cons, hr, hq, max_coe]⟩

section
variable {n m : ℕ}

/-- The maxima of the rows, as the host computes them, are real numbers. -/
theorem V2.maxRows {x : FVec Ideal ⟨2, ![n, m]⟩ .f32} {a : Fin n → Fin m → ℝ} (hx : V2 x a) (hm : 0 < m) {v : FVec Ideal ⟨0, ![]⟩ .f32}
    (hv : v ix0 = (⊥ : EReal)) (h : (⟨2, ![n, m]⟩ : Shape).ReducesTo [1] ⟨1, ![n]⟩) (hr : (⟨2, ![n, m]⟩ : Shape).Reduces [1] ⟨1, ![n]⟩) (hu) :
    ∃ r : Fin n → ℝ, V1 (Host.reduce (FloatOps.maximumf (F := Ideal) (φ := .f32)) x v h hu) r := by
  have hex : ∀ i : Fin n, ∃ r : ℝ, Host.reduce (FloatOps.maximumf (F := Ideal) (φ := .f32)) x v h hu (ix1 i) = (r : EReal) := fun i => by
    have e := Host.reduce_eq_fold_single (FloatOps.maximumf (F := Ideal) (φ := .f32)) x v h hr hu (ix1 i)
    rw [eq_ix0 (Shape.Idx.first hu), hv] at e
    rw [e]
    refine fold_max_real _ ⟨(⟨0, hm⟩ : Fin m), Finset.mem_univ _⟩ _ fun k => ?_
    exact ⟨_, (congrArg x (eq_ix2 (hr.lift (ix1 i) k))).trans (hx _ _)⟩
  choose r hr' using hex
  exact ⟨r, hr'⟩

/-- The maxima of the rows, as the kernel computes them, are real numbers. -/
theorem V2.maxRowsK {x : FVec Ideal ⟨2, ![n, m]⟩ .f32} {a : Fin n → Fin m → ℝ} (hx : V2 x a) (hm : 0 < m)
    (h : (⟨2, ![n, m]⟩ : Shape).Reduces [1] ⟨1, ![n]⟩) (hφ : FKind.Formats .f32) (hacc) :
    ∃ r : Fin n → ℝ, V1 (multiReduction .maximumf [1] ⟨1, ![n]⟩ x 0xFF800000#32 h hφ hacc) r := by
  have hex : ∀ i : Fin n, ∃ r : ℝ, multiReduction .maximumf [1] ⟨1, ![n]⟩ x 0xFF800000#32 h hφ hacc (ix1 i) = (r : EReal) := fun i => by
    rw [Ideal.multiReduction_maximumf_single, show (FloatOps.ofBits .f32 0xFF800000#32 : Ideal .f32) = (⊥ : EReal) from w_bot]
    refine fold_max_real _ ⟨(⟨0, hm⟩ : Fin m), Finset.mem_univ _⟩ _ fun k => ?_
    exact ⟨_, (congrArg x (eq_ix2 (h.lift (ix1 i) k))).trans (hx _ _)⟩
  choose r hr' using hex
  exact ⟨r, hr'⟩

/-- The sums of the rows, as the kernel computes them. -/
theorem V2.sumRowsK {x : FVec Ideal ⟨2, ![n, m]⟩ .f32} {a : Fin n → Fin m → ℝ} (hx : V2 x a)
    (h : (⟨2, ![n, m]⟩ : Shape).Reduces [1] ⟨1, ![n]⟩) (hφ : FKind.Formats .f32) (hacc) :
    V1 (multiReduction .add [1] ⟨1, ![n]⟩ x 0x00000000#32 h hφ hacc) fun i => ∑ j, a i j := fun i => by
  rw [Ideal.multiReduction_add_single, coe_sum]
  refine Finset.sum_congr rfl fun k _ => ?_
  refine (congrArg x (funext fun q => ?_)).trans (hx i k)
  match q with
  | ⟨0, _⟩ => rfl
  | ⟨1, _⟩ => rfl

/-- A vector as a matrix of one column, by a change of shape. -/
theorem V1.castCol {v : FVec Ideal ⟨1, ![n]⟩ .f32} {a : Fin n → ℝ} (hv : V1 v a) (h) :
    V2 (shapeCast ⟨2, ![n, 1]⟩ v h) fun i _ => a i := fun i j => by
  refine (shapeCast_apply v h _ (ix1 i) ?_).trans (hv i)
  rw [Shape.rowMajor_val_one, Shape.rowMajor_val_two]
  show i.val = i.val * 1 + j.val
  omega
/-- A vector as a matrix of one row, by a change of shape. -/
theorem V1.castRow {v : FVec Ideal ⟨1, ![m]⟩ .f32} {a : Fin m → ℝ} (hv : V1 v a) (h) :
    V2 (shapeCast ⟨2, ![1, m]⟩ v h) fun _ j => a j := fun i j => by
  refine (shapeCast_apply v h _ (ix1 j) ?_).trans (hv j)
  rw [Shape.rowMajor_val_one, Shape.rowMajor_val_two]
  show j.val = i.val * m + j.val
  have := i.isLt
  obtain h0 : i.val = 0 := by omega
  rw [h0, Nat.zero_mul, Nat.zero_add]
/-- A change of shape to the same shape. -/
theorem V2.castSame {x : FVec Ideal ⟨2, ![n, m]⟩ .f32} {a : Fin n → Fin m → ℝ} (hx : V2 x a) (h) : V2 (shapeCast ⟨2, ![n, m]⟩ x h) a :=
  fun i j => (shapeCast_apply x h _ (ix2 i j) rfl).trans (hx i j)
/-- A matrix of one column repeated along its rows, in the kernel. -/
theorem V2.spreadColK {v : FVec Ideal ⟨2, ![n, 1]⟩ .f32} {a : Fin n → Fin 1 → ℝ} (hv : V2 v a) (h) :
    V2 (broadcastTo ⟨2, ![n, m]⟩ v h) fun i _ => a i 0 := fun i j => by
  refine (broadcastTo_apply v h _ (ix2 i (0 : Fin 1)) fun k => ?_).trans (hv i 0)
  match k with
  | ⟨0, _⟩ =>
    show i.val = if n = 1 then 0 else i.val
    have := i.isLt
    split <;> omega
  | ⟨1, _⟩ =>
    show (0 : Nat) = if (1 : Nat) = 1 then 0 else j.val
    rw [if_pos rfl]
/-- A matrix of one row repeated down its columns, in the kernel. -/
theorem V2.spreadRowK {v : FVec Ideal ⟨2, ![1, m]⟩ .f32} {a : Fin 1 → Fin m → ℝ} (hv : V2 v a) (h) :
    V2 (broadcastTo ⟨2, ![n, m]⟩ v h) fun _ j => a 0 j := fun i j => by
  refine (broadcastTo_apply v h _ (ix2 (0 : Fin 1) j) fun k => ?_).trans (hv 0 j)
  match k with
  | ⟨0, _⟩ =>
    show (0 : Nat) = if (1 : Nat) = 1 then 0 else i.val
    rw [if_pos rfl]
  | ⟨1, _⟩ =>
    show j.val = if m = 1 then 0 else j.val
    have := j.isLt
    split <;> omega

/-- A selection by one bit that is set. -/
theorem V1.selectSet {b : IVec ⟨0, ![]⟩ 1} (hb : b ix0 = 1#1) {x y : FVec Ideal ⟨1, ![n]⟩ .f32} {a : Fin n → ℝ} (hx : V1 x a) (h) :
    V1 (select (broadcastInDim ⟨1, ![n]⟩ ![] h b) x y) a := fun i => by
  show Scalar.select (broadcastInDim ⟨1, ![n]⟩ ![] h b (ix1 i)) (x (ix1 i)) (y (ix1 i)) = _
  rw [broadcastInDim_scalar_apply, hb, ← hx i]
  rfl
/-- A difference of scalars. -/
theorem V0.sub {x y : FVec Ideal ⟨0, ![]⟩ .f32} {a b : ℝ} (hx : V0 x a) (hy : V0 y b) : V0 (subf x y) (a - b) := by
  show (x ix0 : EReal) - y ix0 = _
  rw [hx, hy, EReal.coe_sub]
/-- The integer zero as a float. -/
theorem V0.intZero : V0 (sitofp .f32 (constantI ⟨0, ![]⟩ 32 0#32)) 0 := by
  show (((0#32 : BitVec 32).toInt : ℝ) : EReal) = _
  simp
/-- A comparison "greater" of two scalars that holds. -/
theorem V0.gt {x y : FVec Ideal ⟨0, ![]⟩ .f32} {a b : ℝ} (hx : V0 x a) (hy : V0 y b) (h : b < a) : cmpf .ogt x y ix0 = 1#1 := by
  show BitVec.ofBool (decide ((y ix0 : EReal) < x ix0)) = _
  rw [hx, hy, decide_eq_true (EReal.coe_lt_coe_iff.2 h)]
  rfl

/-- A maximum of vectors. -/
theorem V1.maxBot {x y : FVec Ideal ⟨1, ![n]⟩ .f32} {a : Fin n → ℝ} (hx : ∀ i, x (ix1 i) = (⊥ : EReal)) (hy : V1 y a) : V1 (maximumf x y) a := fun i => by
  show max (x (ix1 i) : EReal) (y (ix1 i)) = _
  rw [hx i, hy i, max_bot_left]

end

end Cert.Arr
end
end
-- ==== Proof.Tail.lean ====
/-
  The last step of the kernel: each grid point computes the logarithm of the softmax of a thousand rows of logits, and the
  ten blocks of rows are the whole result array.
-/
module

public import proofs.«01_k».proof.Proof.Gen.KernelIdeal.Value
public import proofs.«01_k».proof.Proof.Ker
public import proofs.«01_k».proof.Proof.Rows

@[expose] public section

noncomputable section

namespace Cert.Arr

open Idealize.ShloMosaic Idealize.ShloMosaic.ValueIdx Cert.Model
open scoped BigOperators

section
variable {n m l : ℕ}

/-- The exponential in the kernel, element by element. -/
theorem V2.expK {x : FVec Ideal ⟨2, ![n, m]⟩ .f32} {a : Fin n → Fin m → ℝ} (hx : V2 x a) :
    V2 (Idealize.ShloMosaic.exp x) fun i j => Real.exp (a i j) := fun i j => by
  show Ideal.exp (x (ix2 i j)) = _
  rw [hx i j]; rfl
/-- The logarithm of positive numbers in the kernel, element by element. -/
theorem V2.logK {x : FVec Ideal ⟨2, ![n, m]⟩ .f32} {a : Fin n → Fin m → ℝ} (hx : V2 x a) (ha : ∀ i j, 0 < a i j) :
    V2 (Idealize.ShloMosaic.log x) fun i j => Real.log (a i j) := fun i j => by
  show Ideal.log (x (ix2 i j)) = _
  rw [hx i j, log_coe _ (ha i j)]
/-- The product of two matrices in the kernel, from a zero accumulator. -/
theorem V2.dotK {x : FVec Ideal ⟨2, ![n, m]⟩ .f32} {y : FVec Ideal ⟨2, ![m, l]⟩ .f32} {a : Fin n → Fin m → ℝ} {b : Fin m → Fin l → ℝ}
    (hx : V2 x a) (hy : V2 y b) (d : DotDims ⟨2, ![n, m]⟩ ⟨2, ![m, l]⟩ ⟨2, ![n, l]⟩) (hd : d = DotDims.plain n m l) :
    V2 (matmul d none x y (constant ⟨2, ![n, l]⟩ .f32 0x00000000#32)) fun i j => ∑ k, a i k * b k j := fun i j => by
  subst hd
  refine (Ideal.matmul_plain_apply none x y (constant ⟨2, ![n, l]⟩ .f32 0x00000000#32) i j).trans ?_
  rw [show constant (F := Ideal) ⟨2, ![n, l]⟩ .f32 0x00000000#32 (ix2 i j) = ((0 : ℝ) : EReal) from w_zero, EReal.coe_zero, zero_add, coe_sum]
  exact Finset.sum_congr rfl fun k _ => by rw [hx i k, hy k j, EReal.coe_mul]

end

end Cert.Arr

namespace Cert.KernelIdeal.Tail

open Idealize.ShloMosaic Idealize.ShloMosaic.TcCoe Idealize.SL.Sem Idealize.ShloMosaic.ValueIdx Cert.Arr Cert.Model Cert.Net
open Cert.KernelIdeal Cert.KernelIdeal.Gen Cert.KernelIdeal.Host Cert.KernelIdeal.Ker
open Idealize.ShloMosaic.Pipeline (Dat)
open scoped BigOperators

/-- What a grid point computes of its block of features, the weights and the biases: the logarithm of the softmax of the
    rows of logits. -/
theorem pay {x : FVec Ideal S1000x300 .f32} {y : FVec Ideal S300x10 .f32} {v : FVec Ideal S10 .f32}
    {a : Fin 1000 → Fin 300 → ℝ} {b : Fin 300 → Fin 10 → ℝ} {d : Fin 10 → ℝ} (hx : V2 x a) (hy : V2 y b) (hv : V1 v d) :
    V2 (k0_pay1 x y v) (lsm fun i j => (∑ k, a i k * b k j) + d j) := by
  have h7 := ((hx.castSame shapeCasts_S1000x300_S1000x300).dotK hy dot_S1000x300_S300x10_S1000x10_1_0_0_1_n_n rfl).add
    ((hv.castRow shapeCasts_S10_S1x10).spreadRowK broadcasts_S1x10_S1000x10)
  obtain ⟨r, hr⟩ := h7.maxRowsK (by norm_num) reduces_S1000x10_S1000 (.inl rfl) rfl
  have h9 := hr.castCol shapeCasts_S1000_S1000x1
  have h12 := (h7.sub (h9.spreadColK broadcasts_S1000x1_S1000x10)).expK
  have h14 := (h12.sumRowsK reduces_S1000x10_S1000 (.inl rfl) rfl).castCol shapeCasts_S1000_S1000x1
  have h18 := h7.sub (((h14.logK fun i _ => sum_exp_pos (by norm_num) _).add h9).spreadColK broadcasts_S1000x1_S1000x10)
  refine V2.congr h18 fun i j => ?_
  unfold lsm
  rw [log_sum_shift (by norm_num)]

variable (m : (ℓ : Loc nD τ sig) → Buf (Elt Ideal) ℓ) (c : Dev nD)

theorem hz1 : (![0] : Fin 1 → Nat) = fun _ => 0 := funext fun a => by fin_cases a; rfl
theorem hz2 : (![0, 0] : Fin 2 → Nat) = fun _ => 0 := funext fun a => by fin_cases a <;> rfl

/-- The block of the features at a grid point is its thousand rows, -/
theorem idx0 : ∀ t : Fin cfg0.N, win0_0.index t (0 : Fin 2) = t.val ∧ win0_0.index t (1 : Fin 2) = 0 := (by decide +kernel : ∀ t : Fin grid0.N, _)
/-- the weights' block is all of them, -/
theorem idx1 : ∀ t : Fin cfg0.N, win0_1.index t (0 : Fin 2) = 0 ∧ win0_1.index t (1 : Fin 2) = 0 := (by decide +kernel : ∀ t : Fin grid0.N, _)
/-- the biases' block is all of them, -/
theorem idx2 : ∀ t : Fin cfg0.N, win0_2.index t (0 : Fin 1) = 0 := (by decide +kernel : ∀ t : Fin grid0.N, _)
/-- and the result's block is the same thousand rows. -/
theorem idx3 : ∀ t : Fin cfg0.N, win0_3.index t (0 : Fin 2) = t.val ∧ win0_3.index t (1 : Fin 2) = 0 := (by decide +kernel : ∀ t : Fin grid0.N, _)

/-- Row `i` of block `t`, among all the rows. -/
def row (t : Fin cfg0.N) (i : Fin 1000) : Fin 10000 := ⟨t.val * 1000 + i.val, by
  have h1 : t.val < 10 := lt_of_lt_of_eq t.isLt N_0
  have h2 := i.isLt
  omega⟩

theorem emb0 (t : Fin cfg0.N) (i : Fin 1000) (k : Fin 300) : ((cfg0.win 0).blk t).view.emb (ix2 i k) = ix2 (row t i) k := by
  obtain ⟨e0, e1⟩ := idx0 t
  funext q; apply Fin.ext
  match q with
  | ⟨0, _⟩ => show win0_0.index t (0 : Fin 2) * 1000 + 1 * i.val = t.val * 1000 + i.val; omega
  | ⟨1, _⟩ => show win0_0.index t (1 : Fin 2) * 300 + 1 * k.val = k.val; omega
theorem emb1 (t : Fin cfg0.N) (k : Fin 300) (j : Fin 10) : ((cfg0.win 1).blk t).view.emb (ix2 k j) = ix2 k j := by
  obtain ⟨e0, e1⟩ := idx1 t
  funext q; apply Fin.ext
  match q with
  | ⟨0, _⟩ => show win0_1.index t (0 : Fin 2) * 300 + 1 * k.val = k.val; omega
  | ⟨1, _⟩ => show win0_1.index t (1 : Fin 2) * 10 + 1 * j.val = j.val; omega
theorem emb2 (t : Fin cfg0.N) (j : Fin 10) : ((cfg0.win 2).blk t).view.emb (ix1 j) = ix1 j := by
  have e0 := idx2 t
  funext q; apply Fin.ext
  match q with
  | ⟨0, _⟩ => show win0_2.index t (0 : Fin 1) * 10 + 1 * j.val = j.val; omega
theorem emb3 (t : Fin cfg0.N) (i : Fin 1000) (j : Fin 10) : ((cfg0.win 3).blk t).view.emb (ix2 i j) = ix2 (row t i) j := by
  obtain ⟨e0, e1⟩ := idx3 t
  funext q; apply Fin.ext
  match q with
  | ⟨0, _⟩ => show win0_3.index t (0 : Fin 2) * 1000 + 1 * i.val = t.val * 1000 + i.val; omega
  | ⟨1, _⟩ => show win0_3.index t (1 : Fin 2) * 10 + 1 * j.val = j.val; omega

/-- The result array that the logarithm of the softmax of the logits makes. -/
def G (a : Args) : FVec Ideal S10000x10 .f32 := fun i => ((lsm (logit a) (i 0) (i 1) : ℝ) : EReal)

variable {m c} {a : Args} (H : KHolds m c a)
include H

omit H in
/-- A block of features read out of an array. -/
theorem read0 (X : FVec Ideal S10000x300 .f32) (t : Fin cfg0.N) (i : Fin 1000) (k : Fin 300) :
    ((cfg0.win 0).blk t).view.read (Elt Ideal) X (ix2 i k) = X (ix2 (row t i) k) := congrArg X (emb0 t i k)
omit H in
/-- The weights read out of an array. -/
theorem read1 (X : FVec Ideal S300x10 .f32) (t : Fin cfg0.N) (k : Fin 300) (j : Fin 10) :
    ((cfg0.win 1).blk t).view.read (Elt Ideal) X (ix2 k j) = X (ix2 k j) := congrArg X (emb1 t k j)
omit H in
/-- The biases read out of an array. -/
theorem read2 (X : FVec Ideal S10 .f32) (t : Fin cfg0.N) (j : Fin 10) :
    ((cfg0.win 2).blk t).view.read (Elt Ideal) X (ix1 j) = X (ix1 j) := congrArg X (emb2 t j)

theorem blk0 (t : Fin cfg0.N) : V2 (n := 1000) (m := 300) (iblk m c 0 t) fun i k => feat a (row t i) k := fun i k => by
  have h := v244_val H (row t i) k
  unfold k_v244 at h
  exact (read0 (V m c main_v244) t i k).trans h
theorem blk1 (t : Fin cfg0.N) : V2 (n := 300) (m := 10) (iblk m c 1 t) a.lw := fun k j => by
  have h := H.h19 k j
  unfold k_arg19 at h
  exact (read1 (V m c main_arg19) t k j).trans h
theorem blk2 (t : Fin cfg0.N) : V1 (n := 10) (iblk m c 2 t) a.lb := fun j => by
  have h := H.h20 j
  unfold k_arg20 at h
  exact (read2 (V m c main_arg20) t j).trans h

/-- What a grid point writes back is its block of that array. -/
theorem flushed_eq (t : Fin cfg0.N) : (dats m 0 c).flushed 3 t = ((cfg0.win 3).blk t).view.read (Elt Ideal) (G a) := by
  rw [Value.flushed3]
  unfold out0_3
  rw [View.canon_unit_zero hz2, View.ld_unit_zero hz2, View.ld_unit_zero hz2, View.ld_unit_zero hz1]
  funext y
  obtain ⟨i, j, rfl⟩ : ∃ (i : Fin 1000) (j : Fin 10), y = ix2 i j := ⟨y 0, y 1, eq_ix2 y⟩
  show k0_pay1 (iblk m c 0 t) (iblk m c 1 t) (iblk m c 2 t) (ix2 i j) = G a (((cfg0.win 3).blk t).view.emb (ix2 i j))
  rw [emb3]
  exact pay (blk0 H t) (blk1 H t) (blk2 H t) i j

omit H in
/-- Every index of the result array is in some grid point's block. -/
theorem cover (y : S10000x10.Idx) : ∃ t : Fin cfg0.N, (cfg0.win 3).flush t = true ∧ y ∈ ((cfg0.win 3).blk t).view.set := by
  obtain ⟨i, j, rfl⟩ : ∃ (i : Fin 10000) (j : Fin 10), y = ix2 i j := ⟨y 0, y 1, eq_ix2 y⟩
  have hi := i.isLt
  refine ⟨⟨i.val / 1000, by rw [show cfg0.N = 10 from N_0]; omega⟩, flush0_3 _, ?_⟩
  have h := ((cfg0.win 3).blk (⟨i.val / 1000, by rw [show cfg0.N = 10 from N_0]; omega⟩ : Fin cfg0.N)).view.emb_mem_set
    (ix2 (⟨i.val % 1000, Nat.mod_lt _ (by norm_num)⟩ : Fin 1000) j)
  rw [emb3] at h
  have e : row (⟨i.val / 1000, by rw [show cfg0.N = 10 from N_0]; omega⟩ : Fin cfg0.N) (⟨i.val % 1000, Nat.mod_lt _ (by norm_num)⟩ : Fin 1000) = i :=
    Fin.ext (by show i.val / 1000 * 1000 + i.val % 1000 = i.val; omega)
  rwa [e] at h

/-- So the kernel's result array ends holding the logarithm of the softmax of the logits. -/
theorem final : (dats m 0 c).arrAt 3 cfg0.N = G a :=
  (dats m 0 c).arrAt_eq_of_cover 3 (G a) (fun t _ => flushed_eq H t) cover

end Cert.KernelIdeal.Tail
end
end
-- ==== Proof.Ref.lean ====
/-
  The values of the reference's arrays, stage by stage, in real arithmetic.
-/
module

public import proofs.«01_k».proof.Proof.Gen.ReferenceIdeal.Run
public import proofs.«01_k».proof.Proof.Net
public import proofs.«01_k».proof.Proof.Rows

@[expose] public section

noncomputable section

namespace Cert.ReferenceIdeal.Ref

open Idealize.ShloMosaic Idealize.ShloMosaic.ValueIdx Cert.Arr Cert.Model Cert.Net
open Cert.ReferenceIdeal Cert.ReferenceIdeal.Gen Cert.ReferenceIdeal.Value Idealize.ShloMosaic.TcCoe Idealize.ShloMosaic.StableHlo
open scoped BigOperators

variable {U : Valuation τ sig (Elt Ideal)} {a : Args}

/-- The reference's argument arrays hold the arguments `a`. -/
def RHolds (U : Valuation τ sig (Elt Ideal)) (a : Args) : Prop :=
  Holds a (U (Proc.devRef .tc main_arg0)) (U (Proc.devRef .tc main_arg1)) (U (Proc.devRef .tc main_arg2)) (U (Proc.devRef .tc main_arg3))
    (U (Proc.devRef .tc main_arg4)) (U (Proc.devRef .tc main_arg5)) (U (Proc.devRef .tc main_arg6)) (U (Proc.devRef .tc main_arg7))
    (U (Proc.devRef .tc main_arg8)) (U (Proc.devRef .tc main_arg9)) (U (Proc.devRef .tc main_arg10)) (U (Proc.devRef .tc main_arg11))
    (U (Proc.devRef .tc main_arg12)) (U (Proc.devRef .tc main_arg13)) (U (Proc.devRef .tc main_arg14)) (U (Proc.devRef .tc main_arg15))
    (U (Proc.devRef .tc main_arg16)) (U (Proc.devRef .tc main_arg17)) (U (Proc.devRef .tc main_arg18)) (U (Proc.devRef .tc main_arg19))
    (U (Proc.devRef .tc main_arg20))

variable (H : RHolds U a)
include H

/-- The source words. -/
theorem src : W1 (res_main_v1 U) (a.ei 0) := by
  unfold res_main_v1
  exact fun e => (W1.rowOfMatrix _ (0 : Fin 2) _ _ e).trans (H.h1 0 e)

/-- The destination words. -/
theorem dst : W1 (res_main_v3 U) (a.ei 1) := by
  unfold res_main_v3
  exact fun e => (W1.rowOfMatrix _ (1 : Fin 2) _ _ e).trans (H.h1 1 e)

/-- The degrees. -/
theorem v48_val : V1 (res_main_v48 U) (dg a) := by
  unfold res_main_v48
  exact V1.deg H.h2 V0.zero ((src H).wrapCol 10000#32 _ _ _) _ _ rfl _

/-- Their reciprocal square roots. -/
theorem v55_val : V1 (res_main_v55 U) (dis (dg a)) := by
  unfold res_main_v55
  exact V1.dis (v48_val H) V0.zero V0.zero V0.one V0.zero _ _ _ _

/-- The degrees. -/
theorem v108_val : V1 (res_main_v108 U) (dg a) := by
  unfold res_main_v108
  exact V1.deg H.h2 V0.zero ((src H).wrapCol 10000#32 _ _ _) _ _ rfl _

/-- Their reciprocal square roots. -/
theorem v115_val : V1 (res_main_v115 U) (dis (dg a)) := by
  unfold res_main_v115
  exact V1.dis (v108_val H) V0.zero V0.zero V0.one V0.zero _ _ _ _

/-- The degrees. -/
theorem v251_val : V1 (res_main_v251 U) (dg a) := by
  unfold res_main_v251
  exact V1.deg H.h2 V0.zero ((src H).wrapCol 10000#32 _ _ _) _ _ rfl _

/-- Their reciprocal square roots. -/
theorem v258_val : V1 (res_main_v258 U) (dis (dg a)) := by
  unfold res_main_v258
  exact V1.dis (v251_val H) V0.zero V0.zero V0.one V0.zero _ _ _ _

/-- The degrees. -/
theorem v311_val : V1 (res_main_v311 U) (dg a) := by
  unfold res_main_v311
  exact V1.deg H.h2 V0.zero ((src H).wrapCol 10000#32 _ _ _) _ _ rfl _

/-- Their reciprocal square roots. -/
theorem v318_val : V1 (res_main_v318 U) (dis (dg a)) := by
  unfold res_main_v318
  exact V1.dis (v311_val H) V0.zero V0.zero V0.one V0.zero _ _ _ _

/-- The coefficients of the edges. -/
theorem v132_val : V1 (res_main_v132 U) (nr a) := by
  unfold res_main_v132
  exact (V1.nrm (v115_val H) H.h2 ((src H).wrapCol 10000#32 _ _ _) ((dst H).wrapCol 10000#32 _ _ _) hN _ _ rfl)

/-- The scaled adjacency applied to the input. -/
theorem v153_val : V2 (res_main_v153 U) (S a a.x) := by
  unfold res_main_v153
  exact (V2.prop H.h0 (v132_val H) ((src H).wrapCol 10000#32 _ _ _) ((dst H).wrapCol 10000#32 _ _ _) V0.zero hN _ _ rfl _ _ rfl _ _ _)

/-- The first three layers. -/
theorem v186_val : V2 (res_main_v186 U) (pre1 a) := by
  unfold res_main_v186
  exact V2.concat3
    ((V2.dot H.h0 (H.h3.unstack _) _ rfl).add (H.h4.rows _ _))
    (((V2.dot H.h0 ((H.h5.slice 0 _).unstack _) _ rfl).add (V2.dot (V2.prop H.h0 (V1.nrm (v55_val H) H.h2 ((src H).wrapCol 10000#32 _ _ _) ((dst H).wrapCol 10000#32 _ _ _) hN _ _ rfl) ((src H).wrapCol 10000#32 _ _ _) ((dst H).wrapCol 10000#32 _ _ _) V0.zero hN _ _ rfl _ _ rfl _ _ _) ((H.h5.slice 1 _).unstack _) _ rfl)).add (H.h6.rows _ _))
    ((((V2.dot H.h0 ((H.h7.slice 0 _).unstack _) _ rfl).add (V2.dot (v153_val H) ((H.h7.slice 1 _).unstack _) _ rfl)).add
      (V2.dot (((V0.two.bc2 _).mul (V2.prop (v153_val H) (v132_val H) ((src H).wrapCol 10000#32 _ _ _) ((dst H).wrapCol 10000#32 _ _ _) V0.zero hN _ _ rfl _ _ rfl _ _ _)).sub H.h0) ((H.h7.slice 2 _).unstack _) _ rfl)).add (H.h8.rows _ _))
    _ rfl (fun _ k j h => cat3_0 _ _ _ k j h) (fun _ k j h => cat3_1 _ _ _ k j h) (fun _ k j h => cat3_2 _ _ _ k j h)

/-- The features less their means. -/
theorem call6_v5_val : V2 (res_main_call6_v5 U) fun i j => pre1 a i j - mean (pre1 a) j := by
  unfold res_main_call6_v5
  exact (v186_val H).sub (V2.spreadRow (V2.div ((V2.sumCols (v186_val H) V0.zero _ (by decide) _).row _) (V0.tenThousand.bc2 _) fun _ _ => by norm_num) _)

omit H in
/-- The number of rows. -/
theorem call6_v8_val : V0 (res_main_call6_v8 U) 10000 := by
  unfold res_main_call6_v8
  have h := V0.sub V0.tenThousand V0.intZero
  rwa [sub_zero] at h

/-- The hidden features. -/
theorem v206_val : V2 (res_main_v206 U) (hid a) := by
  unfold res_main_v206
  exact V2.max (((((v186_val H).sub ((V2.mean (v186_val H) V0.zero V0.tenThousand _ (by decide) _ _).rows _ _)).mul
    ((V1.rsqrt ((V1.selectSet (V0.gt call6_v8_val V0.zero (by norm_num))
      (V2.mean ((call6_v5_val H).mul (call6_v5_val H)) V0.zero call6_v8_val _ (by decide) _ _) _).add (V0.eps.bc1 _)) (var_eps_pos (pre1 a))).rows _ _)).mul
    (H.h15.rows _ _)).add (H.h16.rows _ _)) (V0.zero.bc2 _)

/-- The coefficients of the edges. -/
theorem v335_val : V1 (res_main_v335 U) (nr a) := by
  unfold res_main_v335
  exact (V1.nrm (v318_val H) H.h2 ((src H).wrapCol 10000#32 _ _ _) ((dst H).wrapCol 10000#32 _ _ _) hN _ _ rfl)

/-- The scaled adjacency applied to the hidden features. -/
theorem v356_val : V2 (res_main_v356 U) (S a (hid a)) := by
  unfold res_main_v356
  exact (V2.prop (v206_val H) (v335_val H) ((src H).wrapCol 10000#32 _ _ _) ((dst H).wrapCol 10000#32 _ _ _) V0.zero hN _ _ rfl _ _ rfl _ _ _)

/-- The second three layers. -/
theorem v389_val : V2 (res_main_v389 U) (pre2 a) := by
  unfold res_main_v389
  exact V2.concat3
    ((V2.dot (v206_val H) (H.h9.unstack _) _ rfl).add (H.h10.rows _ _))
    (((V2.dot (v206_val H) ((H.h11.slice 0 _).unstack _) _ rfl).add (V2.dot (V2.prop (v206_val H) (V1.nrm (v258_val H) H.h2 ((src H).wrapCol 10000#32 _ _ _) ((dst H).wrapCol 10000#32 _ _ _) hN _ _ rfl) ((src H).wrapCol 10000#32 _ _ _) ((dst H).wrapCol 10000#32 _ _ _) V0.zero hN _ _ rfl _ _ rfl _ _ _) ((H.h11.slice 1 _).unstack _) _ rfl)).add (H.h12.rows _ _))
    ((((V2.dot (v206_val H) ((H.h13.slice 0 _).unstack _) _ rfl).add (V2.dot (v356_val H) ((H.h13.slice 1 _).unstack _) _ rfl)).add
      (V2.dot (((V0.two.bc2 _).mul (V2.prop (v356_val H) (v335_val H) ((src H).wrapCol 10000#32 _ _ _) ((dst H).wrapCol 10000#32 _ _ _) V0.zero hN _ _ rfl _ _ rfl _ _ _)).sub (v206_val H)) ((H.h13.slice 2 _).unstack _) _ rfl)).add (H.h14.rows _ _))
    _ rfl (fun _ k j h => cat3_0 _ _ _ k j h) (fun _ k j h => cat3_1 _ _ _ k j h) (fun _ k j h => cat3_2 _ _ _ k j h)

/-- The features less their means. -/
theorem call14_v5_val : V2 (res_main_call14_v5 U) fun i j => pre2 a i j - mean (pre2 a) j := by
  unfold res_main_call14_v5
  exact (v389_val H).sub (V2.spreadRow (V2.div ((V2.sumCols (v389_val H) V0.zero _ (by decide) _).row _) (V0.tenThousand.bc2 _) fun _ _ => by norm_num) _)

omit H in
/-- The number of rows. -/
theorem call14_v8_val : V0 (res_main_call14_v8 U) 10000 := by
  unfold res_main_call14_v8
  have h := V0.sub V0.tenThousand V0.intZero
  rwa [sub_zero] at h

/-- The logits. -/
theorem v412_val : V2 (res_main_v412 U) (logit a) := by
  unfold res_main_v412
  exact (V2.dot (x := addf _ _) (a := feat a) (((((v389_val H).sub ((V2.mean (v389_val H) V0.zero V0.tenThousand _ (by decide) _ _).rows _ _)).mul
    ((V1.rsqrt ((V1.selectSet (V0.gt call14_v8_val V0.zero (by norm_num))
      (V2.mean ((call14_v5_val H).mul (call14_v5_val H)) V0.zero call14_v8_val _ (by decide) _ _) _).add (V0.eps.bc1 _)) (var_eps_pos (pre2 a))).rows _ _)).mul
    (H.h17.rows _ _)).add (H.h18.rows _ _)) H.h19 _ rfl).add (H.h20.rows _ _)

/-- The logits less a number of each row. -/
theorem call15_v5_val : ∃ r : Fin 10000 → ℝ, V2 (res_main_call15_v5 U) fun i j => logit a i j - r i := by
  unfold res_main_call15_v5
  obtain ⟨r, hr⟩ := V2.maxRows (v412_val H) (by norm_num) (v := constant ⟨0, ![]⟩ .f32 0xFF800000#32) w_bot reducesTo_S10000x10_S10000_d1 (by decide) h_S_
  exact ⟨r, (v412_val H).sub (((V1.maxBot (fun i => (broadcastInDim_scalar_apply _ _ _).trans w_bot) hr).col _).spreadCol _)⟩

/-- The reference's result. -/
theorem result_val : V2 (subf (res_main_call15_v5 U) (broadcastInDim S10000x10 ![0, 1] bcast_S10000x1_S10000x10_0_1 (Host.log (broadcastInDim S10000x1 ![0]
    bcast_S10000_S10000x1_0 (Host.reduceAdd (Host.exp (res_main_call15_v5 U)) (constant S_ .f32 0x00000000#32) reducesTo_S10000x10_S10000_d1 h_S_)))))
    (lsm (logit a)) := by
  obtain ⟨r, hr⟩ := call15_v5_val H
  refine V2.congr (hr.sub (V2.spreadCol (V2.log ((V2.sumRows hr.exp V0.zero _ (by decide) _).col _) fun i _ => sum_exp_pos (by norm_num) _) _)) fun i j => ?_
  have h := log_sum_shift (by norm_num) (logit a i) (r i)
  unfold lsm
  linarith

end Cert.ReferenceIdeal.Ref
end
end
-- ==== Proof.lean ====
/-
  The proof of `Cert.Claim`. The three programs run, keep their arguments and leave every counter at zero; the ideal kernel
  is the kernel, operation for operation; and on finite float arguments, with any index words, the ideal kernel and the
  ideal reference end with the same result array.

  * Proof/Model.lean, Proof/Net.lean: the network in real arithmetic and the identities that join the two ways to compute it.
  * Proof/Arr.lean, Proof/ArrIdx.lean, Proof/Idiom.lean, Proof/Rows.lean: array operations on arrays of real numbers.
  * Proof/Ssa.lean, Proof/Host.lean: what each host operation of the kernel program leaves in its buffer.
  * Proof/Ker.lean, Proof/Tail.lean: the kernel's result. Proof/Ref.lean: the reference's result.
  * Proof/Finite.lean: the precondition.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Finite
public import proofs.«01_k».proof.Proof.Tail
public import proofs.«01_k».proof.Proof.Ref
public import Idealize.ShloMosaic.Adequacy
public import Idealize.ShloMosaic.Init

@[expose] public section

noncomputable section

namespace Cert.Proof

open Idealize.ShloMosaic Idealize.SL.Sem Idealize.ShloMosaic.ValueIdx Idealize.ShloMosaic.StableHlo Cert.Arr Cert.Net Cert.Model

/-- The kernel runs, keeps its arguments and leaves every counter at zero. -/
theorem frame_p : Cert.quiescent_Kernel := fun m ρ _ => Cert.Kernel.Gen.frame m ρ

/-- So does the ideal kernel, -/
theorem frame_pi : Cert.quiescent_KernelIdeal := fun m ρ _ => Cert.KernelIdeal.Gen.frame m ρ

/-- and so does the ideal reference, which has no counter. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The arguments of a device are real numbers and index words, under the precondition. -/
theorem args (m : (ℓ : Loc Cert.KernelIdeal.nD Cert.KernelIdeal.τ Cert.KernelIdeal.sig) → Buf (Elt Ideal) ℓ) (h : Cert.Pre_KernelIdeal_finite m)
    (c : Dev Cert.KernelIdeal.nD) : ∃ a : Args, Holds a
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20)) :=
  Cert.Finite.holds (h c)

open Cert.KernelIdeal Cert.KernelIdeal.Gen in
/-- The kernel's arrays hold them when its last step is entered. -/
theorem kholds (m : (ℓ : Loc Cert.KernelIdeal.nD Cert.KernelIdeal.τ Cert.KernelIdeal.sig) → Buf (Elt Ideal) ℓ) (c : Dev Cert.KernelIdeal.nD) (a : Args)
    (H : Holds a
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))) : Cert.KernelIdeal.Ker.KHolds m c a := by
  unfold Cert.KernelIdeal.Ker.KHolds
  rw [show Cert.KernelIdeal.Host.k_arg0 m c = m ((c.tc : Thread nD τ).loc main_arg0) from V_main_arg0 m c]
  rw [show Cert.KernelIdeal.Host.k_arg1 m c = m ((c.tc : Thread nD τ).loc main_arg1) from V_main_arg1 m c]
  rw [show Cert.KernelIdeal.Host.k_arg2 m c = m ((c.tc : Thread nD τ).loc main_arg2) from V_main_arg2 m c]
  rw [show Cert.KernelIdeal.Host.k_arg3 m c = m ((c.tc : Thread nD τ).loc main_arg3) from V_main_arg3 m c]
  rw [show Cert.KernelIdeal.Host.k_arg4 m c = m ((c.tc : Thread nD τ).loc main_arg4) from V_main_arg4 m c]
  rw [show Cert.KernelIdeal.Host.k_arg5 m c = m ((c.tc : Thread nD τ).loc main_arg5) from V_main_arg5 m c]
  rw [show Cert.KernelIdeal.Host.k_arg6 m c = m ((c.tc : Thread nD τ).loc main_arg6) from V_main_arg6 m c]
  rw [show Cert.KernelIdeal.Host.k_arg7 m c = m ((c.tc : Thread nD τ).loc main_arg7) from V_main_arg7 m c]
  rw [show Cert.KernelIdeal.Host.k_arg8 m c = m ((c.tc : Thread nD τ).loc main_arg8) from V_main_arg8 m c]
  rw [show Cert.KernelIdeal.Host.k_arg9 m c = m ((c.tc : Thread nD τ).loc main_arg9) from V_main_arg9 m c]
  rw [show Cert.KernelIdeal.Host.k_arg10 m c = m ((c.tc : Thread nD τ).loc main_arg10) from V_main_arg10 m c]
  rw [show Cert.KernelIdeal.Host.k_arg11 m c = m ((c.tc : Thread nD τ).loc main_arg11) from V_main_arg11 m c]
  rw [show Cert.KernelIdeal.Host.k_arg12 m c = m ((c.tc : Thread nD τ).loc main_arg12) from V_main_arg12 m c]
  rw [show Cert.KernelIdeal.Host.k_arg13 m c = m ((c.tc : Thread nD τ).loc main_arg13) from V_main_arg13 m c]
  rw [show Cert.KernelIdeal.Host.k_arg14 m c = m ((c.tc : Thread nD τ).loc main_arg14) from V_main_arg14 m c]
  rw [show Cert.KernelIdeal.Host.k_arg15 m c = m ((c.tc : Thread nD τ).loc main_arg15) from V_main_arg15 m c]
  rw [show Cert.KernelIdeal.Host.k_arg16 m c = m ((c.tc : Thread nD τ).loc main_arg16) from V_main_arg16 m c]
  rw [show Cert.KernelIdeal.Host.k_arg17 m c = m ((c.tc : Thread nD τ).loc main_arg17) from V_main_arg17 m c]
  rw [show Cert.KernelIdeal.Host.k_arg18 m c = m ((c.tc : Thread nD τ).loc main_arg18) from V_main_arg18 m c]
  rw [show Cert.KernelIdeal.Host.k_arg19 m c = m ((c.tc : Thread nD τ).loc main_arg19) from V_main_arg19 m c]
  rw [show Cert.KernelIdeal.Host.k_arg20 m c = m ((c.tc : Thread nD τ).loc main_arg20) from V_main_arg20 m c]
  exact H

/-- On finite float arguments the ideal kernel and the ideal reference end with the same result. -/
theorem algebraic : Cert.algebraic_KernelIdeal_ReferenceIdeal_pre_finite := by
  intro m ρ m' ρ' hpre hagree
  choose a ha using fun c => args m hpre c
  refine ⟨fun c => Cert.KernelIdeal.Tail.G (a c), ?_, ?_⟩
  · exact (θ_run Cert.KernelIdeal.defs _ _).mono
      (fun r h c => ⟨(h c).1.trans (Cert.KernelIdeal.Tail.final (kholds m c (a c) (ha c))), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    have H : Cert.ReferenceIdeal.Ref.RHolds (launchContents m' c) (a c) := by
      have hc := ha c
      obtain ⟨e0, e1, e2, e3, e4, e5, e6, e7, e8, e9, e10, e11, e12, e13, e14, e15, e16, e17, e18, e19, e20⟩ := hagree c
      rw [← e0, ← e1, ← e2, ← e3, ← e4, ← e5, ← e6, ← e7, ← e8, ← e9, ← e10, ← e11, ← e12, ← e13, ← e14, ← e15, ← e16, ← e17, ← e18, ← e19, ← e20] at hc
      exact hc
    funext y
    obtain ⟨i, j, rfl⟩ : ∃ (i : Fin 10000) (j : Fin 10), y = ix2 i j := ⟨y 0, y 1, eq_ix2 y⟩
    exact Cert.ReferenceIdeal.Ref.result_val H i j

theorem claim : Cert.Claim := ⟨Cert.Kernel.Gen.facts, Cert.KernelIdeal.Gen.facts, Cert.ReferenceIdeal.Gen.facts, Cert.Pre_finite.facts,
  frame_p, frame_pi, fun m ρ _ => frame_pi m ρ trivial, frame_ri, fun m ρ _ => frame_ri m ρ trivial, trivial, algebraic⟩

end Cert.Proof

end
end
